-- ==== Defs.lean ====
def Pre_Cross (m : (ℓ : Loc Cert.Cross.nD Cert.Cross.τ Cert.Cross.sig) → Buf (Elt Bits) ℓ) : Prop :=
  True

def Pre_CrossIdeal (m : (ℓ : Loc Cert.CrossIdeal.nD Cert.CrossIdeal.τ Cert.CrossIdeal.sig) → Buf (Elt Ideal) ℓ) : Prop :=
  True

def Pre_CrossRefIdeal (m : (ℓ : Loc Cert.CrossRefIdeal.nD Cert.CrossRefIdeal.τ Cert.CrossRefIdeal.sig) → Buf (Elt Ideal) ℓ) : Prop :=
  True

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpRefIdeal (m : (ℓ : Loc Cert.MlpRefIdeal.nD Cert.MlpRefIdeal.τ Cert.MlpRefIdeal.sig) → Buf (Elt Ideal) ℓ) : Prop :=
  True

def Pre_Mlpf (m : (ℓ : Loc Cert.Mlpf.nD Cert.Mlpf.τ Cert.Mlpf.sig) → Buf (Elt Bits) ℓ) : Prop :=
  True

def Pre_MlpfIdeal (m : (ℓ : Loc Cert.MlpfIdeal.nD Cert.MlpfIdeal.τ Cert.MlpfIdeal.sig) → Buf (Elt Ideal) ℓ) : Prop :=
  True

def Pre_MlpfRefIdeal (m : (ℓ : Loc Cert.MlpfRefIdeal.nD Cert.MlpfRefIdeal.τ Cert.MlpfRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Memkv (m : (ℓ : Loc Cert.Memkv.nD Cert.Memkv.τ Cert.Memkv.sig) → Buf (Elt Bits) ℓ) : Prop :=
  True

def Pre_MemkvIdeal (m : (ℓ : Loc Cert.MemkvIdeal.nD Cert.MemkvIdeal.τ Cert.MemkvIdeal.sig) → Buf (Elt Ideal) ℓ) : Prop :=
  True

def Pre_MemkvRefIdeal (m : (ℓ : Loc Cert.MemkvRefIdeal.nD Cert.MemkvRefIdeal.τ Cert.MemkvRefIdeal.sig) → Buf (Elt Ideal) ℓ) : Prop :=
  True

def Pre_Gla (m : (ℓ : Loc Cert.Gla.nD Cert.Gla.τ Cert.Gla.sig) → Buf (Elt Bits) ℓ) : Prop :=
  True

def Pre_GlaIdeal (m : (ℓ : Loc Cert.GlaIdeal.nD Cert.GlaIdeal.τ Cert.GlaIdeal.sig) → Buf (Elt Ideal) ℓ) : Prop :=
  True

def Pre_GlaRefIdeal (m : (ℓ : Loc Cert.GlaRefIdeal.nD Cert.GlaRefIdeal.τ Cert.GlaRefIdeal.sig) → Buf (Elt Ideal) ℓ) : Prop :=
  True

def quiescent_Cross [hCross : Cert.Cross.Facts] : Prop :=
  ∀ (m : (ℓ : Loc Cert.Cross.nD Cert.Cross.τ Cert.Cross.sig) → Buf (Elt Bits) ℓ) (g : Dev Cert.Cross.nD → PrngReg), Pre_Cross m →
    θ_run (Cert.Cross.defs (F := Bits)) (onTc (τ := Cert.Cross.τ) (Cert.Cross.main (F := Bits))) ⟨m, fun _ => 0, g⟩ (fun r => (∀ c : Dev Cert.Cross.nD,
      r.2.mem ((c.tc : Thread Cert.Cross.nD Cert.Cross.τ).loc Cert.Cross.main_arg0) = m ((c.tc : Thread Cert.Cross.nD Cert.Cross.τ).loc Cert.Cross.main_arg0)
      ∧ r.2.mem ((c.tc : Thread Cert.Cross.nD Cert.Cross.τ).loc Cert.Cross.main_arg1) = m ((c.tc : Thread Cert.Cross.nD Cert.Cross.τ).loc Cert.Cross.main_arg1)
      ∧ r.2.mem ((c.tc : Thread Cert.Cross.nD Cert.Cross.τ).loc Cert.Cross.main_arg2) = m ((c.tc : Thread Cert.Cross.nD Cert.Cross.τ).loc Cert.Cross.main_arg2)
      ∧ r.2.mem ((c.tc : Thread Cert.Cross.nD Cert.Cross.τ).loc Cert.Cross.main_arg3) = m ((c.tc : Thread Cert.Cross.nD Cert.Cross.τ).loc Cert.Cross.main_arg3)
      ∧ r.2.mem ((c.tc : Thread Cert.Cross.nD Cert.Cross.τ).loc Cert.Cross.main_arg4) = m ((c.tc : Thread Cert.Cross.nD Cert.Cross.τ).loc Cert.Cross.main_arg4)
      ∧ r.2.mem ((c.tc : Thread Cert.Cross.nD Cert.Cross.τ).loc Cert.Cross.main_arg5) = m ((c.tc : Thread Cert.Cross.nD Cert.Cross.τ).loc Cert.Cross.main_arg5))
      ∧ r.2.sem = fun _ => 0)

def quiescent_CrossIdeal [hCrossIdeal : Cert.CrossIdeal.Facts] : Prop :=
  ∀ (m : (ℓ : Loc Cert.CrossIdeal.nD Cert.CrossIdeal.τ Cert.CrossIdeal.sig) → Buf (Elt Ideal) ℓ) (g : Dev Cert.CrossIdeal.nD → PrngReg), Pre_CrossIdeal m →
    θ_run (Cert.CrossIdeal.defs (F := Ideal)) (onTc (τ := Cert.CrossIdeal.τ) (Cert.CrossIdeal.main (F := Ideal))) ⟨m, fun _ => 0, g⟩ (fun r => (∀ c : Dev Cert.CrossIdeal.nD,
      r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
      ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
      ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
      ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
      ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
      ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2)
      ∧ r.2.mem ((c.tc : Thread Cert.CrossRefIdeal.nD Cert.CrossRefIdeal.τ).loc Cert.CrossRefIdeal.main_arg3) = m ((c.tc : Thread Cert.CrossRefIdeal.nD Cert.CrossRefIdeal.τ).loc Cert.CrossRefIdeal.main_arg3)
      ∧ r.2.mem ((c.tc : Thread Cert.CrossRefIdeal.nD Cert.CrossRefIdeal.τ).loc Cert.CrossRefIdeal.main_arg4) = m ((c.tc : Thread Cert.CrossRefIdeal.nD Cert.CrossRefIdeal.τ).loc Cert.CrossRefIdeal.main_arg4)
      ∧ r.2.mem ((c.tc : Thread Cert.CrossRefIdeal.nD Cert.CrossRefIdeal.τ).loc Cert.CrossRefIdeal.main_arg5) = m ((c.tc : Thread Cert.CrossRefIdeal.nD Cert.CrossRefIdeal.τ).loc Cert.CrossRefIdeal.main_arg5))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4))
      ∧ r.2.sem = fun _ => 0)

def quiescent_Mlpf [hMlpf : Cert.Mlpf.Facts] : Prop :=
  ∀ (m : (ℓ : Loc Cert.Mlpf.nD Cert.Mlpf.τ Cert.Mlpf.sig) → Buf (Elt Bits) ℓ) (g : Dev Cert.Mlpf.nD → PrngReg), Pre_Mlpf m →
    θ_run (Cert.Mlpf.defs (F := Bits)) (onTc (τ := Cert.Mlpf.τ) (Cert.Mlpf.main (F := Bits))) ⟨m, fun _ => 0, g⟩ (fun r => (∀ c : Dev Cert.Mlpf.nD,
      r.2.mem ((c.tc : Thread Cert.Mlpf.nD Cert.Mlpf.τ).loc Cert.Mlpf.main_arg0) = m ((c.tc : Thread Cert.Mlpf.nD Cert.Mlpf.τ).loc Cert.Mlpf.main_arg0)
      ∧ r.2.mem ((c.tc : Thread Cert.Mlpf.nD Cert.Mlpf.τ).loc Cert.Mlpf.main_arg1) = m ((c.tc : Thread Cert.Mlpf.nD Cert.Mlpf.τ).loc Cert.Mlpf.main_arg1)
      ∧ r.2.mem ((c.tc : Thread Cert.Mlpf.nD Cert.Mlpf.τ).loc Cert.Mlpf.main_arg2) = m ((c.tc : Thread Cert.Mlpf.nD Cert.Mlpf.τ).loc Cert.Mlpf.main_arg2)
      ∧ r.2.mem ((c.tc : Thread Cert.Mlpf.nD Cert.Mlpf.τ).loc Cert.Mlpf.main_arg3) = m ((c.tc : Thread Cert.Mlpf.nD Cert.Mlpf.τ).loc Cert.Mlpf.main_arg3)
      ∧ r.2.mem ((c.tc : Thread Cert.Mlpf.nD Cert.Mlpf.τ).loc Cert.Mlpf.main_arg4) = m ((c.tc : Thread Cert.Mlpf.nD Cert.Mlpf.τ).loc Cert.Mlpf.main_arg4))
      ∧ r.2.sem = fun _ => 0)

def quiescent_MlpfIdeal [hMlpfIdeal : Cert.MlpfIdeal.Facts] : Prop :=
  ∀ (m : (ℓ : Loc Cert.MlpfIdeal.nD Cert.MlpfIdeal.τ Cert.MlpfIdeal.sig) → Buf (Elt Ideal) ℓ) (g : Dev Cert.MlpfIdeal.nD → PrngReg), Pre_MlpfIdeal m →
    θ_run (Cert.MlpfIdeal.defs (F := Ideal)) (onTc (τ := Cert.MlpfIdeal.τ) (Cert.MlpfIdeal.main (F := Ideal))) ⟨m, fun _ => 0, g⟩ (fun r => (∀ c : Dev Cert.MlpfIdeal.nD,
      r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
      ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
      ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
      ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3)
      ∧ r.2.mem ((c.tc : Thread Cert.MlpfIdeal.nD Cert.MlpfIdeal.τ).loc Cert.MlpfIdeal.main_arg4) = m ((c.tc : Thread Cert.MlpfIdeal.nD Cert.MlpfIdeal.τ).loc Cert.MlpfIdeal.main_arg4))
      ∧ r.2.sem = fun _ => 0)

def quiescent_MlpfRefIdeal [hMlpfRefIdeal : Cert.MlpfRefIdeal.Facts] : Prop :=
  ∀ (m : (ℓ : Loc Cert.MlpfRefIdeal.nD Cert.MlpfRefIdeal.τ Cert.MlpfRefIdeal.sig) → Buf (Elt Ideal) ℓ) (g : Dev Cert.MlpfRefIdeal.nD → PrngReg), Pre_MlpfRefIdeal m →
    θ_run (Cert.MlpfRefIdeal.defs (F := Ideal)) (onTc (τ := Cert.MlpfRefIdeal.τ) (Cert.MlpfRefIdeal.main (F := Ideal))) ⟨m, fun _ => 0, g⟩ (fun r => (∀ c : Dev Cert.MlpfRefIdeal.nD,
      r.2.mem ((c.tc : Thread Cert.MlpfRefIdeal.nD Cert.MlpfRefIdeal.τ).loc Cert.MlpfRefIdeal.main_arg0) = m ((c.tc : Thread Cert.MlpfRefIdeal.nD Cert.MlpfRefIdeal.τ).loc Cert.MlpfRefIdeal.main_arg0)
      ∧ r.2.mem ((c.tc : Thread Cert.MlpfRefIdeal.nD Cert.MlpfRefIdeal.τ).loc Cert.MlpfRefIdeal.main_arg1) = m ((c.tc : Thread Cert.MlpfRefIdeal.nD Cert.MlpfRefIdeal.τ).loc Cert.MlpfRefIdeal.main_arg1)
      ∧ r.2.mem ((c.tc : Thread Cert.MlpfRefIdeal.nD Cert.MlpfRefIdeal.τ).loc Cert.MlpfRefIdeal.main_arg2) = m ((c.tc : Thread Cert.MlpfRefIdeal.nD Cert.MlpfRefIdeal.τ).loc Cert.MlpfRefIdeal.main_arg2)
      ∧ r.2.mem ((c.tc : Thread Cert.MlpfRefIdeal.nD Cert.MlpfRefIdeal.τ).loc Cert.MlpfRefIdeal.main_arg3) = m ((c.tc : Thread Cert.MlpfRefIdeal.nD Cert.MlpfRefIdeal.τ).loc Cert.MlpfRefIdeal.main_arg3)
      ∧ r.2.mem ((c.tc : Thread Cert.MlpfRefIdeal.nD Cert.MlpfRefIdeal.τ).loc Cert.MlpfRefIdeal.main_arg4) = m ((c.tc : Thread Cert.MlpfRefIdeal.nD Cert.MlpfRefIdeal.τ).loc Cert.MlpfRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Memkv [hMemkv : Cert.Memkv.Facts] : Prop :=
  ∀ (m : (ℓ : Loc Cert.Memkv.nD Cert.Memkv.τ Cert.Memkv.sig) → Buf (Elt Bits) ℓ) (g : Dev Cert.Memkv.nD → PrngReg), Pre_Memkv m →
    θ_run (Cert.Memkv.defs (F := Bits)) (onTc (τ := Cert.Memkv.τ) (Cert.Memkv.main (F := Bits))) ⟨m, fun _ => 0, g⟩ (fun r => (∀ c : Dev Cert.Memkv.nD,
      r.2.mem ((c.tc : Thread Cert.Memkv.nD Cert.Memkv.τ).loc Cert.Memkv.main_arg0) = m ((c.tc : Thread Cert.Memkv.nD Cert.Memkv.τ).loc Cert.Memkv.main_arg0)
      ∧ r.2.mem ((c.tc : Thread Cert.Memkv.nD Cert.Memkv.τ).loc Cert.Memkv.main_arg1) = m ((c.tc : Thread Cert.Memkv.nD Cert.Memkv.τ).loc Cert.Memkv.main_arg1)
      ∧ r.2.mem ((c.tc : Thread Cert.Memkv.nD Cert.Memkv.τ).loc Cert.Memkv.main_arg2) = m ((c.tc : Thread Cert.Memkv.nD Cert.Memkv.τ).loc Cert.Memkv.main_arg2))
      ∧ r.2.sem = fun _ => 0)

def quiescent_MemkvIdeal [hMemkvIdeal : Cert.MemkvIdeal.Facts] : Prop :=
  ∀ (m : (ℓ : Loc Cert.MemkvIdeal.nD Cert.MemkvIdeal.τ Cert.MemkvIdeal.sig) → Buf (Elt Ideal) ℓ) (g : Dev Cert.MemkvIdeal.nD → PrngReg), Pre_MemkvIdeal m →
    θ_run (Cert.MemkvIdeal.defs (F := Ideal)) (onTc (τ := Cert.MemkvIdeal.τ) (Cert.MemkvIdeal.main (F := Ideal))) ⟨m, fun _ => 0, g⟩ (fun r => (∀ c : Dev Cert.MemkvIdeal.nD,
      r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
      ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
      ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ r.2.sem = fun _ => 0)

def quiescent_MemkvRefIdeal [hMemkvRefIdeal : Cert.MemkvRefIdeal.Facts] : Prop :=
  ∀ (m : (ℓ : Loc Cert.MemkvRefIdeal.nD Cert.MemkvRefIdeal.τ Cert.MemkvRefIdeal.sig) → Buf (Elt Ideal) ℓ) (g : Dev Cert.MemkvRefIdeal.nD → PrngReg), Pre_MemkvRefIdeal m →
    θ_run (Cert.MemkvRefIdeal.defs (F := Ideal)) (onTc (τ := Cert.MemkvRefIdeal.τ) (Cert.MemkvRefIdeal.main (F := Ideal))) ⟨m, fun _ => 0, g⟩ (fun r => (∀ c : Dev Cert.MemkvRefIdeal.nD,
      r.2.mem ((c.tc : Thread Cert.MemkvRefIdeal.nD Cert.MemkvRefIdeal.τ).loc Cert.MemkvRefIdeal.main_arg0) = m ((c.tc : Thread Cert.MemkvRefIdeal.nD Cert.MemkvRefIdeal.τ).loc Cert.MemkvRefIdeal.main_arg0)
      ∧ r.2.mem ((c.tc : Thread Cert.MemkvRefIdeal.nD Cert.MemkvRefIdeal.τ).loc Cert.MemkvRefIdeal.main_arg1) = m ((c.tc : Thread Cert.MemkvRefIdeal.nD Cert.MemkvRefIdeal.τ).loc Cert.MemkvRefIdeal.main_arg1)
      ∧ r.2.mem ((c.tc : Thread Cert.MemkvRefIdeal.nD Cert.MemkvRefIdeal.τ).loc Cert.MemkvRefIdeal.main_arg2) = m ((c.tc : Thread Cert.MemkvRefIdeal.nD Cert.MemkvRefIdeal.τ).loc Cert.MemkvRefIdeal.main_arg2))
      ∧ r.2.sem = fun _ => 0)

def quiescent_Gla [hGla : Cert.Gla.Facts] : Prop :=
  ∀ (m : (ℓ : Loc Cert.Gla.nD Cert.Gla.τ Cert.Gla.sig) → Buf (Elt Bits) ℓ) (g : Dev Cert.Gla.nD → PrngReg), Pre_Gla m →
    θ_run (Cert.Gla.defs (F := Bits)) (onTc (τ := Cert.Gla.τ) (Cert.Gla.main (F := Bits))) ⟨m, fun _ => 0, g⟩ (fun r => (∀ c : Dev Cert.Gla.nD,
      r.2.mem ((c.tc : Thread Cert.Gla.nD Cert.Gla.τ).loc Cert.Gla.main_arg0) = m ((c.tc : Thread Cert.Gla.nD Cert.Gla.τ).loc Cert.Gla.main_arg0)
      ∧ r.2.mem ((c.tc : Thread Cert.Gla.nD Cert.Gla.τ).loc Cert.Gla.main_arg1) = m ((c.tc : Thread Cert.Gla.nD Cert.Gla.τ).loc Cert.Gla.main_arg1)
      ∧ r.2.mem ((c.tc : Thread Cert.Gla.nD Cert.Gla.τ).loc Cert.Gla.main_arg2) = m ((c.tc : Thread Cert.Gla.nD Cert.Gla.τ).loc Cert.Gla.main_arg2)
      ∧ r.2.mem ((c.tc : Thread Cert.Gla.nD Cert.Gla.τ).loc Cert.Gla.main_arg3) = m ((c.tc : Thread Cert.Gla.nD Cert.Gla.τ).loc Cert.Gla.main_arg3))
      ∧ r.2.sem = fun _ => 0)

def quiescent_GlaIdeal [hGlaIdeal : Cert.GlaIdeal.Facts] : Prop :=
  ∀ (m : (ℓ : Loc Cert.GlaIdeal.nD Cert.GlaIdeal.τ Cert.GlaIdeal.sig) → Buf (Elt Ideal) ℓ) (g : Dev Cert.GlaIdeal.nD → PrngReg), Pre_GlaIdeal m →
    θ_run (Cert.GlaIdeal.defs (F := Ideal)) (onTc (τ := Cert.GlaIdeal.τ) (Cert.GlaIdeal.main (F := Ideal))) ⟨m, fun _ => 0, g⟩ (fun r => (∀ c : Dev Cert.GlaIdeal.nD,
      r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
      ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
      ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
      ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ r.2.sem = fun _ => 0)

def quiescent_GlaRefIdeal [hGlaRefIdeal : Cert.GlaRefIdeal.Facts] : Prop :=
  ∀ (m : (ℓ : Loc Cert.GlaRefIdeal.nD Cert.GlaRefIdeal.τ Cert.GlaRefIdeal.sig) → Buf (Elt Ideal) ℓ) (g : Dev Cert.GlaRefIdeal.nD → PrngReg), Pre_GlaRefIdeal m →
    θ_run (Cert.GlaRefIdeal.defs (F := Ideal)) (onTc (τ := Cert.GlaRefIdeal.τ) (Cert.GlaRefIdeal.main (F := Ideal))) ⟨m, fun _ => 0, g⟩ (fun r => (∀ c : Dev Cert.GlaRefIdeal.nD,
      r.2.mem ((c.tc : Thread Cert.GlaRefIdeal.nD Cert.GlaRefIdeal.τ).loc Cert.GlaRefIdeal.main_arg0) = m ((c.tc : Thread Cert.GlaRefIdeal.nD Cert.GlaRefIdeal.τ).loc Cert.GlaRefIdeal.main_arg0)
      ∧ r.2.mem ((c.tc : Thread Cert.GlaRefIdeal.nD Cert.GlaRefIdeal.τ).loc Cert.GlaRefIdeal.main_arg1) = m ((c.tc : Thread Cert.GlaRefIdeal.nD Cert.GlaRefIdeal.τ).loc Cert.GlaRefIdeal.main_arg1)
      ∧ r.2.mem ((c.tc : Thread Cert.GlaRefIdeal.nD Cert.GlaRefIdeal.τ).loc Cert.GlaRefIdeal.main_arg2) = m ((c.tc : Thread Cert.GlaRefIdeal.nD Cert.GlaRefIdeal.τ).loc Cert.GlaRefIdeal.main_arg2)
      ∧ r.2.mem ((c.tc : Thread Cert.GlaRefIdeal.nD Cert.GlaRefIdeal.τ).loc Cert.GlaRefIdeal.main_arg3) = m ((c.tc : Thread Cert.GlaRefIdeal.nD Cert.GlaRefIdeal.τ).loc Cert.GlaRefIdeal.main_arg3))
      ∧ r.2.sem = fun _ => 0)

def preserves_Cross_CrossIdeal : Prop :=
  True

def algebraic_CrossIdeal_CrossRefIdeal [hCrossIdeal : Cert.CrossIdeal.Facts] [hCrossRefIdeal : Cert.CrossRefIdeal.Facts] : Prop :=
  ∀ (m : (ℓ : Loc Cert.CrossIdeal.nD Cert.CrossIdeal.τ Cert.CrossIdeal.sig) → Buf (Elt Ideal) ℓ) (g : Dev Cert.CrossIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossIdeal m →
    (∀ c : Dev Cert.CrossIdeal.nD,
      m' ((c.tc : Thread Cert.CrossRefIdeal.nD Cert.CrossRefIdeal.τ).loc Cert.CrossRefIdeal.main_arg0) = m ((c.tc : Thread Cert.CrossIdeal.nD Cert.CrossIdeal.τ).loc Cert.CrossIdeal.main_arg0)
      ∧ m' ((c.tc : Thread Cert.CrossRefIdeal.nD Cert.CrossRefIdeal.τ).loc Cert.CrossRefIdeal.main_arg1) = m ((c.tc : Thread Cert.CrossIdeal.nD Cert.CrossIdeal.τ).loc Cert.CrossIdeal.main_arg1)
      ∧ m' ((c.tc : Thread Cert.CrossRefIdeal.nD Cert.CrossRefIdeal.τ).loc Cert.CrossRefIdeal.main_arg2) = m ((c.tc : Thread Cert.CrossIdeal.nD Cert.CrossIdeal.τ).loc Cert.CrossIdeal.main_arg2)
      ∧ m' ((c.tc : Thread Cert.CrossRefIdeal.nD Cert.CrossRefIdeal.τ).loc Cert.CrossRefIdeal.main_arg3) = m ((c.tc : Thread Cert.CrossIdeal.nD Cert.CrossIdeal.τ).loc Cert.CrossIdeal.main_arg3)
      ∧ m' ((c.tc : Thread Cert.CrossRefIdeal.nD Cert.CrossRefIdeal.τ).loc Cert.CrossRefIdeal.main_arg4) = m ((c.tc : Thread Cert.CrossIdeal.nD Cert.CrossIdeal.τ).loc Cert.CrossIdeal.main_arg4)
      ∧ m' ((c.tc : Thread Cert.CrossRefIdeal.nD Cert.CrossRefIdeal.τ).loc Cert.CrossRefIdeal.main_arg5) = m ((c.tc : Thread Cert.CrossIdeal.nD Cert.CrossIdeal.τ).loc Cert.CrossIdeal.main_arg5)) →
    ∃ (v0 : (c : Dev Cert.CrossIdeal.nD) → Buf (Elt Ideal) ((c.tc : Thread Cert.CrossIdeal.nD Cert.CrossIdeal.τ).loc Cert.CrossIdeal.main_v1)),
      θ_run (Cert.CrossIdeal.defs (F := Ideal)) (onTc (τ := Cert.CrossIdeal.τ) (Cert.CrossIdeal.main (F := Ideal))) ⟨m, fun _ => 0, g⟩ (fun r => ∀ c : Dev Cert.CrossIdeal.nD,
          r.2.mem ((c.tc : Thread Cert.CrossIdeal.nD Cert.CrossIdeal.τ).loc Cert.CrossIdeal.main_v1) = v0 c
          ∧ r.2.mem ((c.tc : Thread Cert.CrossIdeal.nD Cert.CrossIdeal.τ).loc Cert.CrossIdeal.main_arg0) = m ((c.tc : Thread Cert.CrossIdeal.nD Cert.CrossIdeal.τ).loc Cert.CrossIdeal.main_arg0)
          ∧ r.2.mem ((c.tc : Thread Cert.CrossIdeal.nD Cert.CrossIdeal.τ).loc Cert.CrossIdeal.main_arg1) = m ((c.tc : Thread Cert.CrossIdeal.nD Cert.CrossIdeal.τ).loc Cert.CrossIdeal.main_arg1)
          ∧ r.2.mem ((c.tc : Thread Cert.CrossIdeal.nD Cert.CrossIdeal.τ).loc Cert.CrossIdeal.main_arg2) = m ((c.tc : Thread Cert.CrossIdeal.nD Cert.CrossIdeal.τ).loc Cert.CrossIdeal.main_arg2)
          ∧ r.2.mem ((c.tc : Thread Cert.CrossIdeal.nD Cert.CrossIdeal.τ).loc Cert.CrossIdeal.main_arg3) = m ((c.tc : Thread Cert.CrossIdeal.nD Cert.CrossIdeal.τ).loc Cert.CrossIdeal.main_arg3)
          ∧ r.2.mem ((c.tc : Thread Cert.CrossIdeal.nD Cert.CrossIdeal.τ).loc Cert.CrossIdeal.main_arg4) = m ((c.tc : Thread Cert.CrossIdeal.nD Cert.CrossIdeal.τ).loc Cert.CrossIdeal.main_arg4)
          ∧ r.2.mem ((c.tc : Thread Cert.CrossIdeal.nD Cert.CrossIdeal.τ).loc Cert.CrossIdeal.main_arg5) = m ((c.tc : Thread Cert.CrossIdeal.nD Cert.CrossIdeal.τ).loc Cert.CrossIdeal.main_arg5))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v39) = v0 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2)
          ∧ r.2.mem ((c.tc : Thread Cert.CrossRefIdeal.nD Cert.CrossRefIdeal.τ).loc Cert.CrossRefIdeal.main_arg3) = m' ((c.tc : Thread Cert.CrossRefIdeal.nD Cert.CrossRefIdeal.τ).loc Cert.CrossRefIdeal.main_arg3)
          ∧ r.2.mem ((c.tc : Thread Cert.CrossRefIdeal.nD Cert.CrossRefIdeal.τ).loc Cert.CrossRefIdeal.main_arg4) = m' ((c.tc : Thread Cert.CrossRefIdeal.nD Cert.CrossRefIdeal.τ).loc Cert.CrossRefIdeal.main_arg4)
          ∧ r.2.mem ((c.tc : Thread Cert.CrossRefIdeal.nD Cert.CrossRefIdeal.τ).loc Cert.CrossRefIdeal.main_arg5) = m' ((c.tc : Thread Cert.CrossRefIdeal.nD Cert.CrossRefIdeal.τ).loc Cert.CrossRefIdeal.main_arg5))

def preserves_Mlp_MlpIdeal : Prop :=
  True

def algebraic_MlpIdeal_MlpRefIdeal [hMlpIdeal : Cert.MlpIdeal.Facts] [hMlpRefIdeal : Cert.MlpRefIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)) →
    ∃ (v0 : (c : Dev Cert.MlpIdeal.nD) → Buf (Elt Ideal) ((c.tc : Thread Cert.MlpIdeal.nD Cert.MlpIdeal.τ).loc Cert.MlpIdeal.main_v2)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v2) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v19) = v0 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4))

def preserves_Mlpf_MlpfIdeal : Prop :=
  True

def algebraic_MlpfIdeal_MlpfRefIdeal [hMlpfIdeal : Cert.MlpfIdeal.Facts] [hMlpfRefIdeal : Cert.MlpfRefIdeal.Facts] : Prop :=
  ∀ (m : (ℓ : Loc Cert.MlpfIdeal.nD Cert.MlpfIdeal.τ Cert.MlpfIdeal.sig) → Buf (Elt Ideal) ℓ) (g : Dev Cert.MlpfIdeal.nD → PrngReg)
    (m' : (ℓ : Loc Cert.MlpfRefIdeal.nD Cert.MlpfRefIdeal.τ Cert.MlpfRefIdeal.sig) → Buf (Elt Ideal) ℓ) (g' : Dev Cert.MlpfRefIdeal.nD → PrngReg), Pre_MlpfIdeal m →
    (∀ c : Dev Cert.MlpfIdeal.nD,
      m' ((c.tc : Thread Cert.MlpfRefIdeal.nD Cert.MlpfRefIdeal.τ).loc Cert.MlpfRefIdeal.main_arg0) = m ((c.tc : Thread Cert.MlpfIdeal.nD Cert.MlpfIdeal.τ).loc Cert.MlpfIdeal.main_arg0)
      ∧ m' ((c.tc : Thread Cert.MlpfRefIdeal.nD Cert.MlpfRefIdeal.τ).loc Cert.MlpfRefIdeal.main_arg1) = m ((c.tc : Thread Cert.MlpfIdeal.nD Cert.MlpfIdeal.τ).loc Cert.MlpfIdeal.main_arg1)
      ∧ m' ((c.tc : Thread Cert.MlpfRefIdeal.nD Cert.MlpfRefIdeal.τ).loc Cert.MlpfRefIdeal.main_arg2) = m ((c.tc : Thread Cert.MlpfIdeal.nD Cert.MlpfIdeal.τ).loc Cert.MlpfIdeal.main_arg2)
      ∧ m' ((c.tc : Thread Cert.MlpfRefIdeal.nD Cert.MlpfRefIdeal.τ).loc Cert.MlpfRefIdeal.main_arg3) = m ((c.tc : Thread Cert.MlpfIdeal.nD Cert.MlpfIdeal.τ).loc Cert.MlpfIdeal.main_arg3)
      ∧ m' ((c.tc : Thread Cert.MlpfRefIdeal.nD Cert.MlpfRefIdeal.τ).loc Cert.MlpfRefIdeal.main_arg4) = m ((c.tc : Thread Cert.MlpfIdeal.nD Cert.MlpfIdeal.τ).loc Cert.MlpfIdeal.main_arg4)) →
    ∃ (v0 : (c : Dev Cert.MlpfIdeal.nD) → Buf (Elt Ideal) ((c.tc : Thread Cert.MlpfIdeal.nD Cert.MlpfIdeal.τ).loc Cert.MlpfIdeal.main_v2)),
      θ_run (Cert.MlpfIdeal.defs (F := Ideal)) (onTc (τ := Cert.MlpfIdeal.τ) (Cert.MlpfIdeal.main (F := Ideal))) ⟨m, fun _ => 0, g⟩ (fun r => ∀ c : Dev Cert.MlpfIdeal.nD,
          r.2.mem ((c.tc : Thread Cert.MlpfIdeal.nD Cert.MlpfIdeal.τ).loc Cert.MlpfIdeal.main_v2) = v0 c
          ∧ r.2.mem ((c.tc : Thread Cert.MlpfIdeal.nD Cert.MlpfIdeal.τ).loc Cert.MlpfIdeal.main_arg0) = m ((c.tc : Thread Cert.MlpfIdeal.nD Cert.MlpfIdeal.τ).loc Cert.MlpfIdeal.main_arg0)
          ∧ r.2.mem ((c.tc : Thread Cert.MlpfIdeal.nD Cert.MlpfIdeal.τ).loc Cert.MlpfIdeal.main_arg1) = m ((c.tc : Thread Cert.MlpfIdeal.nD Cert.MlpfIdeal.τ).loc Cert.MlpfIdeal.main_arg1)
          ∧ r.2.mem ((c.tc : Thread Cert.MlpfIdeal.nD Cert.MlpfIdeal.τ).loc Cert.MlpfIdeal.main_arg2) = m ((c.tc : Thread Cert.MlpfIdeal.nD Cert.MlpfIdeal.τ).loc Cert.MlpfIdeal.main_arg2)
          ∧ r.2.mem ((c.tc : Thread Cert.MlpfIdeal.nD Cert.MlpfIdeal.τ).loc Cert.MlpfIdeal.main_arg3) = m ((c.tc : Thread Cert.MlpfIdeal.nD Cert.MlpfIdeal.τ).loc Cert.MlpfIdeal.main_arg3)
          ∧ r.2.mem ((c.tc : Thread Cert.MlpfIdeal.nD Cert.MlpfIdeal.τ).loc Cert.MlpfIdeal.main_arg4) = m ((c.tc : Thread Cert.MlpfIdeal.nD Cert.MlpfIdeal.τ).loc Cert.MlpfIdeal.main_arg4))
      ∧ θ_run (Cert.MlpfRefIdeal.defs (F := Ideal)) (onTc (τ := Cert.MlpfRefIdeal.τ) (Cert.MlpfRefIdeal.main (F := Ideal))) ⟨m', fun _ => 0, g'⟩ (fun r => ∀ c : Dev Cert.MlpfRefIdeal.nD,
          r.2.mem ((c.tc : Thread Cert.MlpfRefIdeal.nD Cert.MlpfRefIdeal.τ).loc Cert.MlpfRefIdeal.main_v32) = v0 c
          ∧ r.2.mem ((c.tc : Thread Cert.MlpfRefIdeal.nD Cert.MlpfRefIdeal.τ).loc Cert.MlpfRefIdeal.main_arg0) = m' ((c.tc : Thread Cert.MlpfRefIdeal.nD Cert.MlpfRefIdeal.τ).loc Cert.MlpfRefIdeal.main_arg0)
          ∧ r.2.mem ((c.tc : Thread Cert.MlpfRefIdeal.nD Cert.MlpfRefIdeal.τ).loc Cert.MlpfRefIdeal.main_arg1) = m' ((c.tc : Thread Cert.MlpfRefIdeal.nD Cert.MlpfRefIdeal.τ).loc Cert.MlpfRefIdeal.main_arg1)
          ∧ r.2.mem ((c.tc : Thread Cert.MlpfRefIdeal.nD Cert.MlpfRefIdeal.τ).loc Cert.MlpfRefIdeal.main_arg2) = m' ((c.tc : Thread Cert.MlpfRefIdeal.nD Cert.MlpfRefIdeal.τ).loc Cert.MlpfRefIdeal.main_arg2)
          ∧ r.2.mem ((c.tc : Thread Cert.MlpfRefIdeal.nD Cert.MlpfRefIdeal.τ).loc Cert.MlpfRefIdeal.main_arg3) = m' ((c.tc : Thread Cert.MlpfRefIdeal.nD Cert.MlpfRefIdeal.τ).loc Cert.MlpfRefIdeal.main_arg3)
          ∧ r.2.mem ((c.tc : Thread Cert.MlpfRefIdeal.nD Cert.MlpfRefIdeal.τ).loc Cert.MlpfRefIdeal.main_arg4) = m' ((c.tc : Thread Cert.MlpfRefIdeal.nD Cert.MlpfRefIdeal.τ).loc Cert.MlpfRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v23) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v14)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v14) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v28) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Memkv_MemkvIdeal : Prop :=
  True

def algebraic_MemkvIdeal_MemkvRefIdeal [hMemkvIdeal : Cert.MemkvIdeal.Facts] [hMemkvRefIdeal : Cert.MemkvRefIdeal.Facts] : Prop :=
  ∀ (m : (ℓ : Loc Cert.MemkvIdeal.nD Cert.MemkvIdeal.τ Cert.MemkvIdeal.sig) → Buf (Elt Ideal) ℓ) (g : Dev Cert.MemkvIdeal.nD → PrngReg)
    (m' : (ℓ : Loc Cert.MemkvRefIdeal.nD Cert.MemkvRefIdeal.τ Cert.MemkvRefIdeal.sig) → Buf (Elt Ideal) ℓ) (g' : Dev Cert.MemkvRefIdeal.nD → PrngReg), Pre_MemkvIdeal m →
    (∀ c : Dev Cert.MemkvIdeal.nD,
      m' ((c.tc : Thread Cert.MemkvRefIdeal.nD Cert.MemkvRefIdeal.τ).loc Cert.MemkvRefIdeal.main_arg0) = m ((c.tc : Thread Cert.MemkvIdeal.nD Cert.MemkvIdeal.τ).loc Cert.MemkvIdeal.main_arg0)
      ∧ m' ((c.tc : Thread Cert.MemkvRefIdeal.nD Cert.MemkvRefIdeal.τ).loc Cert.MemkvRefIdeal.main_arg1) = m ((c.tc : Thread Cert.MemkvIdeal.nD Cert.MemkvIdeal.τ).loc Cert.MemkvIdeal.main_arg1)
      ∧ m' ((c.tc : Thread Cert.MemkvRefIdeal.nD Cert.MemkvRefIdeal.τ).loc Cert.MemkvRefIdeal.main_arg2) = m ((c.tc : Thread Cert.MemkvIdeal.nD Cert.MemkvIdeal.τ).loc Cert.MemkvIdeal.main_arg2)) →
    ∃ (v0 : (c : Dev Cert.MemkvIdeal.nD) → Buf (Elt Ideal) ((c.tc : Thread Cert.MemkvIdeal.nD Cert.MemkvIdeal.τ).loc Cert.MemkvIdeal.main_v2_0)) (v1 : (c : Dev Cert.MemkvIdeal.nD) → Buf (Elt Ideal) ((c.tc : Thread Cert.MemkvIdeal.nD Cert.MemkvIdeal.τ).loc Cert.MemkvIdeal.main_v2_1)),
      θ_run (Cert.MemkvIdeal.defs (F := Ideal)) (onTc (τ := Cert.MemkvIdeal.τ) (Cert.MemkvIdeal.main (F := Ideal))) ⟨m, fun _ => 0, g⟩ (fun r => ∀ c : Dev Cert.MemkvIdeal.nD,
          r.2.mem ((c.tc : Thread Cert.MemkvIdeal.nD Cert.MemkvIdeal.τ).loc Cert.MemkvIdeal.main_v2_0) = v0 c
          ∧ r.2.mem ((c.tc : Thread Cert.MemkvIdeal.nD Cert.MemkvIdeal.τ).loc Cert.MemkvIdeal.main_v2_1) = v1 c
          ∧ r.2.mem ((c.tc : Thread Cert.MemkvIdeal.nD Cert.MemkvIdeal.τ).loc Cert.MemkvIdeal.main_arg0) = m ((c.tc : Thread Cert.MemkvIdeal.nD Cert.MemkvIdeal.τ).loc Cert.MemkvIdeal.main_arg0)
          ∧ r.2.mem ((c.tc : Thread Cert.MemkvIdeal.nD Cert.MemkvIdeal.τ).loc Cert.MemkvIdeal.main_arg1) = m ((c.tc : Thread Cert.MemkvIdeal.nD Cert.MemkvIdeal.τ).loc Cert.MemkvIdeal.main_arg1)
          ∧ r.2.mem ((c.tc : Thread Cert.MemkvIdeal.nD Cert.MemkvIdeal.τ).loc Cert.MemkvIdeal.main_arg2) = m ((c.tc : Thread Cert.MemkvIdeal.nD Cert.MemkvIdeal.τ).loc Cert.MemkvIdeal.main_arg2))
      ∧ θ_run (Cert.MemkvRefIdeal.defs (F := Ideal)) (onTc (τ := Cert.MemkvRefIdeal.τ) (Cert.MemkvRefIdeal.main (F := Ideal))) ⟨m', fun _ => 0, g'⟩ (fun r => ∀ c : Dev Cert.MemkvRefIdeal.nD,
          r.2.mem ((c.tc : Thread Cert.MemkvRefIdeal.nD Cert.MemkvRefIdeal.τ).loc Cert.MemkvRefIdeal.main_v16) = v0 c
          ∧ r.2.mem ((c.tc : Thread Cert.MemkvRefIdeal.nD Cert.MemkvRefIdeal.τ).loc Cert.MemkvRefIdeal.main_v17) = v1 c
          ∧ r.2.mem ((c.tc : Thread Cert.MemkvRefIdeal.nD Cert.MemkvRefIdeal.τ).loc Cert.MemkvRefIdeal.main_arg0) = m' ((c.tc : Thread Cert.MemkvRefIdeal.nD Cert.MemkvRefIdeal.τ).loc Cert.MemkvRefIdeal.main_arg0)
          ∧ r.2.mem ((c.tc : Thread Cert.MemkvRefIdeal.nD Cert.MemkvRefIdeal.τ).loc Cert.MemkvRefIdeal.main_arg1) = m' ((c.tc : Thread Cert.MemkvRefIdeal.nD Cert.MemkvRefIdeal.τ).loc Cert.MemkvRefIdeal.main_arg1)
          ∧ r.2.mem ((c.tc : Thread Cert.MemkvRefIdeal.nD Cert.MemkvRefIdeal.τ).loc Cert.MemkvRefIdeal.main_arg2) = m' ((c.tc : Thread Cert.MemkvRefIdeal.nD Cert.MemkvRefIdeal.τ).loc Cert.MemkvRefIdeal.main_arg2))

def preserves_Gla_GlaIdeal : Prop :=
  True

def algebraic_GlaIdeal_GlaRefIdeal [hGlaIdeal : Cert.GlaIdeal.Facts] [hGlaRefIdeal : Cert.GlaRefIdeal.Facts] : Prop :=
  ∀ (m : (ℓ : Loc Cert.GlaIdeal.nD Cert.GlaIdeal.τ Cert.GlaIdeal.sig) → Buf (Elt Ideal) ℓ) (g : Dev Cert.GlaIdeal.nD → PrngReg)
    (m' : (ℓ : Loc Cert.GlaRefIdeal.nD Cert.GlaRefIdeal.τ Cert.GlaRefIdeal.sig) → Buf (Elt Ideal) ℓ) (g' : Dev Cert.GlaRefIdeal.nD → PrngReg), Pre_GlaIdeal m →
    (∀ c : Dev Cert.GlaIdeal.nD,
      m' ((c.tc : Thread Cert.GlaRefIdeal.nD Cert.GlaRefIdeal.τ).loc Cert.GlaRefIdeal.main_arg0) = m ((c.tc : Thread Cert.GlaIdeal.nD Cert.GlaIdeal.τ).loc Cert.GlaIdeal.main_arg0)
      ∧ m' ((c.tc : Thread Cert.GlaRefIdeal.nD Cert.GlaRefIdeal.τ).loc Cert.GlaRefIdeal.main_arg1) = m ((c.tc : Thread Cert.GlaIdeal.nD Cert.GlaIdeal.τ).loc Cert.GlaIdeal.main_arg1)
      ∧ m' ((c.tc : Thread Cert.GlaRefIdeal.nD Cert.GlaRefIdeal.τ).loc Cert.GlaRefIdeal.main_arg2) = m ((c.tc : Thread Cert.GlaIdeal.nD Cert.GlaIdeal.τ).loc Cert.GlaIdeal.main_arg2)
      ∧ m' ((c.tc : Thread Cert.GlaRefIdeal.nD Cert.GlaRefIdeal.τ).loc Cert.GlaRefIdeal.main_arg3) = m ((c.tc : Thread Cert.GlaIdeal.nD Cert.GlaIdeal.τ).loc Cert.GlaIdeal.main_arg3)) →
    ∃ (v0 : (c : Dev Cert.GlaIdeal.nD) → Buf (Elt Ideal) ((c.tc : Thread Cert.GlaIdeal.nD Cert.GlaIdeal.τ).loc Cert.GlaIdeal.main_v9)),
      θ_run (Cert.GlaIdeal.defs (F := Ideal)) (onTc (τ := Cert.GlaIdeal.τ) (Cert.GlaIdeal.main (F := Ideal))) ⟨m, fun _ => 0, g⟩ (fun r => ∀ c : Dev Cert.GlaIdeal.nD,
          r.2.mem ((c.tc : Thread Cert.GlaIdeal.nD Cert.GlaIdeal.τ).loc Cert.GlaIdeal.main_v9) = v0 c
          ∧ r.2.mem ((c.tc : Thread Cert.GlaIdeal.nD Cert.GlaIdeal.τ).loc Cert.GlaIdeal.main_arg0) = m ((c.tc : Thread Cert.GlaIdeal.nD Cert.GlaIdeal.τ).loc Cert.GlaIdeal.main_arg0)
          ∧ r.2.mem ((c.tc : Thread Cert.GlaIdeal.nD Cert.GlaIdeal.τ).loc Cert.GlaIdeal.main_arg1) = m ((c.tc : Thread Cert.GlaIdeal.nD Cert.GlaIdeal.τ).loc Cert.GlaIdeal.main_arg1)
          ∧ r.2.mem ((c.tc : Thread Cert.GlaIdeal.nD Cert.GlaIdeal.τ).loc Cert.GlaIdeal.main_arg2) = m ((c.tc : Thread Cert.GlaIdeal.nD Cert.GlaIdeal.τ).loc Cert.GlaIdeal.main_arg2)
          ∧ r.2.mem ((c.tc : Thread Cert.GlaIdeal.nD Cert.GlaIdeal.τ).loc Cert.GlaIdeal.main_arg3) = m ((c.tc : Thread Cert.GlaIdeal.nD Cert.GlaIdeal.τ).loc Cert.GlaIdeal.main_arg3))
      ∧ θ_run (Cert.GlaRefIdeal.defs (F := Ideal)) (onTc (τ := Cert.GlaRefIdeal.τ) (Cert.GlaRefIdeal.main (F := Ideal))) ⟨m', fun _ => 0, g'⟩ (fun r => ∀ c : Dev Cert.GlaRefIdeal.nD,
          r.2.mem ((c.tc : Thread Cert.GlaRefIdeal.nD Cert.GlaRefIdeal.τ).loc Cert.GlaRefIdeal.main_v56) = v0 c
          ∧ r.2.mem ((c.tc : Thread Cert.GlaRefIdeal.nD Cert.GlaRefIdeal.τ).loc Cert.GlaRefIdeal.main_arg0) = m' ((c.tc : Thread Cert.GlaRefIdeal.nD Cert.GlaRefIdeal.τ).loc Cert.GlaRefIdeal.main_arg0)
          ∧ r.2.mem ((c.tc : Thread Cert.GlaRefIdeal.nD Cert.GlaRefIdeal.τ).loc Cert.GlaRefIdeal.main_arg1) = m' ((c.tc : Thread Cert.GlaRefIdeal.nD Cert.GlaRefIdeal.τ).loc Cert.GlaRefIdeal.main_arg1)
          ∧ r.2.mem ((c.tc : Thread Cert.GlaRefIdeal.nD Cert.GlaRefIdeal.τ).loc Cert.GlaRefIdeal.main_arg2) = m' ((c.tc : Thread Cert.GlaRefIdeal.nD Cert.GlaRefIdeal.τ).loc Cert.GlaRefIdeal.main_arg2)
          ∧ r.2.mem ((c.tc : Thread Cert.GlaRefIdeal.nD Cert.GlaRefIdeal.τ).loc Cert.GlaRefIdeal.main_arg3) = m' ((c.tc : Thread Cert.GlaRefIdeal.nD Cert.GlaRefIdeal.τ).loc Cert.GlaRefIdeal.main_arg3))

def Claim : Prop :=
  ∃ (hCross : Cert.Cross.Facts) (hCrossIdeal : Cert.CrossIdeal.Facts) (hCrossRefIdeal : Cert.CrossRefIdeal.Facts) (hMlp : Cert.Mlp.Facts) (hMlpIdeal : Cert.MlpIdeal.Facts) (hMlpRefIdeal : Cert.MlpRefIdeal.Facts) (hMlpf : Cert.Mlpf.Facts) (hMlpfIdeal : Cert.MlpfIdeal.Facts) (hMlpfRefIdeal : Cert.MlpfRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hMemkv : Cert.Memkv.Facts) (hMemkvIdeal : Cert.MemkvIdeal.Facts) (hMemkvRefIdeal : Cert.MemkvRefIdeal.Facts) (hGla : Cert.Gla.Facts) (hGlaIdeal : Cert.GlaIdeal.Facts) (hGlaRefIdeal : Cert.GlaRefIdeal.Facts),
    quiescent_Cross (hCross := hCross)
    ∧ quiescent_CrossIdeal (hCrossIdeal := hCrossIdeal)
    ∧ quiescent_CrossRefIdeal (hCrossRefIdeal := hCrossRefIdeal)
    ∧ quiescent_Mlp (hMlp := hMlp)
    ∧ quiescent_MlpIdeal (hMlpIdeal := hMlpIdeal)
    ∧ quiescent_MlpRefIdeal (hMlpRefIdeal := hMlpRefIdeal)
    ∧ quiescent_Mlpf (hMlpf := hMlpf)
    ∧ quiescent_MlpfIdeal (hMlpfIdeal := hMlpfIdeal)
    ∧ quiescent_MlpfRefIdeal (hMlpfRefIdeal := hMlpfRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Memkv (hMemkv := hMemkv)
    ∧ quiescent_MemkvIdeal (hMemkvIdeal := hMemkvIdeal)
    ∧ quiescent_MemkvRefIdeal (hMemkvRefIdeal := hMemkvRefIdeal)
    ∧ quiescent_Gla (hGla := hGla)
    ∧ quiescent_GlaIdeal (hGlaIdeal := hGlaIdeal)
    ∧ quiescent_GlaRefIdeal (hGlaRefIdeal := hGlaRefIdeal)
    ∧ preserves_Cross_CrossIdeal
    ∧ algebraic_CrossIdeal_CrossRefIdeal (hCrossIdeal := hCrossIdeal) (hCrossRefIdeal := hCrossRefIdeal)
    ∧ preserves_Mlp_MlpIdeal
    ∧ algebraic_MlpIdeal_MlpRefIdeal (hMlpIdeal := hMlpIdeal) (hMlpRefIdeal := hMlpRefIdeal)
    ∧ preserves_Mlpf_MlpfIdeal
    ∧ algebraic_MlpfIdeal_MlpfRefIdeal (hMlpfIdeal := hMlpfIdeal) (hMlpfRefIdeal := hMlpfRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Memkv_MemkvIdeal
    ∧ algebraic_MemkvIdeal_MemkvRefIdeal (hMemkvIdeal := hMemkvIdeal) (hMemkvRefIdeal := hMemkvRefIdeal)
    ∧ preserves_Gla_GlaIdeal
    ∧ algebraic_GlaIdeal_GlaRefIdeal (hGlaIdeal := hGlaIdeal) (hGlaRefIdeal := hGlaRefIdeal)
-- ==== Cross.lean ====
abbrev S8x4096x1024 : Shape := ⟨3, ![8, 4096, 1024]⟩
abbrev S1024 : Shape := ⟨1, ![1024]⟩
abbrev S8x256x1024 : Shape := ⟨3, ![8, 256, 1024]⟩
abbrev S1024x1024 : Shape := ⟨2, ![1024, 1024]⟩
abbrev S1x1024 : Shape := ⟨2, ![1, 1024]⟩
abbrev S1x1024x1024 : Shape := ⟨3, ![1, 1024, 1024]⟩
abbrev S1x256x1024 : Shape := ⟨3, ![1, 256, 1024]⟩
abbrev S1024x1 : Shape := ⟨2, ![1024, 1]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 8
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x1024, .bf16⟩
  | .hbm, ⟨3, _⟩ => ⟨S8x256x1024, .bf16⟩
  | .hbm, ⟨4, _⟩ => ⟨S1024x1024, .bf16⟩
  | .hbm, ⟨5, _⟩ => ⟨S1024x1024, .bf16⟩
  | .hbm, ⟨6, _⟩ => ⟨S1x1024, .f32⟩
  | .hbm, ⟨7, _⟩ => ⟨S8x4096x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024, .f32⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== CrossRefIdeal.lean ====
abbrev S8x4096x1024 : Shape := ⟨3, ![8, 4096, 1024]⟩
abbrev S1024 : Shape := ⟨1, ![1024]⟩
abbrev S8x256x1024 : Shape := ⟨3, ![8, 256, 1024]⟩
abbrev S1024x1024 : Shape := ⟨2, ![1024, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x4x256 : Shape := ⟨4, ![8, 4096, 4, 256]⟩
abbrev S8x256x4x256 : Shape := ⟨4, ![8, 256, 4, 256]⟩
abbrev S8x4x4096x256 : Shape := ⟨4, ![8, 4, 4096, 256]⟩
abbrev S8x4x4096 : Shape := ⟨3, ![8, 4, 4096]⟩
abbrev S8x4x4096x1 : Shape := ⟨4, ![8, 4, 4096, 1]⟩
abbrev S8x4x256x4096 : Shape := ⟨4, ![8, 4, 256, 4096]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S8x256x1024, .bf16⟩
  | .hbm, ⟨3, _⟩ => ⟨S8x256x1024, .bf16⟩
  | .hbm, ⟨4, _⟩ => ⟨S1024x1024, .bf16⟩
  | .hbm, ⟨5, _⟩ => ⟨S1024x1024, .bf16⟩
  | .hbm, ⟨6, _⟩ => ⟨S8x4096x1024, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x1024, .f32⟩
  | .hbm, ⟨18, _⟩ => ⟨S8x4096x1024, .f32⟩
  | .hbm, ⟨19, _⟩ => ⟨S1x1x1024, .f32⟩
  | .hbm, ⟨20, _⟩ => ⟨S8x4096x1024, .f32⟩
  | .hbm, ⟨21, _⟩ => ⟨S8x4096x1024, .f32⟩
  | .hbm, ⟨22, _⟩ => ⟨S1024x1024, .f32⟩
  | .hbm, ⟨23, _⟩ => ⟨S8x4096x1024, .f32⟩
  | .hbm, ⟨24, _⟩ => ⟨S8x4096x4x256, .f32⟩
  | .hbm, ⟨25, _⟩ => ⟨S8x256x1024, .f32⟩
  | .hbm, ⟨26, _⟩ => ⟨S8x256x4x256, .f32⟩
  | .hbm, ⟨27, _⟩ => ⟨S8x256x1024, .f32⟩
  | .hbm, ⟨28, _⟩ => ⟨S8x256x4x256, .f32⟩
  | .hbm, ⟨29, _⟩ => ⟨S8x4x4096x256, .f32⟩
  | .hbm, ⟨30, _⟩ => ⟨S_, .f32⟩
  | .hbm, ⟨31, _⟩ => ⟨S8x4x4096x256, .f32⟩
  | .hbm, ⟨32, _⟩ => ⟨S8x4x4096x256, .f32⟩
  | .hbm, ⟨33, _⟩ => ⟨S_, .f32⟩
  | .hbm, ⟨34, _⟩ => ⟨S8x4x4096, .f32⟩
  | .hbm, ⟨35, _⟩ => ⟨S_, .f32⟩
  | .hbm, ⟨36, _⟩ => ⟨S8x4x4096, .f32⟩
  | .hbm, ⟨37, _⟩ => ⟨S8x4x4096, .f32⟩
  | .hbm, ⟨38, _⟩ => ⟨S8x4x4096x1, .f32⟩
  | .hbm, ⟨39, _⟩ => ⟨S8x4x4096x256, .f32⟩
  | .hbm, ⟨40, _⟩ => ⟨S8x4x4096x256, .f32⟩
  | .hbm, ⟨41, _⟩ => ⟨S8x4x4096x256, .f32⟩
  | .hbm, ⟨42, _⟩ => ⟨S_, .f32⟩
  | .hbm, ⟨43, _⟩ => ⟨S8x4x4096, .f32⟩
  | .hbm, ⟨44, _⟩ => ⟨S8x4x4096x1, .f32⟩
  | .hbm, ⟨45, _⟩ => ⟨S8x4x4096x256, .f32⟩
  | .hbm, ⟨46, _⟩ => ⟨S8x4x4096x256, .f32⟩
  | .hbm, ⟨47, _⟩ => ⟨S8x4x256x4096, .f32⟩
  | .hbm, ⟨48, _⟩ => ⟨S8x4096x4x256, .f32⟩
  | .hbm, ⟨49, _⟩ => ⟨S8x4096x1024, .f32⟩
  | .hbm, ⟨50, _⟩ => ⟨S1024x1024, .f32⟩
  | .hbm, ⟨51, _⟩ => ⟨S8x4096x1024, .f32⟩
  | .hbm, ⟨52, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== Mlp.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 30
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S4096x1024, .f32⟩
  | .hbm, ⟨28, _⟩ => ⟨S32768x1024, .f32⟩
  | .hbm, ⟨29, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Mlpf.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 8
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpfRefIdeal.lean ====
abbrev S32768x1024 : Shape := ⟨2, ![32768, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x4096 : Shape := ⟨2, ![32768, 4096]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x4096, .bf16⟩
  | .hbm, ⟨3, _⟩ => ⟨S4096x1024, .bf16⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x4096, .f32⟩
  | .hbm, ⟨22, _⟩ => ⟨S32768x4096, .f32⟩
  | .hbm, ⟨23, _⟩ => ⟨S_, .f32⟩
  | .hbm, ⟨24, _⟩ => ⟨S32768x4096, .f32⟩
  | .hbm, ⟨25, _⟩ => ⟨S32768x4096, .f32⟩
  | .hbm, ⟨26, _⟩ => ⟨S32768x4096, .f32⟩
  | .hbm, ⟨27, _⟩ => ⟨S4096x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S_, .f32⟩
  | .hbm, ⟨35, _⟩ => ⟨S32768x1, .f32⟩
  | .hbm, ⟨36, _⟩ => ⟨S32768x1, .f32⟩
  | .hbm, ⟨37, _⟩ => ⟨S_, .f32⟩
  | .hbm, ⟨38, _⟩ => ⟨S32768x1, .f32⟩
  | .hbm, ⟨39, _⟩ => ⟨S32768x1, .f32⟩
  | .hbm, ⟨40, _⟩ => ⟨S32768x1, .f32⟩
  | .hbm, ⟨41, _⟩ => ⟨S32768x1024, .f32⟩
  | .hbm, ⟨42, _⟩ => ⟨S32768x1024, .f32⟩
  | .hbm, ⟨43, _⟩ => ⟨S1x1024, .f32⟩
  | .hbm, ⟨44, _⟩ => ⟨S32768x1024, .f32⟩
  | .hbm, ⟨45, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Merge.lean ====
abbrev S32768x1024 : Shape := ⟨2, ![32768, 1024]⟩
abbrev S32768x10240 : Shape := ⟨2, ![32768, 10240]⟩
abbrev S32768x512 : Shape := ⟨2, ![32768, 512]⟩
abbrev S3x512x1024 : Shape := ⟨3, ![3, 512, 1024]⟩
abbrev S1024x1024 : Shape := ⟨2, ![1024, 1024]⟩
abbrev S1024x3072 : Shape := ⟨2, ![1024, 3072]⟩
abbrev S1024x512 : Shape := ⟨2, ![1024, 512]⟩
abbrev S1x512x1024 : Shape := ⟨3, ![1, 512, 1024]⟩
abbrev S512x1024 : Shape := ⟨2, ![512, 1024]⟩

abbrev nBuf : Space → Nat
  | .hbm => 8
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S32768x10240, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S3x512x1024, .bf16⟩
  | .hbm, ⟨6, _⟩ => ⟨S1024x1024, .bf16⟩
  | .hbm, ⟨7, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .bf16⟩
  | .local _ .vmem, ⟨3, _⟩ => ⟨S1024x3072, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S3x512x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S32768x1024 : Shape := ⟨2, ![32768, 1024]⟩
abbrev S32768x10240 : Shape := ⟨2, ![32768, 10240]⟩
abbrev S32768x512 : Shape := ⟨2, ![32768, 512]⟩
abbrev S3x512x1024 : Shape := ⟨3, ![3, 512, 1024]⟩
abbrev S1024x1024 : Shape := ⟨2, ![1024, 1024]⟩
abbrev S32768x1x512 : Shape := ⟨3, ![32768, 1, 512]⟩
abbrev S32768x3x512 : Shape := ⟨3, ![32768, 3, 512]⟩
abbrev S32768x3072 : Shape := ⟨2, ![32768, 3072]⟩
abbrev S32768x3x1024 : Shape := ⟨3, ![32768, 3, 1024]⟩
abbrev S_ : Shape := ⟨0, ![]⟩
abbrev S3x1024x32768 : Shape := ⟨3, ![3, 1024, 32768]⟩

abbrev nBuf : Space → Nat
  | .hbm => 34
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x10240, .bf16⟩
  | .hbm, ⟨2, _⟩ => ⟨S32768x512, .bf16⟩
  | .hbm, ⟨3, _⟩ => ⟨S32768x512, .bf16⟩
  | .hbm, ⟨4, _⟩ => ⟨S32768x512, .bf16⟩
  | .hbm, ⟨5, _⟩ => ⟨S3x512x1024, .bf16⟩
  | .hbm, ⟨6, _⟩ => ⟨S1024x1024, .bf16⟩
  | .hbm, ⟨7, _⟩ => ⟨S32768x512, .f32⟩
  | .hbm, ⟨8, _⟩ => ⟨S32768x512, .f32⟩
  | .hbm, ⟨9, _⟩ => ⟨S32768x512, .f32⟩
  | .hbm, ⟨10, _⟩ => ⟨S32768x1x512, .f32⟩
  | .hbm, ⟨11, _⟩ => ⟨S32768x1x512, .f32⟩
  | .hbm, ⟨12, _⟩ => ⟨S32768x1x512, .f32⟩
  | .hbm, ⟨13, _⟩ => ⟨S32768x3x512, .f32⟩
  | .hbm, ⟨14, _⟩ => ⟨S32768x3072, .bf16⟩
  | .hbm, ⟨15, _⟩ => ⟨S32768x3072, .f32⟩
  | .hbm, ⟨16, _⟩ => ⟨S32768x3x1024, .f32⟩
  | .hbm, ⟨17, _⟩ => ⟨S32768x3x1024, .f32⟩
  | .hbm, ⟨18, _⟩ => ⟨S32768x3x1024, .f32⟩
  | .hbm, ⟨19, _⟩ => ⟨S_, .f32⟩
  | .hbm, ⟨20, _⟩ => ⟨S32768x3x1024, .f32⟩
  | .hbm, ⟨21, _⟩ => ⟨S32768x3x1024, .f32⟩
  | .hbm, ⟨22, _⟩ => ⟨S_, .f32⟩
  | .hbm, ⟨23, _⟩ => ⟨S32768x3x1024, .f32⟩
  | .hbm, ⟨24, _⟩ => ⟨S32768x3x1024, .f32⟩
  | .hbm, ⟨25, _⟩ => ⟨S3x512x1024, .f32⟩
  | .hbm, ⟨26, _⟩ => ⟨S3x1024x32768, .f32⟩
  | .hbm, ⟨27, _⟩ => ⟨S32768x3x1024, .f32⟩
  | .hbm, ⟨28, _⟩ => ⟨S32768x3x1024, .f32⟩
  | .hbm, ⟨29, _⟩ => ⟨S_, .f32⟩
  | .hbm, ⟨30, _⟩ => ⟨S32768x1024, .f32⟩
  | .hbm, ⟨31, _⟩ => ⟨S1024x1024, .f32⟩
  | .hbm, ⟨32, _⟩ => ⟨S32768x1024, .f32⟩
  | .hbm, ⟨33, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== Proj.lean ====
abbrev S32768x1024 : Shape := ⟨2, ![32768, 1024]⟩
abbrev S1024 : Shape := ⟨1, ![1024]⟩
abbrev S2x1024x9744 : Shape := ⟨3, ![2, 1024, 9744]⟩
abbrev S1x1024 : Shape := ⟨2, ![1, 1024]⟩
abbrev S2x1024x512 : Shape := ⟨3, ![2, 1024, 512]⟩
abbrev S2x1024x256 : Shape := ⟨3, ![2, 1024, 256]⟩
abbrev S2x1024x16 : Shape := ⟨3, ![2, 1024, 16]⟩
abbrev S2x1024x1536 : Shape := ⟨3, ![2, 1024, 1536]⟩
abbrev S2x1024x3072 : Shape := ⟨3, ![2, 1024, 3072]⟩
abbrev S_ : Shape := ⟨0, ![]⟩
abbrev S2x1024x496 : Shape := ⟨3, ![2, 1024, 496]⟩
abbrev S2x1024x10240 : Shape := ⟨3, ![2, 1024, 10240]⟩
abbrev S32768x10240 : Shape := ⟨2, ![32768, 10240]⟩
abbrev S1024x1024 : Shape := ⟨2, ![1024, 1024]⟩
abbrev S1x1024x2560 : Shape := ⟨3, ![1, 1024, 2560]⟩
abbrev S1024x2560 : Shape := ⟨2, ![1024, 2560]⟩
abbrev S1024x1 : Shape := ⟨2, ![1024, 1]⟩
abbrev S1x1024x512 : Shape := ⟨3, ![1, 1024, 512]⟩
abbrev S1024x512 : Shape := ⟨2, ![1024, 512]⟩

abbrev nBuf : Space → Nat
  | .hbm => 19
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x9744, .f32⟩
  | .hbm, ⟨3, _⟩ => ⟨S1x1024, .f32⟩
  | .hbm, ⟨4, _⟩ => ⟨S2x1024x9744, .bf16⟩
  | .hbm, ⟨5, _⟩ => ⟨S2x1024x512, .bf16⟩
  | .hbm, ⟨6, _⟩ => ⟨S2x1024x256, .bf16⟩
  | .hbm, ⟨7, _⟩ => ⟨S2x1024x256, .bf16⟩
  | .hbm, ⟨8, _⟩ => ⟨S2x1024x512, .bf16⟩
  | .hbm, ⟨9, _⟩ => ⟨S2x1024x16, .bf16⟩
  | .hbm, ⟨10, _⟩ => ⟨S2x1024x512, .bf16⟩
  | .hbm, ⟨11, _⟩ => ⟨S2x1024x1536, .bf16⟩
  | .hbm, ⟨12, _⟩ => ⟨S2x1024x1536, .bf16⟩
  | .hbm, ⟨13, _⟩ => ⟨S2x1024x1536, .bf16⟩
  | .hbm, ⟨14, _⟩ => ⟨S2x1024x3072, .bf16⟩
  | .hbm, ⟨15, _⟩ => ⟨S_, .bf16⟩
  | .hbm, ⟨16, _⟩ => ⟨S2x1024x496, .bf16⟩
  | .hbm, ⟨17, _⟩ => ⟨S2x1024x10240, .bf16⟩
  | .hbm, ⟨18, _⟩ => ⟨S32768x10240, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x2560, .bf16⟩
  | .local _ .vmem, ⟨4, _⟩ => ⟨S1x1024x2560, .bf16⟩
  | .local _ .vmem, ⟨5, _⟩ => ⟨S1024x2560, .bf16⟩
  | .local _ .vmem, ⟨6, _⟩ => ⟨S1024x2560, .bf16⟩
  | .local _ .vmem, ⟨7, _⟩ => ⟨S1024x1024, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2560 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S32768x1024 : Shape := ⟨2, ![32768, 1024]⟩
abbrev S1024 : Shape := ⟨1, ![1024]⟩
abbrev S2x1024x9744 : Shape := ⟨3, ![2, 1024, 9744]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S1x1024x9744 : Shape := ⟨3, ![1, 1024, 9744]⟩
abbrev S1024x9744 : Shape := ⟨2, ![1024, 9744]⟩
abbrev S32768x9744 : Shape := ⟨2, ![32768, 9744]⟩
abbrev S32768x512 : Shape := ⟨2, ![32768, 512]⟩
abbrev S32768x256 : Shape := ⟨2, ![32768, 256]⟩
abbrev S32768x16 : Shape := ⟨2, ![32768, 16]⟩
abbrev S32768x1536 : Shape := ⟨2, ![32768, 1536]⟩
abbrev S32768x3072 : Shape := ⟨2, ![32768, 3072]⟩
abbrev S32768x496 : Shape := ⟨2, ![32768, 496]⟩
abbrev S32768x10240 : Shape := ⟨2, ![32768, 10240]⟩

abbrev nBuf : Space → Nat
  | .hbm => 36
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S2x1024x9744, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S1x1024x9744, .f32⟩
  | .hbm, ⟨20, _⟩ => ⟨S1024x9744, .f32⟩
  | .hbm, ⟨21, _⟩ => ⟨S32768x9744, .f32⟩
  | .hbm, ⟨22, _⟩ => ⟨S32768x512, .f32⟩
  | .hbm, ⟨23, _⟩ => ⟨S32768x256, .f32⟩
  | .hbm, ⟨24, _⟩ => ⟨S32768x256, .f32⟩
  | .hbm, ⟨25, _⟩ => ⟨S32768x512, .f32⟩
  | .hbm, ⟨26, _⟩ => ⟨S32768x16, .f32⟩
  | .hbm, ⟨27, _⟩ => ⟨S32768x512, .f32⟩
  | .hbm, ⟨28, _⟩ => ⟨S32768x1536, .f32⟩
  | .hbm, ⟨29, _⟩ => ⟨S32768x1536, .f32⟩
  | .hbm, ⟨30, _⟩ => ⟨S32768x1536, .f32⟩
  | .hbm, ⟨31, _⟩ => ⟨S32768x3072, .f32⟩
  | .hbm, ⟨32, _⟩ => ⟨S_, .f32⟩
  | .hbm, ⟨33, _⟩ => ⟨S32768x496, .f32⟩
  | .hbm, ⟨34, _⟩ => ⟨S32768x10240, .f32⟩
  | .hbm, ⟨35, _⟩ => ⟨S32768x10240, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Memkv.lean ====
abbrev S8x256x1024 : Shape := ⟨3, ![8, 256, 1024]⟩
abbrev S1024 : Shape := ⟨1, ![1024]⟩
abbrev S1024x2048 : Shape := ⟨2, ![1024, 2048]⟩
abbrev S1x1024 : Shape := ⟨2, ![1, 1024]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 7
  | .vmem => 8
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S1x1024, .f32⟩
  | .hbm, ⟨4, _⟩ => ⟨S1024x2048, .bf16⟩
  | .hbm, ⟨5, _⟩ => ⟨S8x256x1024, .bf16⟩
  | .hbm, ⟨6, _⟩ => ⟨S8x256x1024, .bf16⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1024x2048, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x256x1024, .bf16⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MemkvRefIdeal.lean ====
abbrev S8x256x1024 : Shape := ⟨3, ![8, 256, 1024]⟩
abbrev S1024 : Shape := ⟨1, ![1024]⟩
abbrev S1024x2048 : Shape := ⟨2, ![1024, 2048]⟩
abbrev S_ : Shape := ⟨0, ![]⟩
abbrev S8x256 : Shape := ⟨2, ![8, 256]⟩
abbrev S8x256x1 : Shape := ⟨3, ![8, 256, 1]⟩
abbrev S1x1x1024 : Shape := ⟨3, ![1, 1, 1024]⟩
abbrev S8x256x2048 : Shape := ⟨3, ![8, 256, 2048]⟩

abbrev nBuf : Space → Nat
  | .hbm => 24
  | .vmem => 0
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S1024x2048, .f32⟩
  | .hbm, ⟨3, _⟩ => ⟨S8x256x1024, .f32⟩
  | .hbm, ⟨4, _⟩ => ⟨S_, .f32⟩
  | .hbm, ⟨5, _⟩ => ⟨S8x256, .f32⟩
  | .hbm, ⟨6, _⟩ => ⟨S8x256x1, .f32⟩
  | .hbm, ⟨7, _⟩ => ⟨S_, .f32⟩
  | .hbm, ⟨8, _⟩ => ⟨S8x256x1, .f32⟩
  | .hbm, ⟨9, _⟩ => ⟨S8x256x1, .f32⟩
  | .hbm, ⟨10, _⟩ => ⟨S_, .f32⟩
  | .hbm, ⟨11, _⟩ => ⟨S8x256x1, .f32⟩
  | .hbm, ⟨12, _⟩ => ⟨S8x256x1, .f32⟩
  | .hbm, ⟨13, _⟩ => ⟨S8x256x1, .f32⟩
  | .hbm, ⟨14, _⟩ => ⟨S8x256x1024, .f32⟩
  | .hbm, ⟨15, _⟩ => ⟨S8x256x1024, .f32⟩
  | .hbm, ⟨16, _⟩ => ⟨S1x1x1024, .f32⟩
  | .hbm, ⟨17, _⟩ => ⟨S8x256x1024, .f32⟩
  | .hbm, ⟨18, _⟩ => ⟨S8x256x1024, .f32⟩
  | .hbm, ⟨19, _⟩ => ⟨S8x256x2048, .f32⟩
  | .hbm, ⟨20, _⟩ => ⟨S8x256x1024, .f32⟩
  | .hbm, ⟨21, _⟩ => ⟨S8x256x1024, .f32⟩
  | .hbm, ⟨22, _⟩ => ⟨S8x256x1024, .bf16⟩
  | .hbm, ⟨23, _⟩ => ⟨S8x256x1024, .bf16⟩
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Gla.lean ====
abbrev S8x4096x10240 : Shape := ⟨3, ![8, 4096, 10240]⟩
abbrev S16x256 : Shape := ⟨2, ![16, 256]⟩
abbrev S256 : Shape := ⟨1, ![256]⟩
abbrev S128 : Shape := ⟨1, ![128]⟩
abbrev S_ : Shape := ⟨0, ![]⟩
abbrev S128x256 : Shape := ⟨2, ![128, 256]⟩
abbrev S1 : Shape := ⟨1, ![1]⟩
abbrev S1x256 : Shape := ⟨2, ![1, 256]⟩
abbrev S1x128 : Shape := ⟨2, ![1, 128]⟩
abbrev S4x128 : Shape := ⟨2, ![4, 128]⟩
abbrev S512 : Shape := ⟨1, ![512]⟩
abbrev S1x512 : Shape := ⟨2, ![1, 512]⟩
abbrev S8x4096x512 : Shape := ⟨3, ![8, 4096, 512]⟩
abbrev S1x512x256 : Shape := ⟨3, ![1, 512, 256]⟩
abbrev S1x512x512 : Shape := ⟨3, ![1, 512, 512]⟩
abbrev S1x512x128 : Shape := ⟨3, ![1, 512, 128]⟩
abbrev S512x128 : Shape := ⟨2, ![512, 128]⟩
abbrev S8x64x256 : Shape := ⟨3, ![8, 64, 256]⟩
abbrev S8x64x512 : Shape := ⟨3, ![8, 64, 512]⟩
abbrev S8x512x128 : Shape := ⟨3, ![8, 512, 128]⟩
abbrev S8x8x256 : Shape := ⟨3, ![8, 8, 256]⟩
abbrev S64x64 : Shape := ⟨2, ![64, 64]⟩
abbrev S256x256 : Shape := ⟨2, ![256, 256]⟩
abbrev S256x512 : Shape := ⟨2, ![256, 512]⟩
abbrev S128x128 : Shape := ⟨2, ![128, 128]⟩
abbrev S64x256 : Shape := ⟨2, ![64, 256]⟩
abbrev S1x64x256 : Shape := ⟨3, ![1, 64, 256]⟩
abbrev S1x64x512 : Shape := ⟨3, ![1, 64, 512]⟩
abbrev S64x512 : Shape := ⟨2, ![64, 512]⟩
abbrev S1x64x128 : Shape := ⟨3, ![1, 64, 128]⟩
abbrev S64x128 : Shape := ⟨2, ![64, 128]⟩
abbrev S8x256 : Shape := ⟨2, ![8, 256]⟩
abbrev S1x8x256 : Shape := ⟨3, ![1, 8, 256]⟩
abbrev S512x256 : Shape := ⟨2, ![512, 256]⟩
abbrev S1x128x128 : Shape := ⟨3, ![1, 128, 128]⟩
abbrev S64 : Shape := ⟨1, ![64]⟩
abbrev S64x1 : Shape := ⟨2, ![64, 1]⟩

abbrev nBuf : Space → Nat
  | .hbm => 16
  | .vmem => 20
  | .smem => 0
  | _ => 0

abbrev bufTy : (tb : Table) → Fin (tcTables nBuf tb) → BufTy
  | .hbm, ⟨0, _⟩ => ⟨S8x4096x10240, .bf16⟩
  | .hbm, ⟨1, _⟩ => ⟨S16x256, .f32⟩
  | .hbm, ⟨2, _⟩ => ⟨S256, .f32⟩
  | .hbm, ⟨3, _⟩ => ⟨S128, .f32⟩
  | .hbm, ⟨4, _⟩ => ⟨S_, .f32⟩
  | .hbm, ⟨5, _⟩ => ⟨S128x256, .f32⟩
  | .hbm, ⟨6, _⟩ => ⟨S_, .i32⟩
  | .hbm, ⟨7, _⟩ => ⟨S1, .i32⟩
  | .hbm, ⟨8, _⟩ => ⟨S128x256, .f32⟩
  | .hbm, ⟨9, _⟩ => ⟨S128x256, .bf16⟩
  | .hbm, ⟨10, _⟩ => ⟨S1x256, .f32⟩
  | .hbm, ⟨11, _⟩ => ⟨S1x128, .f32⟩
  | .hbm, ⟨12, _⟩ => ⟨S4x128, .f32⟩
  | .hbm, ⟨13, _⟩ => ⟨S512, .f32⟩
  | .hbm, ⟨14, _⟩ => ⟨S1x512, .f32⟩
  | .hbm, ⟨15, _⟩ => ⟨S8x4096x512, .bf16⟩
  | .local _ .vmem, ⟨0, _⟩ => ⟨S1x512x256, .bf16⟩
  | .local _ .vmem, ⟨1, _⟩ => ⟨S1x512x256, .bf16⟩
  | .local _ .vmem, ⟨2, _⟩ => ⟨S1x512x256, .bf16⟩
  | .local _ .vmem, ⟨3, _⟩ => ⟨S1x512x256, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x128, .bf16⟩
  | .local _ .vmem, ⟨9, _⟩ => ⟨S1x512x128, .bf16⟩
  | .local _ .vmem, ⟨10, _⟩ => ⟨S128x256, .bf16⟩
  | .local _ .vmem, ⟨11, _⟩ => ⟨S1x256, .f32⟩
  | .local _ .vmem, ⟨12, _⟩ => ⟨S1x512, .f32⟩
  | .local _ .vmem, ⟨13, _⟩ => ⟨S1x512x512, .bf16⟩
  | .local _ .vmem, ⟨14, _⟩ => ⟨S1x512x512, .bf16⟩
  | .local _ .vmem, ⟨15, _⟩ => ⟨S512x128, .f32⟩
  | .local _ .vmem, ⟨16, _⟩ => ⟨S8x64x256, .bf16⟩
  | .local _ .vmem, ⟨17, _⟩ => ⟨S8x64x512, .f32⟩
  | .local _ .vmem, ⟨18, _⟩ => ⟨S8x512x128, .f32⟩
  | .local _ .vmem, ⟨19, _⟩ => ⟨S8x8x256, .f32⟩
  | _, _ => ⟨S8x4096x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![8, 8], ![false, false]⟩

def k0_mult1 : BitVec 32 :=
  let c0_i32_5 : BitVec 32 := 0#32
  c0_i32_5
def k0_mult2 : BitVec 32 :=
  let c64_i32_65 : BitVec 32 := 64#32
  c64_i32_65
def k0_mult3 : BitVec 32 :=
  let c128_i32 : BitVec 32 := 128#32
  c128_i32
def k0_mult4 : BitVec 32 :=
  let c192_i32 : BitVec 32 := 192#32
  c192_i32
def k0_mult5 : BitVec 32 :=
  let c256_i32 : BitVec 32 := 256#32
  c256_i32
def k0_mult6 : BitVec 32 :=
  let c320_i32 : BitVec 32 := 320#32
  c320_i32
def k0_mult7 : BitVec 32 :=
  let c384_i32 : BitVec 32 := 384#32
  c384_i32
def k0_mult8 : BitVec 32 :=
  let c448_i32 : BitVec 32 := 448#32
  c448_i32
def k0_mult9 : BitVec 32 :=
  let c0_i32_535 : BitVec 32 := 0#32
  c0_i32_535
def k0_mult10 : BitVec 32 :=
  let c64_i32_587 : BitVec 32 := 64#32
  c64_i32_587
def k0_mult11 : BitVec 32 :=
  let c128_i32_639 : BitVec 32 := 128#32
  c128_i32_639
def k0_mult12 : BitVec 32 :=
  let c192_i32_691 : BitVec 32 := 192#32
  c192_i32_691
def k0_mult13 : BitVec 32 :=
  let c256_i32_743 : BitVec 32 := 256#32
  c256_i32_743
def k0_mult14 : BitVec 32 :=
  let c320_i32_795 : BitVec 32 := 320#32
  c320_i32_795
def k0_mult15 : BitVec 32 :=
  let c384_i32_847 : BitVec 32 := 384#32
  c384_i32_847
def k0_mult16 : BitVec 32 :=
  let c448_i32_899 : BitVec 32 := 448#32
  c448_i32_899
def cc0_transform_0 (i : grid0.Coords) : Fin 3 → Nat :=
  let arg0 : BitVec 32 := BitVec.ofNat 32 (i 0).val
  let arg1 : BitVec 32 := BitVec.ofNat 32 (i 1).val
  let c36_i32 : BitVec 32 := 36#32
  let c0_i32 : BitVec 32 := 0#32
  ![arg0.toNat, arg1.toNat, c36_i32.toNat]

def cc0_transform_1 (i : grid0.Coords) : Fin 3 → Nat :=
  let arg0 : BitVec 32 := BitVec.ofNat 32 (i 0).val
  let arg1 : BitVec 32 := BitVec.ofNat 32 (i 1).val
  let c37_i32 : BitVec 32 := 37#32
  let c0_i32 : BitVec 32 := 0#32
  ![arg0.toNat, arg1.toNat, c37_i32.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let c0_i32 : BitVec 32 := 0#32
  ![arg0.toNat, arg1.toNat, c7_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg0.toNat, arg1.toNat, c8_i32.toNat]

def cc0_transform_4 (i : grid0.Coords) : Fin 3 → Nat :=
  let arg0 : BitVec 32 := BitVec.ofNat 32 (i 0).val
  let arg1 : BitVec 32 := BitVec.ofNat 32 (i 1).val
  let c76_i32 : BitVec 32 := 76#32
  let c0_i32 : BitVec 32 := 0#32
  ![arg0.toNat, arg1.toNat, c76_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== GlaRefIdeal.lean ====
abbrev S8x4096x10240 : Shape := ⟨3, ![8, 4096, 10240]⟩
abbrev S16x256 : Shape := ⟨2, ![16, 256]⟩
abbrev S256 : Shape := ⟨1, ![256]⟩
abbrev S128 : Shape := ⟨1, ![128]⟩
abbrev S8x4096x512 : Shape := ⟨3, ![8, 4096, 512]⟩
abbrev S8x4096x256 : Shape := ⟨3, ![8, 4096, 256]⟩
abbrev S8x4096x16 : Shape := ⟨3, ![8, 4096, 16]⟩
abbrev S8x4096x4x64 : Shape := ⟨4, ![8, 4096, 4, 64]⟩
abbrev S_ : Shape := ⟨0, ![]⟩
abbrev S8x4096x4x128 : Shape := ⟨4, ![8, 4096, 4, 128]⟩
abbrev S1x1x256 : Shape := ⟨3, ![1, 1, 256]⟩
abbrev S64x64 : Shape := ⟨2, ![64, 64]⟩
abbrev S8x4x64x128 : Shape := ⟨4, ![8, 4, 64, 128]⟩
abbrev S8x64x64x4x64 : Shape := ⟨5, ![8, 64, 64, 4, 64]⟩
abbrev S64x8x4x64x64 : Shape := ⟨5, ![64, 8, 4, 64, 64]⟩
abbrev S8x64x64x4x128 : Shape := ⟨5, ![8, 64, 64, 4, 128]⟩
abbrev S64x8x4x64x128 : Shape := ⟨5, ![64, 8, 4, 64, 128]⟩
abbrev S1x8x4x64x64 : Shape := ⟨5, ![1, 8, 4, 64, 64]⟩
abbrev S8x4x64x64 : Shape := ⟨4, ![8, 4, 64, 64]⟩
abbrev S1x8x4x64x128 : Shape := ⟨5, ![1, 8, 4, 64, 128]⟩
abbrev S8x4x64x1x64 : Shape := ⟨5, ![8, 4, 64, 1, 64]⟩
abbrev S8x4x1x64x64 : Shape := ⟨5, ![8, 4, 1, 64, 64]⟩
abbrev S8x4x64x64x64 : Shape := ⟨5, ![8, 4, 64, 64, 64]⟩
abbrev S64x64x1 : Shape := ⟨3, ![64, 64, 1]⟩
abbrev S8x4x1x64 : Shape := ⟨4, ![8, 4, 1, 64]⟩
abbrev S8x4x64 : Shape := ⟨3, ![8, 4, 64]⟩
abbrev S8x4x64x1 : Shape := ⟨4, ![8, 4, 64, 1]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩

abbrev nBuf : Space → Nat
  | .hbm => 177
  | .vmem => 0
  | .smem => 0
  | _ => 0

abbrev hbmTy0_0 (i : Nat) : BufTy := match i % 128 with
  | 0 => ⟨S8x4096x10240, .bf16⟩
  | 1 => ⟨S16x256, .f32⟩
  | 2 => ⟨S256, .f32⟩
  | 3 => ⟨S128, .f32⟩
  | 4 => ⟨S8x4096x512, .bf16⟩
  | 5 => ⟨S8x4096x256, .bf16⟩
  | 6 => ⟨S8x4096x256, .bf16⟩
  | 7 => ⟨S8x4096x16, .bf16⟩
  | 8 => ⟨S8x4096x256, .f32⟩
  | 9 => ⟨S8x4096x4x64, .f32⟩
  | 10 => ⟨S_, .f32⟩
  | 11 => ⟨S8x4096x4x64, .f32⟩
  | 12 => ⟨S8x4096x4x64, .f32⟩
  | 13 => ⟨S8x4096x256, .f32⟩
  | 14 => ⟨S8x4096x4x64, .f32⟩
  | 15 => ⟨S8x4096x512, .f32⟩
  | 16 => ⟨S8x4096x4x128, .f32⟩
  | 17 => ⟨S8x4096x16, .f32⟩
  | 18 => ⟨S8x4096x256, .f32⟩
  | 19 => ⟨S1x1x256, .f32⟩
  | 20 => ⟨S8x4096x256, .f32⟩
  | 21 => ⟨S8x4096x256, .f32⟩
  | 22 => ⟨S8x4096x256, .f32⟩
  | 23 => ⟨S_, .f32⟩
  | 24 => ⟨S8x4096x256, .f32⟩
  | 25 => ⟨S8x4096x256, .f32⟩
  | 26 => ⟨S8x4096x256, .f32⟩
  | 27 => ⟨S8x4096x256, .f32⟩
  | 28 => ⟨S8x4096x256, .i1⟩
  | 29 => ⟨S8x4096x256, .f32⟩
  | 30 => ⟨S8x4096x256, .f32⟩
  | 31 => ⟨S8x4096x256, .f32⟩
  | 32 => ⟨S8x4096x256, .f32⟩
  | 33 => ⟨S8x4096x256, .f32⟩
  | 34 => ⟨S8x4096x256, .f32⟩
  | 35 => ⟨S8x4096x256, .f32⟩
  | 36 => ⟨S8x4096x256, .f32⟩
  | 37 => ⟨S8x4096x256, .f32⟩
  | 38 => ⟨S_, .f32⟩
  | 39 => ⟨S8x4096x256, .f32⟩
  | 40 => ⟨S8x4096x256, .f32⟩
  | 41 => ⟨S8x4096x4x64, .f32⟩
  | 42 => ⟨S_, .i1⟩
  | 43 => ⟨S64x64, .i1⟩
  | 44 => ⟨S64x64, .i32⟩
  | 45 => ⟨S_, .i32⟩
  | 46 => ⟨S64x64, .i32⟩
  | 47 => ⟨S64x64, .i32⟩
  | 48 => ⟨S64x64, .i32⟩
  | 49 => ⟨S64x64, .i1⟩
  | 50 => ⟨S_, .i1⟩
  | 51 => ⟨S64x64, .i1⟩
  | 52 => ⟨S64x64, .i1⟩
  | 53 => ⟨S_, .f32⟩
  | 54 => ⟨S8x4x64x128, .f32⟩
  | 55 => ⟨S8x64x64x4x64, .f32⟩
  | 56 => ⟨S64x8x4x64x64, .f32⟩
  | 57 => ⟨S8x64x64x4x64, .f32⟩
  | 58 => ⟨S64x8x4x64x64, .f32⟩
  | 59 => ⟨S8x64x64x4x128, .f32⟩
  | 60 => ⟨S64x8x4x64x128, .f32⟩
  | 61 => ⟨S8x64x64x4x64, .f32⟩
  | 62 => ⟨S64x8x4x64x64, .f32⟩
  | 63 => ⟨S_, .f32⟩
  | 64 => ⟨S64x8x4x64x128, .f32⟩
  | 65 => ⟨S_, .i32⟩
  | 66 => ⟨S64x8x4x64x64, .f32⟩
  | 67 => ⟨S64x8x4x64x64, .f32⟩
  | 68 => ⟨S64x8x4x64x128, .f32⟩
  | 69 => ⟨S64x8x4x64x64, .f32⟩
  | 70 => ⟨S64x64, .i1⟩
  | 71 => ⟨S_, .i32⟩
  | 72 => ⟨S8x4x64x128, .f32⟩
  | 73 => ⟨S64x8x4x64x128, .f32⟩
  | 74 => ⟨S_, .i32⟩
  | 75 => ⟨S_, .i1⟩
  | 76 => ⟨S_, .i32⟩
  | 77 => ⟨S_, .i32⟩
  | 78 => ⟨S_, .i32⟩
  | 79 => ⟨S_, .i32⟩
  | 80 => ⟨S1x8x4x64x64, .f32⟩
  | 81 => ⟨S8x4x64x64, .f32⟩
  | 82 => ⟨S_, .i32⟩
  | 83 => ⟨S_, .i32⟩
  | 84 => ⟨S_, .i32⟩
  | 85 => ⟨S_, .i32⟩
  | 86 => ⟨S1x8x4x64x64, .f32⟩
  | 87 => ⟨S8x4x64x64, .f32⟩
  | 88 => ⟨S_, .i32⟩
  | 89 => ⟨S_, .i32⟩
  | 90 => ⟨S_, .i32⟩
  | 91 => ⟨S_, .i32⟩
  | 92 => ⟨S1x8x4x64x128, .f32⟩
  | 93 => ⟨S8x4x64x128, .f32⟩
  | 94 => ⟨S_, .i32⟩
  | 95 => ⟨S_, .i32⟩
  | 96 => ⟨S_, .i32⟩
  | 97 => ⟨S_, .i32⟩
  | 98 => ⟨S1x8x4x64x64, .f32⟩
  | 99 => ⟨S8x4x64x64, .f32⟩
  | 100 => ⟨S_, .f32⟩
  | 101 => ⟨S_, .f32⟩
  | 102 => ⟨S8x4x64x64, .f32⟩
  | 103 => ⟨S8x4x64x64, .f32⟩
  | 104 => ⟨S8x4x64x64, .f32⟩
  | 105 => ⟨S8x4x64x128, .f32⟩
  | 106 => ⟨S8x4x64x1x64, .f32⟩
  | 107 => ⟨S8x4x1x64x64, .f32⟩
  | 108 => ⟨S8x4x64x64x64, .f32⟩
  | 109 => ⟨S8x4x64x64x64, .f32⟩
  | 110 => ⟨S8x4x64x64x64, .f32⟩
  | 111 => ⟨S64x64x1, .i1⟩
  | 112 => ⟨S_, .f32⟩
  | 113 => ⟨S_, .f32⟩
  | 114 => ⟨S8x4x64x64x64, .i1⟩
  | 115 => ⟨S8x4x64x64x64, .f32⟩
  | 116 => ⟨S8x4x64x64x64, .f32⟩
  | 117 => ⟨S8x4x64x64x64, .f32⟩
  | 118 => ⟨S8x4x64x1x64, .f32⟩
  | 119 => ⟨S8x4x64x64x64, .f32⟩
  | 120 => ⟨S8x4x64x64x64, .f32⟩
  | 121 => ⟨S8x4x64x64, .f32⟩
  | 122 => ⟨S8x4x64x64, .f32⟩
  | 123 => ⟨S8x4x64x128, .f32⟩
  | 124 => ⟨S8x4x1x64, .f32⟩
  | 125 => ⟨S8x4x64, .f32⟩
  | 126 => ⟨S8x4x64, .f32⟩
  | 127 => ⟨S8x4x64x1, .f32⟩
  | _ => ⟨S8x4096x10240, .bf16⟩

abbrev hbmTy0_1 (i : Nat) : BufTy := match i % 128 with
  | 0 => ⟨S8x4x64x128, .f32⟩
  | 1 => ⟨S8x4x64x128, .f32⟩
  | 2 => ⟨S8x4x64x64, .f32⟩
  | 3 => ⟨S8x4x64x64, .f32⟩
  | 4 => ⟨S8x4x64x64, .f32⟩
  | 5 => ⟨S8x4x64x64, .f32⟩
  | 6 => ⟨S8x4x64x128, .f32⟩
  | 7 => ⟨S8x4x64x128, .f32⟩
  | 8 => ⟨S8x4x64x128, .f32⟩
  | 9 => ⟨S1x8x4x64x128, .f32⟩
  | 10 => ⟨S_, .i32⟩
  | 11 => ⟨S_, .i32⟩
  | 12 => ⟨S_, .i32⟩
  | 13 => ⟨S_, .i32⟩
  | 14 => ⟨S64x8x4x64x128, .f32⟩
  | 15 => ⟨S_, .i32⟩
  | 16 => ⟨S_, .i32⟩
  | 17 => ⟨S8x64x64x4x128, .f32⟩
  | 18 => ⟨S8x4096x4x128, .f32⟩
  | 19 => ⟨S8x4096x4x128, .f32⟩
  | 20 => ⟨S_, .f32⟩
  | 21 => ⟨S8x4096x4, .f32⟩
  | 22 => ⟨S8x4096x4x1, .f32⟩
  | 23 => ⟨S_, .f32⟩
  | 24 => ⟨S8x4096x4x1, .f32⟩
  | 25 => ⟨S8x4096x4x1, .f32⟩
  | 26 => ⟨S_, .f32⟩
  | 27 => ⟨S8x4096x4x1, .f32⟩
  | 28 => ⟨S8x4096x4x1, .f32⟩
  | 29 => ⟨S8x4096x4x1, .f32⟩
  | 30 => ⟨S8x4096x4x128, .f32⟩
  | 31 => ⟨S8x4096x4x128, .f32⟩
  | 32 => ⟨S1x1x1x128, .f32⟩
  | 33 => ⟨S8x4096x4x128, .f32⟩
  | 34 => ⟨S8x4096x4x128, .f32⟩
  | 35 => ⟨S8x4096x512, .bf16⟩
  | 36 => ⟨S8x4096x512, .f32⟩
  | 37 => ⟨S8x4096x512, .f32⟩
  | 38 => ⟨S8x4096x512, .f32⟩
  | 39 => ⟨S8x4096x512, .f32⟩
  | 40 => ⟨S_, .f32⟩
  | 41 => ⟨S8x4096x512, .f32⟩
  | 42 => ⟨S8x4096x512, .f32⟩
  | 43 => ⟨S_, .f32⟩
  | 44 => ⟨S8x4096x512, .f32⟩
  | 45 => ⟨S8x4096x512, .f32⟩
  | 46 => ⟨S8x4096x512, .f32⟩
  | 47 => ⟨S8x4096x512, .f32⟩
  | 48 => ⟨S8x4096x512, .bf16⟩
  | _ => ⟨S8x4096x10240, .bf16⟩

abbrev hbmTy (i : Nat) : BufTy := match i / 128 with
  | 0 => hbmTy0_0 i
  | 1 => hbmTy0_1 i
  | _ => ⟨S8x4096x10240, .bf16⟩

abbrev bufTy : (tb : Table) → Fin (tcTables nBuf tb) → BufTy
  | .hbm, ⟨i, _⟩ => hbmTy i
  | _, _ => ⟨S8x4096x10240, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_call0_v5 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_call1_v0 : Ref sig .tc := ⟨.hbm, 44, rfl⟩
abbrev main_call1_c : Ref sig .tc := ⟨.hbm, 45, rfl⟩
abbrev main_call1_v1 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_c_0 : Ref sig .tc := ⟨.hbm, 50, rfl⟩
abbrev main_call1_v5 : Ref sig .tc := ⟨.hbm, 51, rfl⟩
abbrev main_v24 : Ref sig .tc := ⟨.hbm, 52, rfl⟩
abbrev main_cst_1 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_2 : Ref sig .tc := ⟨.hbm, 63, rfl⟩
abbrev main_v34 : Ref sig .tc := ⟨.hbm, 64, rfl⟩
abbrev main_c_3 : Ref sig .tc := ⟨.hbm, 65, rfl⟩
abbrev main_v35_0 : Ref sig .tc := ⟨.hbm, 66, rfl⟩
abbrev main_v35_1 : Ref sig .tc := ⟨.hbm, 67, rfl⟩
abbrev main_v35_2 : Ref sig .tc := ⟨.hbm, 68, rfl⟩
abbrev main_v35_3 : Ref sig .tc := ⟨.hbm, 69, rfl⟩
abbrev main_v35_4 : Ref sig .tc := ⟨.hbm, 70, rfl⟩
abbrev main_v35_5 : Ref sig .tc := ⟨.hbm, 71, rfl⟩
abbrev main_v35_6 : Ref sig .tc := ⟨.hbm, 72, rfl⟩
abbrev main_v35_7 : Ref sig .tc := ⟨.hbm, 73, rfl⟩
abbrev main_while0c_c_14 : Ref sig .tc := ⟨.hbm, 74, rfl⟩
abbrev main_while0c_v57 : Ref sig .tc := ⟨.hbm, 75, rfl⟩
abbrev main_while0b_call2_c : Ref sig .tc := ⟨.hbm, 76, rfl⟩
abbrev main_while0b_call2_c_0 : Ref sig .tc := ⟨.hbm, 77, rfl⟩
abbrev main_while0b_call2_c_1 : Ref sig .tc := ⟨.hbm, 78, rfl⟩
abbrev main_while0b_call2_c_2 : Ref sig .tc := ⟨.hbm, 79, rfl⟩
abbrev main_while0b_call2_v0 : Ref sig .tc := ⟨.hbm, 80, rfl⟩
abbrev main_while0b_v57 : Ref sig .tc := ⟨.hbm, 81, rfl⟩
abbrev main_while0b_call3_c : Ref sig .tc := ⟨.hbm, 82, rfl⟩
abbrev main_while0b_call3_c_0 : Ref sig .tc := ⟨.hbm, 83, rfl⟩
abbrev main_while0b_call3_c_1 : Ref sig .tc := ⟨.hbm, 84, rfl⟩
abbrev main_while0b_call3_c_2 : Ref sig .tc := ⟨.hbm, 85, rfl⟩
abbrev main_while0b_call3_v0 : Ref sig .tc := ⟨.hbm, 86, rfl⟩
abbrev main_while0b_v58 : Ref sig .tc := ⟨.hbm, 87, rfl⟩
abbrev main_while0b_call4_c : Ref sig .tc := ⟨.hbm, 88, rfl⟩
abbrev main_while0b_call4_c_0 : Ref sig .tc := ⟨.hbm, 89, rfl⟩
abbrev main_while0b_call4_c_1 : Ref sig .tc := ⟨.hbm, 90, rfl⟩
abbrev main_while0b_call4_c_2 : Ref sig .tc := ⟨.hbm, 91, rfl⟩
abbrev main_while0b_call4_v0 : Ref sig .tc := ⟨.hbm, 92, rfl⟩
abbrev main_while0b_v59 : Ref sig .tc := ⟨.hbm, 93, rfl⟩
abbrev main_while0b_call5_c : Ref sig .tc := ⟨.hbm, 94, rfl⟩
abbrev main_while0b_call5_c_0 : Ref sig .tc := ⟨.hbm, 95, rfl⟩
abbrev main_while0b_call5_c_1 : Ref sig .tc := ⟨.hbm, 96, rfl⟩
abbrev main_while0b_call5_c_2 : Ref sig .tc := ⟨.hbm, 97, rfl⟩
abbrev main_while0b_call5_v0 : Ref sig .tc := ⟨.hbm, 98, rfl⟩
abbrev main_while0b_v60 : Ref sig .tc := ⟨.hbm, 99, rfl⟩
abbrev main_while0b_call6_call0_cst : Ref sig .tc := ⟨.hbm, 100, rfl⟩
abbrev main_while0b_call6_call0_v0 : Ref sig .tc := ⟨.hbm, 101, rfl⟩
abbrev main_while0b_v61 : Ref sig .tc := ⟨.hbm, 102, rfl⟩
abbrev main_while0b_v62 : Ref sig .tc := ⟨.hbm, 103, rfl⟩
abbrev main_while0b_v63 : Ref sig .tc := ⟨.hbm, 104, rfl⟩
abbrev main_while0b_v64 : Ref sig .tc := ⟨.hbm, 105, rfl⟩
abbrev main_while0b_v65 : Ref sig .tc := ⟨.hbm, 106, rfl⟩
abbrev main_while0b_v66 : Ref sig .tc := ⟨.hbm, 107, rfl⟩
abbrev main_while0b_v67 : Ref sig .tc := ⟨.hbm, 108, rfl⟩
abbrev main_while0b_v68 : Ref sig .tc := ⟨.hbm, 109, rfl⟩
abbrev main_while0b_v69 : Ref sig .tc := ⟨.hbm, 110, rfl⟩
abbrev main_while0b_v70 : Ref sig .tc := ⟨.hbm, 111, rfl⟩
abbrev main_while0b_cst_14 : Ref sig .tc := ⟨.hbm, 112, rfl⟩
abbrev main_while0b_call7_v0 : Ref sig .tc := ⟨.hbm, 113, rfl⟩
abbrev main_while0b_call7_v1 : Ref sig .tc := ⟨.hbm, 114, rfl⟩
abbrev main_while0b_call7_v2 : Ref sig .tc := ⟨.hbm, 115, rfl⟩
abbrev main_while0b_v71 : Ref sig .tc := ⟨.hbm, 116, rfl⟩
abbrev main_while0b_v72 : Ref sig .tc := ⟨.hbm, 117, rfl⟩
abbrev main_while0b_v73 : Ref sig .tc := ⟨.hbm, 118, rfl⟩
abbrev main_while0b_v74 : Ref sig .tc := ⟨.hbm, 119, rfl⟩
abbrev main_while0b_v75 : Ref sig .tc := ⟨.hbm, 120, rfl⟩
abbrev main_while0b_v76 : Ref sig .tc := ⟨.hbm, 121, rfl⟩
abbrev main_while0b_v77 : Ref sig .tc := ⟨.hbm, 122, rfl⟩
abbrev main_while0b_v78 : Ref sig .tc := ⟨.hbm, 123, rfl⟩
abbrev main_while0b_v79 : Ref sig .tc := ⟨.hbm, 124, rfl⟩
abbrev main_while0b_v80 : Ref sig .tc := ⟨.hbm, 125, rfl⟩
abbrev main_while0b_v81 : Ref sig .tc := ⟨.hbm, 126, rfl⟩
abbrev main_while0b_v82 : Ref sig .tc := ⟨.hbm, 127, rfl⟩
abbrev main_while0b_v83 : Ref sig .tc := ⟨.hbm, 128, rfl⟩
abbrev main_while0b_v84 : Ref sig .tc := ⟨.hbm, 129, rfl⟩
abbrev main_while0b_v85 : Ref sig .tc := ⟨.hbm, 130, rfl⟩
abbrev main_while0b_v86 : Ref sig .tc := ⟨.hbm, 131, rfl⟩
abbrev main_while0b_v87 : Ref sig .tc := ⟨.hbm, 132, rfl⟩
abbrev main_while0b_v88 : Ref sig .tc := ⟨.hbm, 133, rfl⟩
abbrev main_while0b_v89 : Ref sig .tc := ⟨.hbm, 134, rfl⟩
abbrev main_while0b_v90 : Ref sig .tc := ⟨.hbm, 135, rfl⟩
abbrev main_while0b_v91 : Ref sig .tc := ⟨.hbm, 136, rfl⟩
abbrev main_while0b_call8_v0 : Ref sig .tc := ⟨.hbm, 137, rfl⟩
abbrev main_while0b_call8_c : Ref sig .tc := ⟨.hbm, 138, rfl⟩
abbrev main_while0b_call8_c_0 : Ref sig .tc := ⟨.hbm, 139, rfl⟩
abbrev main_while0b_call8_c_1 : Ref sig .tc := ⟨.hbm, 140, rfl⟩
abbrev main_while0b_call8_c_2 : Ref sig .tc := ⟨.hbm, 141, rfl⟩
abbrev main_while0b_v92 : Ref sig .tc := ⟨.hbm, 142, rfl⟩
abbrev main_while0b_c_15 : Ref sig .tc := ⟨.hbm, 143, rfl⟩
abbrev main_while0b_v93 : Ref sig .tc := ⟨.hbm, 144, rfl⟩
abbrev main_v36 : Ref sig .tc := ⟨.hbm, 145, rfl⟩
abbrev main_v37 : Ref sig .tc := ⟨.hbm, 146, rfl⟩
abbrev main_v38 : Ref sig .tc := ⟨.hbm, 147, rfl⟩
abbrev main_cst_4 : Ref sig .tc := ⟨.hbm, 148, rfl⟩
abbrev main_v39 : Ref sig .tc := ⟨.hbm, 149, rfl⟩
abbrev main_v40 : Ref sig .tc := ⟨.hbm, 150, rfl⟩
abbrev main_cst_5 : Ref sig .tc := ⟨.hbm, 151, rfl⟩
abbrev main_v41 : Ref sig .tc := ⟨.hbm, 152, rfl⟩
abbrev main_v42 : Ref sig .tc := ⟨.hbm, 153, rfl⟩
abbrev main_cst_6 : Ref sig .tc := ⟨.hbm, 154, rfl⟩
abbrev main_v43 : Ref sig .tc := ⟨.hbm, 155, rfl⟩
abbrev main_v44 : Ref sig .tc := ⟨.hbm, 156, rfl⟩
abbrev main_v45 : Ref sig .tc := ⟨.hbm, 157, rfl⟩
abbrev main_v46 : Ref sig .tc := ⟨.hbm, 158, rfl⟩
abbrev main_v47 : Ref sig .tc := ⟨.hbm, 159, rfl⟩
abbrev main_v48 : Ref sig .tc := ⟨.hbm, 160, rfl⟩
abbrev main_v49 : Ref sig .tc := ⟨.hbm, 161, rfl⟩
abbrev main_v50 : Ref sig .tc := ⟨.hbm, 162, rfl⟩
abbrev main_v51 : Ref sig .tc := ⟨.hbm, 163, rfl⟩
abbrev main_v52 : Ref sig .tc := ⟨.hbm, 164, rfl⟩
abbrev main_v53 : Ref sig .tc := ⟨.hbm, 165, rfl⟩
abbrev main_call9_v0 : Ref sig .tc := ⟨.hbm, 166, rfl⟩
abbrev main_call9_v1 : Ref sig .tc := ⟨.hbm, 167, rfl⟩
abbrev main_call9_cst : Ref sig .tc := ⟨.hbm, 168, rfl⟩
abbrev main_call9_v2 : Ref sig .tc := ⟨.hbm, 169, rfl⟩
abbrev main_call9_v3 : Ref sig .tc := ⟨.hbm, 170, rfl⟩
abbrev main_call9_cst_0 : Ref sig .tc := ⟨.hbm, 171, rfl⟩
abbrev main_call9_v4 : Ref sig .tc := ⟨.hbm, 172, rfl⟩
abbrev main_call9_v5 : Ref sig .tc := ⟨.hbm, 173, rfl⟩
abbrev main_v54 : Ref sig .tc := ⟨.hbm, 174, rfl⟩
abbrev main_v55 : Ref sig .tc := ⟨.hbm, 175, rfl⟩
abbrev main_v56 : Ref sig .tc := ⟨.hbm, 176, rfl⟩

abbrev nD : Nat := 1
abbrev τ : Topo := Topo.v7x

variable {F : FTy → Type} [FloatOps F]

abbrev main_while0_count : Scf.Loop 32 := ⟨0#32, 64#32, 1#32⟩
-- ==== Proof.CrossSteps.lean ====
module

public import proofs.«01_k».proof.Proof.Gen.CrossRefIdeal.Run
public import Idealize.ShloMosaic.Lib.Pipeline.ValueKit
public import Idealize.ShloMosaic.Lib.Pointwise

@[expose] public section

set_option maxRecDepth 16384

noncomputable section

/-! The cross-attention reference's result as named steps, and each step at an index. -/

namespace Cert.CrossRefIdeal.Steps

open Idealize.ShloMosaic Idealize.ShloMosaic.TcCoe Idealize.SL.Sem
open Cert.CrossRefIdeal Cert.CrossRefIdeal.Gen

variable (x : FVec Ideal S8x4096x1024 .f32) (g : FVec Ideal S1024 .f32) (km vm : FVec Ideal S8x256x1024 .bf16) (wq wo : FVec Ideal S1024x1024 .bf16)

/-- The queries: the normalised rows times the query weight. -/
def query : FVec Ideal S8x4096x1024 .f32 :=
  Host.dotGeneral dot_S8x4096x1024_S1024x1024_S8x4096x1024_2_0_01_1_n_n none (mulf (mulf x (broadcastInDim S8x4096x1024 ![0, 1, 2] bcast_S8x4096x1_S8x4096x1024_0_1_2 (Host.rsqrt (addf (Host.divf (broadcastInDim S8x4096x1 ![0, 1] bcast_S8x4096_S8x4096x1_0_1 (Host.reduceAdd (mulf x x) (constant S_ .f32 0x00000000#32) reducesTo_S8x4096x1024_S8x4096_d2 h_S_)) (broadcastInDim S8x4096x1 ![] bcast_S_S8x4096x1 (constant S_ .f32 0x44800000#32))) (broadcastInDim S8x4096x1 ![] bcast_S_S8x4096x1 (constant S_ .f32 0x358637BD#32)))))) (broadcastInDim S8x4096x1024 ![0, 1, 2] bcast_S1x1x1024_S8x4096x1024_0_1_2 (broadcastInDim S1x1x1024 ![2] bcast_S1024_S1x1x1024_2 g))) (extf .f32 wq bitsLt_bf16_f32)

/-- The queries, head by head. -/
def split (q : FVec Ideal S8x4096x1024 .f32) : FVec Ideal S8x4096x4x256 .f32 :=
  shapeCast _ q shapeCasts_S8x4096x1024_S8x4096x4x256

/-- The scaled scores, from queries `q` and keys `k`, both head by head. -/
def score (q : FVec Ideal S8x4096x4x256 .f32) (k : FVec Ideal S8x256x4x256 .f32) : FVec Ideal S8x4x4096x256 .f32 :=
  mulf (Host.dotGeneral dot_S8x4096x4x256_S8x256x4x256_S8x4x4096x256_3_3_1_1_02_02 none q k) (broadcastInDim S8x4x4096x256 ![] bcast_S_S8x4x4096x256 (constant S_ .f32 0x3D800000#32))

/-- Each row's largest score. -/
def top (s : FVec Ideal S8x4x4096x256 .f32) : FVec Ideal S8x4x4096 .f32 :=
  maximumf (broadcastInDim S8x4x4096 ![] bcast_S_S8x4x4096 (constant S_ .f32 0xFF800000#32)) (Host.reduce FloatOps.maximumf s (constant S_ .f32 0xFF800000#32) reducesTo_S8x4x4096x256_S8x4x4096_d3 h_S_)

/-- The exponentials of scores `s` less a number `t` of their row. -/
def expo (s : FVec Ideal S8x4x4096x256 .f32) (t : FVec Ideal S8x4x4096 .f32) : FVec Ideal S8x4x4096x256 .f32 :=
  Host.exp (subf s (broadcastInDim S8x4x4096x256 ![0, 1, 2, 3] bcast_S8x4x4096x1_S8x4x4096x256_0_1_2_3 (broadcastInDim S8x4x4096x1 ![0, 1, 2] bcast_S8x4x4096_S8x4x4096x1_0_1_2 t)))

/-- The softmax, from exponentials `e`. -/
def probs (e : FVec Ideal S8x4x4096x256 .f32) : FVec Ideal S8x4x4096x256 .f32 :=
  Host.divf e (broadcastInDim S8x4x4096x256 ![0, 1, 2, 3] bcast_S8x4x4096x1_S8x4x4096x256_0_1_2_3 (broadcastInDim S8x4x4096x1 ![0, 1, 2] bcast_S8x4x4096_S8x4x4096x1_0_1_2 (Host.reduceAdd e (constant S_ .f32 0x00000000#32) reducesTo_S8x4x4096x256_S8x4x4096_d3 h_S_)))

/-- The keys or the values, head by head. -/
def values : FVec Ideal S8x256x4x256 .f32 :=
  shapeCast _ (extf .f32 vm bitsLt_bf16_f32) shapeCasts_S8x256x1024_S8x256x4x256

/-- The heads' outputs, from values `v` and softmax `p`. -/
def mix (v : FVec Ideal S8x256x4x256 .f32) (p : FVec Ideal S8x4x4096x256 .f32) : FVec Ideal S8x4x256x4096 .f32 :=
  Host.dotGeneral dot_S8x256x4x256_S8x4x4096x256_S8x4x256x4096_1_3_3_2_02_01 none v p

/-- The heads side by side. -/
def heads (y : FVec Ideal S8x4x256x4096 .f32) : FVec Ideal S8x4096x1024 .f32 :=
  shapeCast _ (transpose S8x4096x4x256 [0, 3, 1, 2] y transposes_S8x4x256x4096_S8x4096x4x256_0_3_1_2) shapeCasts_S8x4096x4x256_S8x4096x1024

/-- The softmax weights of scores `s`. -/
def soft (s : FVec Ideal S8x4x4096x256 .f32) : FVec Ideal S8x4x4096x256 .f32 := probs (expo s (top s))

/-- The reference's result. -/
def cross : FVec Ideal S8x4096x1024 .f32 :=
  addf x (Host.dotGeneral dot_S8x4096x1024_S1024x1024_S8x4096x1024_2_0_01_1_n_n none (heads (mix (values vm) (soft (score (split (query x g wq)) (values km))))) (extf .f32 wo bitsLt_bf16_f32))

/-- One query. -/
theorem query_at (b : Fin 8) (s : Fin 4096) (l : Fin 1024) : query x g wq (ix3 b s l)
    = ∑ k : Fin 1024, x (ix3 b s k) * Ideal.rsqrt (Ideal.div (∑ j : Fin 1024, x (ix3 b s j) * x (ix3 b s j)) (Ideal.ofBits .f32 0x44800000#32) + Ideal.ofBits .f32 0x358637BD#32) * g (ix1 k) * wq (ix2 k l) := by
  pointwise [query]

/-- Entry `d` of head `h` of a query is its column `256 h + d`. -/
theorem split_at (q : FVec Ideal S8x4096x1024 .f32) (b : Fin 8) (s : Fin 4096) (h : Fin 4) (d : Fin 256) :
    split q (ix4 b s h d) = q (ix3 b s ⟨h * 256 + d, by omega⟩) := by
  pointwise [split]

/-- One score of head `h`. -/
theorem score_at (q : FVec Ideal S8x4096x4x256 .f32) (k : FVec Ideal S8x256x4x256 .f32) (b : Fin 8) (h : Fin 4) (s : Fin 4096) (n : Fin 256) :
    score q k (ix4 b h s n) = (∑ d : Fin 256, q (ix4 b s h d) * k (ix4 b n h d)) * Ideal.ofBits .f32 0x3D800000#32 := by
  pointwise [score]

/-- The largest entry along the last of four axes, as a fold. -/
theorem reduceMax_last {n0 n1 n2 n3 : ℕ} {u : Shape} (v : FVec Ideal (⟨4, ![n0, n1, n2, n3]⟩ : Shape) .f32) (init : FVec Ideal u .f32)
    (h : (⟨4, ![n0, n1, n2, n3]⟩ : Shape).ReducesTo [3] (⟨3, ![n0, n1, n2]⟩ : Shape)) (hu : 0 < u.numel) (a : Fin n0) (b : Fin n1) (c : Fin n2) :
    Host.reduce FloatOps.maximumf v init h hu (ix3 a b c) = (Finset.univ : Finset (Fin n3)).fold max (init (Shape.Idx.first hu)) fun k => v (ix4 a b c k) := by
  rw [Host.reduce_eq_fold, Shape.ReducesTo.fold_fiber_r4_a3]
  rfl

/-- A row's largest score. -/
theorem top_at (s : FVec Ideal S8x4x4096x256 .f32) (b : Fin 8) (h : Fin 4) (i : Fin 4096) : top s (ix3 b h i)
    = max (Ideal.ofBits .f32 0xFF800000#32) (Finset.fold max (Ideal.ofBits .f32 0xFF800000#32) (fun k : Fin 256 => s (ix4 b h i k)) Finset.univ) := by
  rw [top, maximumf_apply, reduceMax_last, broadcastInDim_apply _ _ _ _ (Shape.Idx.first h_S_) (fun a => a.elim0), constant_apply]
  rfl

/-- One exponential. -/
theorem expo_at (s : FVec Ideal S8x4x4096x256 .f32) (t : FVec Ideal S8x4x4096 .f32) (b : Fin 8) (h : Fin 4) (i : Fin 4096) (n : Fin 256) :
    expo s t (ix4 b h i n) = Ideal.exp (s (ix4 b h i n) - t (ix3 b h i)) := by
  pointwise [expo]

/-- One weight of the softmax. -/
theorem probs_at (e : FVec Ideal S8x4x4096x256 .f32) (b : Fin 8) (h : Fin 4) (s : Fin 4096) (n : Fin 256) :
    probs e (ix4 b h s n) = Ideal.div (e (ix4 b h s n)) (∑ k : Fin 256, e (ix4 b h s k)) := by
  pointwise [probs]

/-- One key or value: entry `d` of head `h` is column `256 h + d`. -/
theorem values_at (b : Fin 8) (n : Fin 256) (h : Fin 4) (d : Fin 256) : values vm (ix4 b n h d) = vm (ix3 b n ⟨h * 256 + d, by omega⟩) := by
  pointwise [values]

/-- One entry of a head's output: the values weighted by the softmax. -/
theorem mix_at (v : FVec Ideal S8x256x4x256 .f32) (p : FVec Ideal S8x4x4096x256 .f32) (b : Fin 8) (h : Fin 4) (d : Fin 256) (s : Fin 4096) :
    mix v p (ix4 b h d s) = ∑ n : Fin 256, v (ix4 b n h d) * p (ix4 b h s n) := by
  pointwise [mix]

/-- Column `256 h + d` of the heads side by side is entry `d` of head `h`. -/
theorem heads_at (y : FVec Ideal S8x4x256x4096 .f32) (b : Fin 8) (s : Fin 4096) (h : Fin 4) (d : Fin 256) (hl : (h : ℕ) * 256 + d < 1024) :
    heads y (ix3 b s ⟨h * 256 + d, hl⟩) = y (ix4 b h d s) := by
  pointwise [heads]

/-- Starting a fold of `max` from a number and then comparing with it again changes nothing. -/
theorem max_fold {n : ℕ} (c : EReal) (f : Fin n → EReal) : max c (Finset.fold max c f Finset.univ) = Finset.fold max c f Finset.univ :=
  max_eq_right ((Finset.le_fold_max _).2 (.inl le_rfl))

/-- The softmax of one row of 256 scores. -/
def softRow (f : Fin 256 → EReal) (n : Fin 256) : EReal :=
  Ideal.div (Ideal.exp (f n - Finset.fold max (Ideal.ofBits .f32 0xFF800000#32) f Finset.univ))
    (∑ j : Fin 256, Ideal.exp (f j - Finset.fold max (Ideal.ofBits .f32 0xFF800000#32) f Finset.univ))

/-- One softmax weight. -/
theorem soft_at (s : FVec Ideal S8x4x4096x256 .f32) (b : Fin 8) (h : Fin 4) (i : Fin 4096) (n : Fin 256) :
    soft s (ix4 b h i n) = softRow (fun k => s (ix4 b h i k)) n := by
  rw [soft, probs_at]
  simp only [expo_at, top_at, max_fold, softRow]

/-- One entry of the reference's result, head by head, from the queries. -/
theorem cross_at (b : Fin 8) (i : Fin 4096) (l : Fin 1024) : cross x g km vm wq wo (ix3 b i l)
    = x (ix3 b i l) + ∑ h : Fin 4, ∑ d : Fin 256, (∑ n : Fin 256,
      softRow (fun k => (∑ e : Fin 256, query x g wq (ix3 b i ⟨h * 256 + e, by omega⟩) * km (ix3 b k ⟨h * 256 + e, by omega⟩)) * Ideal.ofBits .f32 0x3D800000#32) n
        * vm (ix3 b n ⟨h * 256 + d, by omega⟩)) * wo (ix2 ⟨h * 256 + d, by omega⟩ l) := by
  pointwise [cross]
  rw [Fin.sum_univ_tiles 4 256 rfl]
  simp only [heads_at, mix_at, values_at, soft_at, score_at, split_at, mul_comm (vm _)]

/-- The reference's result is the last step. -/
theorem cross_ref (m : (ℓ : Loc nD τ sig) → Buf (Elt Ideal) ℓ) (c : Dev nD) : Cert.CrossRefIdeal.Value.res_out0 m c
    = cross (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := rfl

end Cert.CrossRefIdeal.Steps
-- ==== Proof.CrossValue.lean ====
module

public import proofs.«01_k».proof.Proof.Gen.CrossIdeal.Value
public import proofs.«01_k».proof.Proof.CrossSteps

@[expose] public section

set_option maxRecDepth 16384

noncomputable section

/-! The cross-attention kernel's array after the run is the reference's result. -/

namespace Cert.CrossIdeal.Array

open Idealize.ShloMosaic Idealize.ShloMosaic.TcCoe Idealize.SL.Sem
open Idealize.ShloMosaic.Pipeline (Dat)
open Cert.CrossIdeal Cert.CrossIdeal.Gen
open Cert.CrossRefIdeal.Steps (softRow cross cross_at query_at)

variable (m : (ℓ : Loc nD τ sig) → Buf (Elt Ideal) ℓ)

/-- One query of a block of rows. -/
theorem query_blk (x : Vec Ideal S1x1024x1024 .f32) (g : Vec Ideal S1x1024 .f32) (wq : Vec Ideal S1024x1024 .bf16) (i l : Fin 1024) :
    k0_pay3 x g wq (ix2 i l) = ∑ k : Fin 1024, x (ix3 0 i k) * Ideal.rsqrt (Ideal.div (∑ j : Fin 1024, x (ix3 0 i j) * x (ix3 0 i j)) (Ideal.ofBits .f32 0x44800000#32) + Ideal.ofBits .f32 0x358637BD#32) * g (ix2 0 k) * wq (ix2 k l) := by
  pointwise [k0_pay3, k0_pay2]

/-- One softmax weight of head 0. -/
theorem weight0 (x : Vec Ideal S1x1024x1024 .f32) (g : Vec Ideal S1x1024 .f32) (wq : Vec Ideal S1024x1024 .bf16) (k : Vec Ideal S1x256x256 .bf16) (i : Fin 1024) (n : Fin 256) :
    k0_pay4 x g wq k (ix2 i n) = softRow (fun n => (∑ e : Fin 256, k0_pay3 x g wq (ix2 i ⟨e, by omega⟩) * k (ix3 0 n e)) * Ideal.ofBits .f32 0x3D800000#32) n := by
  unfold k0_pay4 softRow
  generalize k0_pay3 x g wq = q
  pointwise

/-- One output of head 0. -/
theorem out0 (p : FVec Ideal S1024x256 .bf16) (v : Vec Ideal S1x256x256 .bf16) (i : Fin 1024) (d : Fin 256) :
    k0_pay5 p v (ix2 i d) = ∑ n : Fin 256, p (ix2 i n) * v (ix3 0 n d) := by
  pointwise [k0_pay5]

/-- One output of head 1. -/
theorem out1 (q : FVec Ideal S1024x1024 .bf16) (k v : Vec Ideal S1x256x256 .bf16) (i : Fin 1024) (d : Fin 256) :
    k0_pay6 q k v (ix2 i d) = ∑ n : Fin 256, softRow (fun n => (∑ e : Fin 256, q (ix2 i ⟨256 + e, by omega⟩) * k (ix3 0 n e)) * Ideal.ofBits .f32 0x3D800000#32) n * v (ix3 0 n d) := by
  unfold k0_pay6 softRow
  pointwise

/-- One softmax weight of head 2. -/
theorem weight2 (q : FVec Ideal S1024x1024 .bf16) (k : Vec Ideal S1x256x256 .bf16) (i : Fin 1024) (n : Fin 256) :
    k0_pay7 q k (ix2 i n) = softRow (fun n => (∑ e : Fin 256, q (ix2 i ⟨512 + e, by omega⟩) * k (ix3 0 n e)) * Ideal.ofBits .f32 0x3D800000#32) n := by
  unfold k0_pay7 softRow
  pointwise

/-- One entry of the block written back. -/
theorem row_blk (x : FVec Ideal S1024x1024 .f32) (q : FVec Ideal S1024x1024 .bf16) (o0 o1 : FVec Ideal S1024x256 .f32) (p2 : FVec Ideal S1024x256 .bf16)
    (v2 k3 v3 : Vec Ideal S1x256x256 .bf16) (wo : Vec Ideal S1024x1024 .bf16) (i l : Fin 1024) :
    k0_pay1 x q o0 o1 p2 v2 k3 v3 wo (ix3 0 i l) = x (ix2 i l)
      + ((∑ d : Fin 256, o0 (ix2 i d) * wo (ix2 ⟨d, by omega⟩ l)) + (∑ d : Fin 256, o1 (ix2 i d) * wo (ix2 ⟨256 + d, by omega⟩ l))
        + (∑ d : Fin 256, (∑ n : Fin 256, p2 (ix2 i n) * v2 (ix3 0 n d)) * wo (ix2 ⟨512 + d, by omega⟩ l))
        + (∑ d : Fin 256, (∑ n : Fin 256, softRow (fun n => (∑ e : Fin 256, q (ix2 i ⟨768 + e, by omega⟩) * k3 (ix3 0 n e)) * Ideal.ofBits .f32 0x3D800000#32) n * v3 (ix3 0 n d)) * wo (ix2 ⟨768 + d, by omega⟩ l))) := by
  unfold k0_pay1 softRow
  pointwise
  rw [Fin.sum_univ_tiles 4 256 rfl, Fin.sum_univ_four]
  have h (d : Fin 256) : (d : ℕ) < 256 := d.isLt
  have h2 (d : Fin 256) : 512 + (d : ℕ) - 256 = 256 + d := by omega
  have h3 (d : Fin 256) : 768 + (d : ℕ) - 256 = 512 + d := by omega
  have e2 (d : Fin 256) : ¬ 512 + (d : ℕ) < 256 := by omega
  have e3 (d : Fin 256) : ¬ 768 + (d : ℕ) < 256 := by omega
  simp [h, h2, h3, e2, e3]

/-- Every window's block at every point. -/
theorem idx : ∀ t : Fin cfg0.N, win0_0.index t = ![t.val / 4, t.val % 4, 0] ∧ win0_1.index t = ![0, 0] ∧ win0_2.index t = ![t.val / 4, 0, 0]
    ∧ win0_3.index t = ![t.val / 4, 0, 0] ∧ win0_4.index t = ![0, 0] ∧ win0_5.index t = ![0, 0] ∧ win0_6.index t = ![t.val / 4, t.val % 4, 0] ∧ t.val < 32 :=
  (by decide +kernel : ∀ t : Fin grid0.N, _)

set_option maxHeartbeats 1600000 in
/-- The array after the run is the reference's. -/
theorem final (c : Dev nD) : (dats m 0 c).arrAt 6 (cfgs 0).N
    = cross (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]; frame_out
  refine Eq.trans ?_ ((congrArg (cross _ _ _ _ _ _) (eq_ix3 _)).trans (cross_at _ _ _ _ _ _ _ _ _)).symm
  set_option backward.isDefEq.respectTransparency false in simp only [query_at]
  rw [show y = ix3 (0 : Fin 1) (y 1) (y 2) from (eq_ix3 y).trans (congrArg (ix3 · (y 1) (y 2)) (Subsingleton.elim (α := Fin 1) _ _))]
  unfold k0_pay8
  set_option backward.isDefEq.respectTransparency false in simp only [row_blk, out0, weight0, out1, weight2, query_blk]
  rw [Fin.sum_univ_four]
  pointwise [k0_pay2]
  blk_point [iblk, V, idx t]

end Cert.CrossIdeal.Array
-- ==== Proof.MlpValue.lean ====
module

public import proofs.«01_k».proof.Proof.Gen.MlpIdeal.Value
public import proofs.«01_k».proof.Proof.Gen.MlpRefIdeal.Run
public import Idealize.ShloMosaic.Lib.Pipeline.ValueKit
public import Idealize.ShloMosaic.Lib.Pointwise

@[expose] public section

set_option maxRecDepth 16384

noncomputable section

/-! ## The reference's result as named steps -/

namespace Cert.MlpRefIdeal.Steps

open Idealize.ShloMosaic Idealize.ShloMosaic.TcCoe Idealize.SL.Sem
open Cert.MlpRefIdeal Cert.MlpRefIdeal.Gen

/-- The rows over their root mean square, times the gain. -/
def norm (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The hidden layer before it is squared. -/
def hidden (x : FVec Ideal S32768x1024 .f32) (g : FVec Ideal S1024 .f32) (wu : FVec Ideal S1024x4096 .bf16) : FVec Ideal S32768x4096 .f32 :=
  maximumf (Host.dotGeneral dot_S32768x1024_S1024x4096_S32768x4096_1_0_0_1_n_n none (norm x g) (extf .f32 wu bitsLt_bf16_f32)) (broadcastInDim S32768x4096 ![] bcast_S_S32768x4096 (constant S_ .f32 0x00000000#32))

/-- The reference's result. -/
def mlp (x : FVec Ideal S32768x1024 .f32) (g : FVec Ideal S1024 .f32) (wu : FVec Ideal S1024x4096 .bf16) (wd : FVec Ideal S4096x1024 .bf16) : FVec Ideal S32768x1024 .f32 :=
  addf x (Host.dotGeneral dot_S32768x4096_S4096x1024_S32768x1024_1_0_0_1_n_n none (mulf (hidden x g wu) (hidden x g wu)) (extf .f32 wd bitsLt_bf16_f32))

/-- One entry of a normalised row. -/
theorem norm_at (x : FVec Ideal S32768x1024 .f32) (g : FVec Ideal S1024 .f32) (r : Fin 32768) (k : Fin 1024) :
    norm x g (ix2 r k) = x (ix2 r k) * Ideal.rsqrt (Ideal.div (∑ l : Fin 1024, x (ix2 r l) * x (ix2 r l)) (Ideal.ofBits .f32 0x44800000#32) + Ideal.ofBits .f32 0x358637BD#32) * g (ix1 k) := by
  pointwise [norm]

/-- One entry of the reference's hidden layer, read out of its operations. -/
theorem hidden_at (x : FVec Ideal S32768x1024 .f32) (g : FVec Ideal S1024 .f32) (wu : FVec Ideal S1024x4096 .bf16) (r : Fin 32768) (f : Fin 4096) :
    hidden x g wu (ix2 r f) = max (∑ k : Fin 1024, x (ix2 r k) * Ideal.rsqrt (Ideal.div (∑ l : Fin 1024, x (ix2 r l) * x (ix2 r l)) (Ideal.ofBits .f32 0x44800000#32) + Ideal.ofBits .f32 0x358637BD#32) * g (ix1 k) * wu (ix2 k f)) 0 := by
  pointwise [hidden, norm]

/-- One entry of the reference's result, the hidden width cut into four. -/
theorem mlp_at (x : FVec Ideal S32768x1024 .f32) (g : FVec Ideal S1024 .f32) (wu : FVec Ideal S1024x4096 .bf16) (wd : FVec Ideal S4096x1024 .bf16) (r : Fin 32768) (l : Fin 1024) :
    mlp x g wu wd (ix2 r l) = x (ix2 r l)
      + (∑ f : Fin 1024, hidden x g wu (ix2 r ⟨f, by omega⟩) * hidden x g wu (ix2 r ⟨f, by omega⟩) * wd (ix2 ⟨f, by omega⟩ l))
      + (∑ f : Fin 1024, hidden x g wu (ix2 r ⟨1024 + f, by omega⟩) * hidden x g wu (ix2 r ⟨1024 + f, by omega⟩) * wd (ix2 ⟨1024 + f, by omega⟩ l))
      + (∑ f : Fin 1024, hidden x g wu (ix2 r ⟨2048 + f, by omega⟩) * hidden x g wu (ix2 r ⟨2048 + f, by omega⟩) * wd (ix2 ⟨2048 + f, by omega⟩ l))
      + (∑ f : Fin 1024, hidden x g wu (ix2 r ⟨3072 + f, by omega⟩) * hidden x g wu (ix2 r ⟨3072 + f, by omega⟩) * wd (ix2 ⟨3072 + f, by omega⟩ l)) := by
  pointwise [mlp]
  rw [Fin.sum_univ_tiles 4 1024 rfl]
  simp only [Fin.sum_univ_four, ← add_assoc]
  simp only [Fin.val_zero, Fin.val_one, Fin.val_two, (rfl : ((3 : Fin 4) : ℕ) = 3), Nat.zero_mul, Nat.one_mul, Nat.reduceMul, Nat.zero_add]
  rfl

end Cert.MlpRefIdeal.Steps

/-! ## The kernel's array -/

namespace Cert.MlpIdeal.Array

open Idealize.ShloMosaic Idealize.ShloMosaic.TcCoe Idealize.SL.Sem
open Idealize.ShloMosaic.Pipeline (Dat)
open Cert.MlpIdeal Cert.MlpIdeal.Gen
open Cert.MlpRefIdeal.Steps (hidden mlp hidden_at mlp_at)

variable (m : (ℓ : Loc nD τ sig) → Buf (Elt Ideal) ℓ)

/-- Every window's block at every point: the rows move with the point, the weights do not. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

set_option maxHeartbeats 1600000 in
/-- The array after the run is the reference's. -/
theorem final (c : Dev nD) : (dats m 0 c).arrAt 5 (cfgs 0).N
    = mlp (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]; frame_out
  refine Eq.trans ?_ ((congrArg (mlp _ _ _ _) (eq_ix2 _)).trans (mlp_at _ _ _ _ _ _)).symm
  set_option backward.isDefEq.respectTransparency false in simp only [hidden_at]
  pointwise [k0_pay1, k0_pay2, k0_pay3]
  blk_point [iblk, V, idx t]

end Cert.MlpIdeal.Array
-- ==== Proof.MlpfValue.lean ====
module

public import proofs.«01_k».proof.Proof.Gen.MlpfIdeal.Value
public import proofs.«01_k».proof.Proof.Gen.MlpfRefIdeal.Run
public import proofs.«01_k».proof.Proof.MlpValue
public import Idealize.ShloMosaic.Lib.Pipeline.ValueKit
public import Idealize.ShloMosaic.Lib.Pointwise

@[expose] public section

set_option maxRecDepth 16384

noncomputable section

/-! ## The kernel's array -/

namespace Cert.MlpfIdeal.Array

open Idealize.ShloMosaic Idealize.ShloMosaic.TcCoe Idealize.SL.Sem
open Idealize.ShloMosaic.Pipeline (Dat)
open Cert.MlpfIdeal Cert.MlpfIdeal.Gen
open Cert.MlpRefIdeal.Steps (norm hidden mlp norm_at hidden_at mlp_at)

variable (m : (ℓ : Loc nD τ sig) → Buf (Elt Ideal) ℓ)

/-- Every window's block at every point: the rows move with the point, the weights do not. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ t.val < 32 :=
  (by decide +kernel : ∀ t : Fin grid0.N, _)

set_option maxHeartbeats 1600000 in
/-- The array after the run is the reference's. -/
theorem final (c : Dev nD) : (dats m 0 c).arrAt 5 (cfgs 0).N
    = norm (mlp (m ((c : Thread nD τ).loc main_arg0)) (m ((c : Thread nD τ).loc main_arg1)) (m ((c : Thread nD τ).loc main_arg2)) (m ((c : Thread nD τ).loc main_arg3))) (m ((c : Thread nD τ).loc main_arg4)) := by
  refine (dats m 0 c).arrAt_eq_of_covers 5 _ (by decide +kernel) fun t _ y => ?_
  blk_simp
  rw [after0_5]; frame_out
  refine Eq.trans ?_ ((congrArg (norm _ _) (eq_ix2 _)).trans (norm_at _ _ _ _)).symm
  set_option backward.isDefEq.respectTransparency false in simp only [mlp_at, hidden_at]
  pointwise [k0_pay1, k0_pay2, k0_pay3]
  blk_point [iblk, V, idx t]

end Cert.MlpfIdeal.Array
-- ==== Proof.MergeSteps.lean ====
module

public import proofs.«01_k».proof.Proof.Gen.MergeRefIdeal.Run
public import Idealize.ShloMosaic.Lib.Pipeline.ValueKit
public import Idealize.ShloMosaic.Lib.Pointwise

@[expose] public section

set_option maxRecDepth 16384

noncomputable section

/-! The merge reference's result as named steps, and each step at an index. -/

namespace Cert.MergeRefIdeal.Steps

open Idealize.ShloMosaic Idealize.ShloMosaic.TcCoe Idealize.SL.Sem
open Cert.MergeRefIdeal Cert.MergeRefIdeal.Gen

variable (x : FVec Ideal S32768x1024 .f32) (p : FVec Ideal S32768x10240 .bf16) (ya yb yc : FVec Ideal S32768x512 .bf16)
  (wb : FVec Ideal S3x512x1024 .bf16) (wo : FVec Ideal S1024x1024 .bf16)

/-- The three branches' gates: logistic of the projection's first 3072 columns. -/
def gate : FVec Ideal S32768x3x1024 .f32 :=
  Host.divf (broadcastInDim S32768x3x1024 ![] bcast_S_S32768x3x1024 (constant S_ .f32 0x3F800000#32)) (addf (broadcastInDim S32768x3x1024 ![] bcast_S_S32768x3x1024 (constant S_ .f32 0x3F800000#32)) (Host.exp (Host.negf (shapeCast _ (extf .f32 (extractStridedSlice S32768x3072 ![0, 0] p slices_S32768x10240_S32768x3072_0_0) bitsLt_bf16_f32) shapeCasts_S32768x3072_S32768x3x1024))))

/-- The three branches side by side. -/
def stack : FVec Ideal S32768x3x512 .f32 :=
  (concatenate S32768x3x512 1 [⟨S32768x1x512, ((broadcastInDim S32768x1x512 ![0, 2] bcast_S32768x512_S32768x1x512_0_2 (extf .f32 ya bitsLt_bf16_f32)) : (⟨S32768x1x512, .f32⟩ : BufTy).Contents (Elt Ideal))⟩, ⟨S32768x1x512, ((broadcastInDim S32768x1x512 ![0, 2] bcast_S32768x512_S32768x1x512_0_2 (extf .f32 yb bitsLt_bf16_f32)) : (⟨S32768x1x512, .f32⟩ : BufTy).Contents (Elt Ideal))⟩, ⟨S32768x1x512, ((broadcastInDim S32768x1x512 ![0, 2] bcast_S32768x512_S32768x1x512_0_2 (extf .f32 yc bitsLt_bf16_f32)) : (⟨S32768x1x512, .f32⟩ : BufTy).Contents (Elt Ideal))⟩] concatenates_S32768x1x512_S32768x1x512_S32768x1x512_S32768x3x512_d1 : (⟨S32768x3x512, .f32⟩ : BufTy).Contents (Elt Ideal))

/-- Each branch `s` times its weight. -/
def lift (s : FVec Ideal S32768x3x512 .f32) : FVec Ideal S3x1024x32768 .f32 :=
  Host.dotGeneral dot_S3x512x1024_S32768x3x512_S3x1024x32768_1_2_2_0_0_1 none (extf .f32 wb bitsLt_bf16_f32) s

/-- The gated sum over the branches. -/
def merged (g : FVec Ideal S32768x3x1024 .f32) (u : FVec Ideal S3x1024x32768 .f32) : FVec Ideal S32768x1024 .f32 :=
  Host.reduceAdd (mulf g (transpose S32768x3x1024 [2, 0, 1] u transposes_S3x1024x32768_S32768x3x1024_2_0_1)) (constant S_ .f32 0x00000000#32) reducesTo_S32768x3x1024_S32768x1024_d1 h_S_

/-- The reference's result. -/
def merge : FVec Ideal S32768x1024 .f32 :=
  addf x (Host.dotGeneral dot_S32768x1024_S1024x1024_S32768x1024_1_0_0_1_n_n none (merged (gate p) (lift wb (stack ya yb yc))) (extf .f32 wo bitsLt_bf16_f32))

/-- The logistic function. -/
def sigm (v : EReal) : EReal := Ideal.div (Ideal.ofBits .f32 0x3F800000#32) (Ideal.ofBits .f32 0x3F800000#32 + Ideal.exp (-v))

/-- One gate of branch `b`. -/
theorem gate_at (i : Fin 32768) (b : Fin 3) (l : Fin 1024) : gate p (ix3 i b l) = sigm (p (ix2 i ⟨b * 1024 + l, by omega⟩)) := by
  unfold sigm
  pointwise [gate]

theorem stack_at0 (i : Fin 32768) (d : Fin 512) : stack ya yb yc (ix3 i 0 d) = ya (ix2 i d) := by
  pointwise [stack]
theorem stack_at1 (i : Fin 32768) (d : Fin 512) : stack ya yb yc (ix3 i 1 d) = yb (ix2 i d) := by
  pointwise [stack]
theorem stack_at2 (i : Fin 32768) (d : Fin 512) : stack ya yb yc (ix3 i 2 d) = yc (ix2 i d) := by
  pointwise [stack]

/-- One entry of a branch times its weight. -/
theorem lift_at (s : FVec Ideal S32768x3x512 .f32) (b : Fin 3) (l : Fin 1024) (i : Fin 32768) :
    lift wb s (ix3 b l i) = ∑ d : Fin 512, wb (ix3 b d l) * s (ix3 i b d) := by
  pointwise [lift]

/-- One entry of the gated sum. -/
theorem merged_at (g : FVec Ideal S32768x3x1024 .f32) (u : FVec Ideal S3x1024x32768 .f32) (i : Fin 32768) (l : Fin 1024) :
    merged g u (ix2 i l) = ∑ b : Fin 3, g (ix3 i b l) * u (ix3 b l i) := by
  pointwise [merged]

/-- One entry of the reference's result. -/
theorem merge_at (i : Fin 32768) (l : Fin 1024) : merge x p ya yb yc wb wo (ix2 i l)
    = x (ix2 i l) + ∑ k : Fin 1024, (sigm (p (ix2 i ⟨k, by omega⟩)) * (∑ d : Fin 512, ya (ix2 i d) * wb (ix3 0 d k))
      + sigm (p (ix2 i ⟨1024 + k, by omega⟩)) * (∑ d : Fin 512, yb (ix2 i d) * wb (ix3 1 d k))
      + sigm (p (ix2 i ⟨2048 + k, by omega⟩)) * (∑ d : Fin 512, yc (ix2 i d) * wb (ix3 2 d k))) * wo (ix2 k l) := by
  pointwise [merge]
  simp only [merged_at, gate_at, lift_at, Fin.sum_univ_three, stack_at0, stack_at1, stack_at2, mul_comm (wb _)]
  simp

end Cert.MergeRefIdeal.Steps
-- ==== Proof.MergeValue.lean ====
module

public import proofs.«01_k».proof.Proof.Gen.MergeIdeal.Value
public import proofs.«01_k».proof.Proof.MergeSteps
public import Idealize.ShloMosaic.Lib.IdealHost

@[expose] public section

set_option maxRecDepth 16384

noncomputable section

/-! The merge kernel's array after the run is the reference's result. -/

namespace Cert.MergeIdeal.Array

open Idealize.ShloMosaic Idealize.ShloMosaic.TcCoe Idealize.SL.Sem
open Idealize.ShloMosaic.Pipeline (Dat)
open Cert.MergeIdeal Cert.MergeIdeal.Gen
open Cert.MergeRefIdeal.Steps (sigm merge merge_at)

variable (m : (ℓ : Loc nD τ sig) → Buf (Elt Ideal) ℓ)

/-- The device's logistic is the same function, written out. -/
theorem logistic_eq (v : EReal) : Ideal.logistic v = sigm v := by
  rw [sigm, Ideal.ofBits_one_f32]
  rfl

/-- One gated sum over the branches. -/
theorem gated_blk (g0 : Vec Ideal S1024x1024 .bf16) (y0 : Vec Ideal S1024x512 .bf16) (w0 : Vec Ideal S1x512x1024 .bf16)
    (g1 : Vec Ideal S1024x1024 .bf16) (y1 : Vec Ideal S1024x512 .bf16) (w1 : Vec Ideal S1x512x1024 .bf16)
    (g2 : Vec Ideal S1024x1024 .bf16) (y2 : Vec Ideal S1024x512 .bf16) (w2 : Vec Ideal S1x512x1024 .bf16) (i k : Fin 1024) :
    k0_pay2 g0 y0 w0 g1 y1 w1 g2 y2 w2 (ix2 i k)
      = sigm (g0 (ix2 i k)) * (∑ d : Fin 512, y0 (ix2 i d) * w0 (ix3 0 d k)) + sigm (g1 (ix2 i k)) * (∑ d : Fin 512, y1 (ix2 i d) * w1 (ix3 0 d k))
        + sigm (g2 (ix2 i k)) * (∑ d : Fin 512, y2 (ix2 i d) * w2 (ix3 0 d k)) := by
  pointwise [k0_pay2]
  simp only [logistic_eq]

/-- One entry of the block written back. -/
theorem row_blk (x : Vec Ideal S1024x1024 .f32) (g : FVec Ideal S1024x1024 .bf16) (wo : Vec Ideal S1024x1024 .bf16) (i l : Fin 1024) :
    k0_pay1 x g wo (ix2 i l) = x (ix2 i l) + ∑ k : Fin 1024, g (ix2 i k) * wo (ix2 k l) := by
  pointwise [k0_pay1]

/-- Every window's block at every point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0] ∧ win0_7.index t = ![t.val, 0] ∧ t.val < 32 :=
  (by decide +kernel : ∀ t : Fin grid0.N, _)

/-- The block of the projection's columns a point reads: 1024 rows of the first 3072 columns. -/
theorem proj_blk (c : Dev nD) (t : Fin cfg0.N) (i : Fin 1024) (k : Fin 3072) : (X0_1 m c t : Vec Ideal S1024x3072 .bf16) (ix2 i k)
    = m ((c : Thread nD τ).loc main_arg1) (ix2 ⟨t.val * 1024 + i.val, by have := (idx t).2.2.2.2.2.2.2.2; omega⟩ ⟨k.val, by omega⟩) := by
  have key : ∀ y : ((cfg0.win 1).xblock (cfg0.grid.coords t)).Idx, (y 0).val = i.val → (y 1).val = k.val → iblk m c 1 t y
      = m ((c : Thread nD τ).loc main_arg1) (ix2 ⟨t.val * 1024 + i.val, by have := (idx t).2.2.2.2.2.2.2.2; omega⟩ ⟨k.val, by omega⟩) := by
    intro y h0 h1
    blk_ext [iblk, V, idx t, h0, h1]
  unfold X0_1 Pipeline.Window.fill
  rw [dif_pos (moved0_1 t (ix2 i k))]
  exact key _ rfl rfl

/-- A thousand columns of that block, from column `o` on. -/
theorem gate_blk (c : Dev nD) (t : Fin cfg0.N) (o : ℕ) (ho : o ≤ 2048) (inb) (i k : Fin 1024) :
    View.ld (X0_1 m c t : Vec Ideal S1024x3072 .bf16) (Rect.unit (s := S1024x3072) ![0, o] ![1024, 1024] inb) (ix2 i k)
      = m ((c : Thread nD τ).loc main_arg1) (ix2 ⟨t.val * 1024 + i.val, by have := (idx t).2.2.2.2.2.2.2.2; omega⟩ ⟨o + k.val, by omega⟩) := by
  refine Eq.trans (congrArg (X0_1 m c t : Vec Ideal S1024x3072 .bf16) ?_) (proj_blk m c t i ⟨o + k.val, by omega⟩)
  funext a
  match a with
  | ⟨0, _⟩ => exact Fin.ext (by simp)
  | ⟨1, _⟩ => exact Fin.ext (by simp)

set_option maxHeartbeats 1600000 in
/-- The array after the run is the reference's. -/
theorem final (c : Dev nD) : (dats m 0 c).arrAt 7 (cfgs 0).N
    = merge (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]; unfold outsAt0; frame_out
  refine Eq.trans ?_ ((congrArg (merge _ _ _ _ _ _ _) (eq_ix2 _)).trans (merge_at _ _ _ _ _ _ _ _ _)).symm
  rw [show y = ix2 (y 0 : Fin 1024) (y 1 : Fin 1024) from eq_ix2 y]
  set_option backward.isDefEq.respectTransparency false in simp only [row_blk, gated_blk]
  set_option backward.isDefEq.respectTransparency false in simp only [gate_blk m c t 0 (by decide), gate_blk m c t 1024 (by decide), gate_blk m c t 2048 (by decide)]
  blk_point [iblk, V, idx t]

end Cert.MergeIdeal.Array
-- ==== Proof.ProjSteps.lean ====
module

public import proofs.«01_k».proof.Proof.Gen.ProjRefIdeal.Run
public import Idealize.ShloMosaic.Lib.Pipeline.ValueKit
public import Idealize.ShloMosaic.Lib.Pointwise

@[expose] public section

set_option maxRecDepth 16384

noncomputable section

/-! The input projection's reference result as named steps, and each step at an index. -/

namespace Cert.ProjRefIdeal.Steps

open Idealize.ShloMosaic Idealize.ShloMosaic.TcCoe Idealize.SL.Sem
open Cert.ProjRefIdeal Cert.ProjRefIdeal.Gen

variable (x : FVec Ideal S32768x1024 .f32) (g : FVec Ideal S1024 .f32) (w : FVec Ideal S2x1024x9744 .f32)

/-- The rows over their root mean square, times the gain. -/
def norm : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0 (Host.reduceAdd (mulf x x) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32)))))) (broadcastInDim S32768x1024 ![0, 1] bcast_S1x1024_S32768x1024_0_1 (broadcastInDim S1x1024 ![1] bcast_S1024_S1x1024_1 g))

/-- The normalised rows `h` times the first layer's weight. -/
def dots (h : FVec Ideal S32768x1024 .f32) : FVec Ideal S32768x9744 .f32 :=
  Host.dotGeneral dot_S32768x1024_S1024x9744_S32768x9744_1_0_0_1_n_n none h (shapeCast _ (extractStridedSlice S1x1024x9744 ![0, 0, 0] w slices_S2x1024x9744_S1x1024x9744_0_0_0) shapeCasts_S1x1024x9744_S1024x9744)

/-- The columns `d` in the packed order, with columns of zeros behind. -/
def pack (d : FVec Ideal S32768x9744 .f32) : FVec Ideal S32768x10240 .bf16 :=
  truncf .bf16 ((concatenate S32768x10240 1 [⟨S32768x3072, ((extractStridedSlice S32768x3072 ![0, 6672] d slices_S32768x9744_S32768x3072_0_6672) : (⟨S32768x3072, .f32⟩ : BufTy).Contents (Elt Ideal))⟩, ⟨S32768x512, ((extractStridedSlice S32768x512 ![0, 0] d slices_S32768x9744_S32768x512_0_0) : (⟨S32768x512, .f32⟩ : BufTy).Contents (Elt Ideal))⟩, ⟨S32768x512, ((extractStridedSlice S32768x512 ![0, 1024] d slices_S32768x9744_S32768x512_0_1024) : (⟨S32768x512, .f32⟩ : BufTy).Contents (Elt Ideal))⟩, ⟨S32768x512, ((extractStridedSlice S32768x512 ![0, 1552] d slices_S32768x9744_S32768x512_0_1552) : (⟨S32768x512, .f32⟩ : BufTy).Contents (Elt Ideal))⟩, ⟨S32768x1536, ((extractStridedSlice S32768x1536 ![0, 2064] d slices_S32768x9744_S32768x1536_0_2064) : (⟨S32768x1536, .f32⟩ : BufTy).Contents (Elt Ideal))⟩, ⟨S32768x1536, ((extractStridedSlice S32768x1536 ![0, 3600] d slices_S32768x9744_S32768x1536_0_3600) : (⟨S32768x1536, .f32⟩ : BufTy).Contents (Elt Ideal))⟩, ⟨S32768x1536, ((extractStridedSlice S32768x1536 ![0, 5136] d slices_S32768x9744_S32768x1536_0_5136) : (⟨S32768x1536, .f32⟩ : BufTy).Contents (Elt Ideal))⟩, ⟨S32768x256, ((extractStridedSlice S32768x256 ![0, 512] d slices_S32768x9744_S32768x256_0_512) : (⟨S32768x256, .f32⟩ : BufTy).Contents (Elt Ideal))⟩, ⟨S32768x256, ((extractStridedSlice S32768x256 ![0, 768] d slices_S32768x9744_S32768x256_0_768) : (⟨S32768x256, .f32⟩ : BufTy).Contents (Elt Ideal))⟩, ⟨S32768x16, ((extractStridedSlice S32768x16 ![0, 1536] d slices_S32768x9744_S32768x16_0_1536) : (⟨S32768x16, .f32⟩ : BufTy).Contents (Elt Ideal))⟩, ⟨S32768x496, ((broadcastInDim S32768x496 ![] bcast_S_S32768x496 (constant (F := Ideal) S_ .f32 0x00000000#32)) : (⟨S32768x496, .f32⟩ : BufTy).Contents (Elt Ideal))⟩] concatenates_S32768x3072_S32768x512_S32768x512_S32768x512_S32768x1536_S32768x1536_S32768x1536_S32768x256_S32768x256_S32768x16_S32768x496_S32768x10240_d1 : (⟨S32768x10240, .f32⟩ : BufTy).Contents (Elt Ideal))) bitsLt_bf16_f32

/-- The reference's result. -/
def proj : FVec Ideal S32768x10240 .bf16 := pack (dots w (norm x g))

/-- One entry of the normalised rows. -/
theorem norm_at (i : Fin 32768) (k : Fin 1024) : norm x g (ix2 i k)
    = x (ix2 i k) * Ideal.rsqrt (Ideal.div (∑ j : Fin 1024, x (ix2 i j) * x (ix2 i j)) (Ideal.ofBits .f32 0x44800000#32) + Ideal.ofBits .f32 0x358637BD#32) * g (ix1 k) := by
  pointwise [norm]

/-- One product, over the first layer's weight. -/
theorem dots_at (h : FVec Ideal S32768x1024 .f32) (i : Fin 32768) (l : Fin 9744) :
    dots w h (ix2 i l) = ∑ k : Fin 1024, h (ix2 i k) * w (ix3 0 k l) := by
  pointwise [dots]

/-- The packed order: column `l` of the packed matrix is which of the 9744 columns `f`, or zero. -/
def pick (f : Fin 9744 → EReal) (l : Fin 10240) : EReal :=
  if h : l.val < 3072 then f ⟨6672 + l.val, by omega⟩ else
  if h : l.val - 3072 < 512 then f ⟨l.val - 3072, by omega⟩ else
  if h : l.val - 3072 - 512 < 512 then f ⟨1024 + (l.val - 3072 - 512), by omega⟩ else
  if h : l.val - 3072 - 512 - 512 < 512 then f ⟨1552 + (l.val - 3072 - 512 - 512), by omega⟩ else
  if h : l.val - 3072 - 512 - 512 - 512 < 1536 then f ⟨2064 + (l.val - 3072 - 512 - 512 - 512), by omega⟩ else
  if h : l.val - 3072 - 512 - 512 - 512 - 1536 < 1536 then f ⟨3600 + (l.val - 3072 - 512 - 512 - 512 - 1536), by omega⟩ else
  if h : l.val - 3072 - 512 - 512 - 512 - 1536 - 1536 < 1536 then f ⟨5136 + (l.val - 3072 - 512 - 512 - 512 - 1536 - 1536), by omega⟩ else
  if h : l.val - 3072 - 512 - 512 - 512 - 1536 - 1536 - 1536 < 256 then f ⟨512 + (l.val - 3072 - 512 - 512 - 512 - 1536 - 1536 - 1536), by omega⟩ else
  if h : l.val - 3072 - 512 - 512 - 512 - 1536 - 1536 - 1536 - 256 < 256 then f ⟨768 + (l.val - 3072 - 512 - 512 - 512 - 1536 - 1536 - 1536 - 256), by omega⟩ else
  if h : l.val - 3072 - 512 - 512 - 512 - 1536 - 1536 - 1536 - 256 - 256 < 16 then f ⟨1536 + (l.val - 3072 - 512 - 512 - 512 - 1536 - 1536 - 1536 - 256 - 256), by omega⟩ else
  0

/-- One packed entry. -/
theorem pack_at (d : FVec Ideal S32768x9744 .f32) (i : Fin 32768) (l : Fin 10240) : pack d (ix2 i l) = pick (fun c => d (ix2 i c)) l := by
  unfold pick
  pointwise [pack]

/-- A choice that does not depend on the summation index is made before the sum. -/
theorem sum_dite_mul {c : Prop} [Decidable c] (h : Fin 1024 → EReal) (a : c → Fin 1024 → EReal) (b : Fin 1024 → EReal) :
    ∑ k : Fin 1024, h k * (if hc : c then a hc k else b k) = if hc : c then ∑ k : Fin 1024, h k * a hc k else ∑ k : Fin 1024, h k * b k := by
  by_cases hc : c
  · simp only [dif_pos hc]
  · simp only [dif_neg hc]

/-- A sum of products over packed columns is the packed sums. -/
theorem pick_sum (h : Fin 1024 → EReal) (f : Fin 1024 → Fin 9744 → EReal) (l : Fin 10240) :
    ∑ k : Fin 1024, h k * pick (f k) l = pick (fun c => ∑ k : Fin 1024, h k * f k c) l := by
  unfold pick
  simp only [sum_dite_mul, mul_zero, Finset.sum_const_zero]

/-- One entry of the reference's result. -/
theorem proj_at (i : Fin 32768) (l : Fin 10240) : proj x g w (ix2 i l)
    = ∑ k : Fin 1024, norm x g (ix2 i k) * pick (fun c => w (ix3 0 k c)) l := by
  rw [proj, pack_at, pick_sum]
  simp only [dots_at]

end Cert.ProjRefIdeal.Steps
-- ==== Proof.ProjValue.lean ====
module

public import proofs.«01_k».proof.Proof.Gen.ProjIdeal.Value
public import proofs.«01_k».proof.Proof.ProjSteps
public import Idealize.ShloMosaic.Lib.Pipeline.ReadBack

@[expose] public section

set_option maxRecDepth 16384

noncomputable section

/-! The projection kernel's array after the run is the reference's result. -/

namespace Cert.ProjIdeal.Array

open Idealize.ShloMosaic Idealize.ShloMosaic.TcCoe Idealize.SL.Sem
open Idealize.ShloMosaic.Pipeline (Dat)
open Cert.ProjIdeal Cert.ProjIdeal.Gen
open Cert.ProjRefIdeal.Steps (norm pick proj norm_at proj_at)

variable (m : (ℓ : Loc nD τ sig) → Buf (Elt Ideal) ℓ)

/-- One entry of a normalised block of rows. -/
theorem norm_blk (x : Vec Ideal S1024x1024 .f32) (g : Vec Ideal S1x1024 .f32) (i k : Fin 1024) : k0_pay3 x g (ix2 i k)
    = x (ix2 i k) * Ideal.rsqrt (Ideal.div (∑ j : Fin 1024, x (ix2 i j) * x (ix2 i j)) (Ideal.ofBits .f32 0x44800000#32) + Ideal.ofBits .f32 0x358637BD#32) * g (ix2 0 k) := by
  pointwise [k0_pay3]

/-- The weight's columns in the packed order, with columns of zeros behind, as the host lays them out. -/
def packW (w : FVec Ideal S2x1024x9744 .f32) : FVec Ideal S2x1024x10240 .bf16 :=
  concatenate S2x1024x10240 2 [⟨S2x1024x3072, (extractStridedSlice S2x1024x3072 ![0, 0, 6672] (truncf .bf16 w bitsLt_bf16_f32) slices_S2x1024x9744_S2x1024x3072_0_0_6672 : (⟨S2x1024x3072, .bf16⟩ : BufTy).Contents (Elt Ideal))⟩, ⟨S2x1024x512, (extractStridedSlice S2x1024x512 ![0, 0, 0] (truncf .bf16 w bitsLt_bf16_f32) slices_S2x1024x9744_S2x1024x512_0_0_0 : (⟨S2x1024x512, .bf16⟩ : BufTy).Contents (Elt Ideal))⟩, ⟨S2x1024x512, (extractStridedSlice S2x1024x512 ![0, 0, 1024] (truncf .bf16 w bitsLt_bf16_f32) slices_S2x1024x9744_S2x1024x512_0_0_1024 : (⟨S2x1024x512, .bf16⟩ : BufTy).Contents (Elt Ideal))⟩, ⟨S2x1024x512, (extractStridedSlice S2x1024x512 ![0, 0, 1552] (truncf .bf16 w bitsLt_bf16_f32) slices_S2x1024x9744_S2x1024x512_0_0_1552 : (⟨S2x1024x512, .bf16⟩ : BufTy).Contents (Elt Ideal))⟩, ⟨S2x1024x1536, (extractStridedSlice S2x1024x1536 ![0, 0, 2064] (truncf .bf16 w bitsLt_bf16_f32) slices_S2x1024x9744_S2x1024x1536_0_0_2064 : (⟨S2x1024x1536, .bf16⟩ : BufTy).Contents (Elt Ideal))⟩, ⟨S2x1024x1536, (extractStridedSlice S2x1024x1536 ![0, 0, 3600] (truncf .bf16 w bitsLt_bf16_f32) slices_S2x1024x9744_S2x1024x1536_0_0_3600 : (⟨S2x1024x1536, .bf16⟩ : BufTy).Contents (Elt Ideal))⟩, ⟨S2x1024x1536, (extractStridedSlice S2x1024x1536 ![0, 0, 5136] (truncf .bf16 w bitsLt_bf16_f32) slices_S2x1024x9744_S2x1024x1536_0_0_5136 : (⟨S2x1024x1536, .bf16⟩ : BufTy).Contents (Elt Ideal))⟩, ⟨S2x1024x256, (extractStridedSlice S2x1024x256 ![0, 0, 512] (truncf .bf16 w bitsLt_bf16_f32) slices_S2x1024x9744_S2x1024x256_0_0_512 : (⟨S2x1024x256, .bf16⟩ : BufTy).Contents (Elt Ideal))⟩, ⟨S2x1024x256, (extractStridedSlice S2x1024x256 ![0, 0, 768] (truncf .bf16 w bitsLt_bf16_f32) slices_S2x1024x9744_S2x1024x256_0_0_768 : (⟨S2x1024x256, .bf16⟩ : BufTy).Contents (Elt Ideal))⟩, ⟨S2x1024x16, (extractStridedSlice S2x1024x16 ![0, 0, 1536] (truncf .bf16 w bitsLt_bf16_f32) slices_S2x1024x9744_S2x1024x16_0_0_1536 : (⟨S2x1024x16, .bf16⟩ : BufTy).Contents (Elt Ideal))⟩, ⟨S2x1024x496, (broadcastInDim S2x1024x496 ![] bcast_S_S2x1024x496 (constant (F := Ideal) S_ .bf16 0x0000#16) : (⟨S2x1024x496, .bf16⟩ : BufTy).Contents (Elt Ideal))⟩] concatenates_S2x1024x3072_S2x1024x512_S2x1024x512_S2x1024x512_S2x1024x1536_S2x1024x1536_S2x1024x1536_S2x1024x256_S2x1024x256_S2x1024x16_S2x1024x496_S2x1024x10240_d2

/-- One packed weight entry. -/
theorem packW_at (w : FVec Ideal S2x1024x9744 .f32) (b : Fin 2) (k : Fin 1024) (l : Fin 10240) :
    packW w (ix3 b k l) = pick (fun c => w (ix3 b k c)) l := by
  unfold pick
  pointwise [packW]

set_option maxHeartbeats 4000000 in
/-- The weight the region reads is the packed weight. -/
theorem weight (c : Dev nD) : V m c main_v13 = packW (m ((c : Thread nD τ).loc main_arg2)) := by
  unfold V; after_results; rfl

/-- Every window's block at every point: rows move with `t / 4`, columns with `t % 4`. -/
theorem idx : ∀ t : Fin cfg0.N, win0_0.index t = ![t.val / 4, 0] ∧ win0_1.index t = ![0, 0] ∧ win0_2.index t = ![0, 0, t.val % 4]
    ∧ win0_3.index t = ![t.val / 4, t.val % 4] ∧ t.val < 128 :=
  (by decide +kernel : ∀ t : Fin grid0.N, _)

/-- One entry of a tile's product: every tile of 512 columns is the same product of its columns. -/
theorem tile (h : Vec Ideal S1024x1024 .bf16) (w : Vec Ideal S1x1024x512 .bf16) (i : Fin 1024) (l : Fin 512) :
    k0_pay4 h w (ix2 i l) = ∑ k : Fin 1024, h (ix2 i k) * w (ix3 0 k l) := by
  pointwise [k0_pay4]

/-- The rows normalised at point `t` are the reference's rows of the point's row block. -/
theorem fresh (c : Dev nD) (t : Fin cfg0.N) (i k : Fin 1024) : k0_pay3 (iblk m c 0 t) (iblk m c 1 t) (ix2 i k)
    = norm (m ((c : Thread nD τ).loc main_arg0)) (m ((c : Thread nD τ).loc main_arg1)) (ix2 ⟨t.val / 4 * 1024 + i.val, by have := (idx t).2.2.2.2; omega⟩ k) := by
  rw [norm_at, norm_blk]
  blk_point [iblk, V, idx t]

/-- Where a tile's column lies in the weight's block. -/
theorem column (p : ℕ) (inb : ∀ a, (![0, 0, p] : Fin 3 → ℕ) a + (![1, 1024, 512] : Fin 3 → ℕ) a ≤ S1x1024x2560.size a) (k : Fin 1024) (b : Fin 512) (o : Fin 2560)
    (h : o.val = p + b.val) : (Rect.unit ![0, 0, p] ![1, 1024, 512] inb : Rect S1x1024x2560).idx (ix3 (0 : Fin 1) k b) = ix3 (0 : Fin 1) k o := by
  refine funext fun a => Fin.ext ((Rect.idx_unit_val _ _ _ _ a).trans ?_)
  match a with
  | ⟨0, _⟩ => rfl
  | ⟨1, _⟩ => exact Nat.zero_add _
  | ⟨2, _⟩ => exact h.symm

/-! The five tiles are computed alike. -/

theorem pay1 : k0_pay1 (F := Ideal) = k0_pay4 := rfl
theorem pay2 : k0_pay2 (F := Ideal) = k0_pay4 := rfl
theorem pay5 : k0_pay5 (F := Ideal) = k0_pay4 := rfl
theorem pay6 : k0_pay6 (F := Ideal) = k0_pay4 := rfl

/-- What the carried block of rows holds after point `n`: the normalised rows of the point's row block. -/
theorem scratch (c : Dev nD) : ∀ (n : ℕ) (hn : n < cfg0.N) (i k : Fin 1024), (outsAt0 m c n hn).2 (ix2 i k)
    = norm (m ((c : Thread nD τ).loc main_arg0)) (m ((c : Thread nD τ).loc main_arg1)) (ix2 ⟨n / 4 * 1024 + i.val, by have := (idx ⟨n, hn⟩).2.2.2.2; simp only at this; omega⟩ k) := by
  intro n
  induction n with
  | zero =>
    intro hn i k
    rw [outsAt0_A m c ⟨0, hn⟩ rfl]; frame_out
    exact fresh m c ⟨0, hn⟩ i k
  | succ n ih =>
    intro hn i k
    by_cases h : (n + 1) % 4 = 0
    · rw [outsAt0_A m c ⟨n + 1, hn⟩ h]; frame_out
      exact fresh m c ⟨n + 1, hn⟩ i k
    · rw [outsAt0_B m c ⟨n + 1, hn⟩ h]
      unfold sout0_B_0
      refine (ih (Nat.lt_of_succ_lt hn) i k).trans (congrArg (fun r => norm _ _ (ix2 r k)) (Fin.ext ?_))
      show n / 4 * 1024 + i.val = (n + 1) / 4 * 1024 + i.val
      omega

set_option maxHeartbeats 1600000 in
/-- One entry of a tile's product at a point, over the point's normalised rows: the reference's entry. -/
theorem tile_eq (c : Dev nD) (t : Fin cfg0.N) (h : Vec Ideal S1024x1024 .bf16)
    (hs : ∀ i k : Fin 1024, h (ix2 i k) = norm (m ((c : Thread nD τ).loc main_arg0)) (m ((c : Thread nD τ).loc main_arg1)) (ix2 ⟨t.val / 4 * 1024 + i.val, by have := (idx t).2.2.2.2; omega⟩ k))
    (w : Vec Ideal S1x1024x512 .bf16) (i : Fin 1024) (l : Fin 512) (o : Fin 2560)
    (hw : ∀ k : Fin 1024, w (ix3 0 k l) = iblk m c 2 t (ix3 0 k o)) :
    k0_pay4 h w (ix2 i l) = proj (m ((c : Thread nD τ).loc main_arg0)) (m ((c : Thread nD τ).loc main_arg1)) (m ((c : Thread nD τ).loc main_arg2))
      (ix2 ⟨t.val / 4 * 1024 + i.val, by have := (idx t).2.2.2.2; omega⟩ ⟨t.val % 4 * 2560 + o.val, by have := (idx t).2.2.2.2; omega⟩) := by
  rw [tile, proj_at]
  refine Finset.sum_congr rfl fun k _ => ?_
  rw [hs, hw, ← packW_at, ← weight m c]
  refine congrArg _ ?_
  blk_ext [iblk, idx t]

set_option maxHeartbeats 1600000 in
/-- The five tiles stored at a point, over the point's normalised rows `h`, are the reference's block. -/
theorem tiles (c : Dev nD) (t : Fin cfg0.N) (h : Vec Ideal S1024x1024 .bf16)
    (hs : ∀ i k : Fin 1024, h (ix2 i k) = norm (m ((c : Thread nD τ).loc main_arg0)) (m ((c : Thread nD τ).loc main_arg1)) (ix2 ⟨t.val / 4 * 1024 + i.val, by have := (idx t).2.2.2.2; omega⟩ k))
    (i : Fin 1024) (o : Fin 2560) :
    View.canon (Val := Elt Ideal) (s := S1024x2560) (e := .bf16) [⟨Rect.unit ![0, 2048] ![1024, 512] inb_S1024x2560_S1024x512_0_2048,
          k0_pay2 h (View.ld (iblk m c 2 t) (Rect.unit ![0, 0, 2048] ![1, 1024, 512] inb_S1x1024x2560_S1x1024x512_0_0_2048))⟩,
        ⟨Rect.unit ![0, 1536] ![1024, 512] inb_S1024x2560_S1024x512_0_1536,
          k0_pay1 h (View.ld (iblk m c 2 t) (Rect.unit ![0, 0, 1536] ![1, 1024, 512] inb_S1x1024x2560_S1x1024x512_0_0_1536))⟩,
        ⟨Rect.unit ![0, 1024] ![1024, 512] inb_S1024x2560_S1024x512_0_1024,
          k0_pay6 h (View.ld (iblk m c 2 t) (Rect.unit ![0, 0, 1024] ![1, 1024, 512] inb_S1x1024x2560_S1x1024x512_0_0_1024))⟩,
        ⟨Rect.unit ![0, 512] ![1024, 512] inb_S1024x2560_S1024x512_0_512,
          k0_pay5 h (View.ld (iblk m c 2 t) (Rect.unit ![0, 0, 512] ![1, 1024, 512] inb_S1x1024x2560_S1x1024x512_0_0_512))⟩,
        ⟨Rect.unit ![0, 0] ![1024, 512] inb_S1024x2560_S1024x512_0_0,
          k0_pay4 h (View.ld (iblk m c 2 t) (Rect.unit ![0, 0, 0] ![1, 1024, 512] inb_S1x1024x2560_S1x1024x512_0_0_0))⟩] (ix2 i o)
      = proj (m ((c : Thread nD τ).loc main_arg0)) (m ((c : Thread nD τ).loc main_arg1)) (m ((c : Thread nD τ).loc main_arg2))
      (ix2 ⟨t.val / 4 * 1024 + i.val, by have := (idx t).2.2.2.2; omega⟩ ⟨t.val % 4 * 2560 + o.val, by have := (idx t).2.2.2.2; omega⟩) := by
  rw [pay1, pay2, pay5, pay6]
  canon_tiles x e
  all_goals
    obtain ⟨a, b, rfl⟩ : ∃ (a : Fin 1024) (b : Fin 512), x = ix2 a b := ⟨x 0, x 1, eq_ix2 x⟩
    obtain rfl : i = a := Fin.ext e0
    refine tile_eq m c t h hs _ i b o fun k => congrArg (iblk m c 2 t) ?_
  · exact column _ _ k b o e1
  · exact column _ _ k b o e1
  · exact column _ _ k b o e1
  · exact column _ _ k b o e1
  · exact column 0 _ k b o (e1.trans (Nat.zero_add _).symm)

set_option maxHeartbeats 1600000 in
/-- The array after the run is the reference's result. -/
theorem final (c : Dev nD) : (dats m 0 c).arrAt 3 (cfgs 0).N
    = proj (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have ht := (idx t).2.2.2.2
  obtain ⟨i, o, rfl⟩ : ∃ (i : Fin 1024) (o : Fin 2560), y = ix2 i o := ⟨y 0, y 1, eq_ix2 y⟩
  have key : (((View.whole main_v14).slice (win0_3.rect t)).emb (ix2 i o))
      = ix2 (⟨t.val / 4 * 1024 + i.val, by omega⟩ : Fin 32768) (⟨t.val % 4 * 2560 + o.val, by omega⟩ : Fin 10240) := by
    blk_ext [idx t]
  refine Eq.trans ?_ (congrArg (proj _ _ _) key).symm
  by_cases h : t.val % 4 = 0
  · rw [outsAt0_A m c t h]; frame_out
    refine tiles m c t (k0_pay3 (iblk m c 0 t) (iblk m c 1 t)) (fresh m c t) i o
  · rw [outsAt0_B m c t h]; frame_out
    have e := scratch m c t.val t.isLt
    rw [outsAt0_B m c t h] at e
    rw [read_unread_whole]
    exact tiles m c t (outsAt0 m c (t.val - 1) _).2 e i o

end Cert.ProjIdeal.Array
-- ==== Proof.MemkvValue.lean ====
module

public import proofs.«01_k».proof.Proof.Gen.MemkvIdeal.Value
public import proofs.«01_k».proof.Proof.Gen.MemkvRefIdeal.Run
public import Idealize.ShloMosaic.Lib.Pipeline.ValueKit
public import Idealize.ShloMosaic.Lib.Pointwise

@[expose] public section

set_option maxRecDepth 16384

noncomputable section

/-! ## The reference's two results as named steps -/

namespace Cert.MemkvRefIdeal.Steps

open Idealize.ShloMosaic Idealize.ShloMosaic.TcCoe Idealize.SL.Sem
open Cert.MemkvRefIdeal Cert.MemkvRefIdeal.Gen

variable (x : FVec Ideal S8x256x1024 .f32) (g : FVec Ideal S1024 .f32) (w : FVec Ideal S1024x2048 .f32)

/-- Keys and values side by side: the normalised rows times the weight. -/
def both : FVec Ideal S8x256x2048 .f32 :=
  Host.dotGeneral dot_S8x256x1024_S1024x2048_S8x256x2048_2_0_01_1_n_n none (mulf (mulf x (broadcastInDim S8x256x1024 ![0, 1, 2] bcast_S8x256x1_S8x256x1024_0_1_2 (Host.rsqrt (addf (Host.divf (broadcastInDim S8x256x1 ![0, 1] bcast_S8x256_S8x256x1_0_1 (Host.reduceAdd (mulf x x) (constant S_ .f32 0x00000000#32) reducesTo_S8x256x1024_S8x256_d2 h_S_)) (broadcastInDim S8x256x1 ![] bcast_S_S8x256x1 (constant S_ .f32 0x44800000#32))) (broadcastInDim S8x256x1 ![] bcast_S_S8x256x1 (constant S_ .f32 0x358637BD#32)))))) (broadcastInDim S8x256x1024 ![0, 1, 2] bcast_S1x1x1024_S8x256x1024_0_1_2 (broadcastInDim S1x1x1024 ![2] bcast_S1024_S1x1x1024_2 g))) w

/-- The keys: the first 1024 columns. -/
def keys : FVec Ideal S8x256x1024 .bf16 :=
  truncf .bf16 (extractStridedSlice S8x256x1024 ![0, 0, 0] (both x g w) slices_S8x256x2048_S8x256x1024_0_0_0) bitsLt_bf16_f32

/-- The values: the last 1024 columns. -/
def vals : FVec Ideal S8x256x1024 .bf16 :=
  truncf .bf16 (extractStridedSlice S8x256x1024 ![0, 0, 1024] (both x g w) slices_S8x256x2048_S8x256x1024_0_0_1024) bitsLt_bf16_f32

/-- One entry of both. -/
theorem both_at (b : Fin 8) (s : Fin 256) (l : Fin 2048) : both x g w (ix3 b s l)
    = ∑ k : Fin 1024, x (ix3 b s k) * Ideal.rsqrt (Ideal.div (∑ j : Fin 1024, x (ix3 b s j) * x (ix3 b s j)) (Ideal.ofBits .f32 0x44800000#32) + Ideal.ofBits .f32 0x358637BD#32) * g (ix1 k) * w (ix2 k l) := by
  pointwise [both]

/-- One key. -/
theorem keys_at (b : Fin 8) (s : Fin 256) (l : Fin 1024) : keys x g w (ix3 b s l) = both x g w (ix3 b s ⟨l, by omega⟩) := by
  unfold keys
  generalize both x g w = v
  pointwise

/-- One value. -/
theorem vals_at (b : Fin 8) (s : Fin 256) (l : Fin 1024) : vals x g w (ix3 b s l) = both x g w (ix3 b s ⟨1024 + l, by omega⟩) := by
  unfold vals
  generalize both x g w = v
  pointwise

end Cert.MemkvRefIdeal.Steps

/-! ## The kernel's arrays -/

namespace Cert.MemkvIdeal.Array

open Idealize.ShloMosaic Idealize.ShloMosaic.TcCoe Idealize.SL.Sem
open Idealize.ShloMosaic.Pipeline (Dat)
open Cert.MemkvIdeal Cert.MemkvIdeal.Gen
open Cert.MemkvRefIdeal.Steps (keys vals both_at keys_at vals_at)

variable (m : (ℓ : Loc nD τ sig) → Buf (Elt Ideal) ℓ)

/-- Every window's block at every point: point `t` works on batch `t`. -/
theorem idx : ∀ t : Fin cfg0.N, win0_0.index t = ![t.val, 0, 0] ∧ win0_1.index t = ![0, 0] ∧ win0_2.index t = ![0, 0]
    ∧ win0_3.index t = ![t.val, 0, 0] ∧ win0_4.index t = ![t.val, 0, 0] ∧ t.val < 8 :=
  (by decide +kernel : ∀ t : Fin grid0.N, _)

set_option maxHeartbeats 1600000 in
/-- The array of keys after the run is the reference's. -/
theorem final_keys (c : Dev nD) : (dats m 0 c).arrAt 3 (cfgs 0).N
    = keys (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine Eq.trans ?_ ((congrArg (keys _ _ _) (eq_ix3 _)).trans ((keys_at _ _ _ _ _ _).trans (both_at _ _ _ _ _ _))).symm
  pointwise [k0_pay2, k0_pay1]
  blk_point [iblk, V, idx t]

set_option maxHeartbeats 1600000 in
/-- The array of values after the run is the reference's. -/
theorem final_vals (c : Dev nD) : (dats m 0 c).arrAt 4 (cfgs 0).N
    = vals (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  refine Eq.trans ?_ ((congrArg (vals _ _ _) (eq_ix3 _)).trans ((vals_at _ _ _ _ _ _).trans (both_at _ _ _ _ _ _))).symm
  pointwise [k0_pay3, k0_pay1]
  blk_point [iblk, V, idx t]

end Cert.MemkvIdeal.Array
-- ==== Proof.GlaModel.lean ====
module

public import proofs.«01_k».proof.Proof.Gen.GlaIdeal.Value
public import Idealize.ShloMosaic.Lib.Pointwise
public import Idealize.ShloMosaic.Lib.Pipeline.ReadBack

@[expose] public section

set_option maxRecDepth 16384

noncomputable section

/-! What the gated-linear-attention kernel computes from one chunk of 64 rows, each quantity named once. -/

namespace Cert.GlaIdeal.Model

open Idealize.ShloMosaic Idealize.ShloMosaic.TcCoe Idealize.SL.Sem
open Cert.GlaIdeal Cert.GlaIdeal.Gen

/-- The running sum of the log decays down a chunk. -/
def bM (L : Vec Ideal S1x64x128 .bf16) (W : Vec Ideal S128x256 .bf16) (B : Vec Ideal S1x256 .f32) : FVec Ideal S64x256 .f32 :=
  k0_pay11 k0_pay3 L W B

/-- The decayed queries. -/
def qdM (Q : Vec Ideal S1x64x256 .bf16) (L : Vec Ideal S1x64x128 .bf16) (W : Vec Ideal S128x256 .bf16) (B : Vec Ideal S1x256 .f32) : FVec Ideal S1x64x256 .bf16 :=
  k0_pay13 k0_pay3 (k0_pay8 Q) L W B

/-- The decay over the whole chunk. -/
def decM (L : Vec Ideal S1x64x128 .bf16) (W : Vec Ideal S128x256 .bf16) (B : Vec Ideal S1x256 .f32) : FVec Ideal S1x8x256 .f32 :=
  k0_pay15 (k0_pay14 k0_pay3 L W B)

/-- One block of 16 rows of the scores before the causal mask, all four heads side by side. -/
def blkM (n : BitVec 32) (ref : FVec Ideal S1x256 .f32) (qs bs : FVec Ideal S16x256 .f32) (k b : FVec Ideal S64x256 .f32) : FVec Ideal S16x256 .f32 :=
  have kt : FVec Ideal S64x256 .bf16 := truncf .bf16 (mulf k (exp (select (cmpi .slt (iota .tc S64x256 32 [0] iota_S64x256_d0_w32) (broadcast S64x256 n))
    (subf (broadcastTo S64x256 ref broadcasts_S1x256_S64x256) b) (broadcast S64x256 (Scalar.ofBits .f32 0x00000000#32))))) bitsLt_bf16_f32
  matmul (φ₁ := .bf16) (φ₂ := .bf16) dot_S16x256_S256x256_S16x256_1_1_0_0_n_n none
    (truncf .bf16 (mulf qs (exp (subf bs (broadcastTo S16x256 ref broadcasts_S1x256_S16x256)))) bitsLt_bf16_f32)
    (select k0_pay4 (concatenate S256x256 0 [⟨S64x256, kt⟩, ⟨S64x256, kt⟩, ⟨S64x256, kt⟩, ⟨S64x256, kt⟩] concatenates_S64x256_S64x256_S64x256_S64x256_S256x256_d0)
      (broadcast S256x256 (Scalar.ofBits .bf16 0x0000#16)))
    (constant S16x256 .f32 0x00000000#32)

/-- All 64 rows of the scores before the causal mask. -/
def scM (q k b : FVec Ideal S64x256 .f32) : FVec Ideal S64x256 .f32 :=
  concatenate S64x256 0
    [⟨S16x256, blkM 16#32 (extractStridedSlice S1x256 ![0, 0] b slices_S64x256_o0_0_S1x256) (extractStridedSlice S16x256 ![0, 0] q slices_S64x256_o0_0_S16x256) (extractStridedSlice S16x256 ![0, 0] b slices_S64x256_o0_0_S16x256) k b⟩,
     ⟨S16x256, blkM 32#32 (extractStridedSlice S1x256 ![16, 0] b slices_S64x256_o16_0_S1x256) (extractStridedSlice S16x256 ![16, 0] q slices_S64x256_o16_0_S16x256) (extractStridedSlice S16x256 ![16, 0] b slices_S64x256_o16_0_S16x256) k b⟩,
     ⟨S16x256, blkM 48#32 (extractStridedSlice S1x256 ![32, 0] b slices_S64x256_o32_0_S1x256) (extractStridedSlice S16x256 ![32, 0] q slices_S64x256_o32_0_S16x256) (extractStridedSlice S16x256 ![32, 0] b slices_S64x256_o32_0_S16x256) k b⟩,
     ⟨S16x256, blkM 64#32 (extractStridedSlice S1x256 ![48, 0] b slices_S64x256_o48_0_S1x256) (extractStridedSlice S16x256 ![48, 0] q slices_S64x256_o48_0_S16x256) (extractStridedSlice S16x256 ![48, 0] b slices_S64x256_o48_0_S16x256) k b⟩]
    concatenates_S16x256_S16x256_S16x256_S16x256_S64x256_d0

/-- The masked scores times the masked values. -/
def attM (sc : FVec Ideal S64x256 .f32) (v : FVec Ideal S64x512 .bf16) : FVec Ideal S1x64x512 .f32 :=
  k0_pay21 (matmul (φ₁ := .bf16) (φ₂ := .bf16) dot_S64x256_S256x512_S64x512_1_0_0_1_n_n none
    (truncf .bf16 (select k0_pay7 sc (broadcast S64x256 (Scalar.ofBits .f32 0x00000000#32))) bitsLt_bf16_f32)
    (select k0_pay5 (concatenate S256x512 0 [⟨S64x512, v⟩, ⟨S64x512, v⟩, ⟨S64x512, v⟩, ⟨S64x512, v⟩] concatenates_S64x512_S64x512_S64x512_S64x512_S256x512_d0)
      (broadcast S256x512 (Scalar.ofBits .bf16 0x0000#16)))
    (constant S64x512 .f32 0x00000000#32))

/-- The attention inside the chunk. -/
def intraM (Q K : Vec Ideal S1x64x256 .bf16) (V : Vec Ideal S1x64x512 .bf16) (L : Vec Ideal S1x64x128 .bf16) (W : Vec Ideal S128x256 .bf16) (B : Vec Ideal S1x256 .f32) : FVec Ideal S1x64x512 .f32 :=
  attM (scM (k0_pay8 Q) (k0_pay9 K) (bM L W B)) (k0_pay10 V)

/-- What the chunk adds to the state, head by head. -/
def upd0M (K : Vec Ideal S1x64x256 .bf16) (V : Vec Ideal S1x64x512 .bf16) (L : Vec Ideal S1x64x128 .bf16) (W : Vec Ideal S128x256 .bf16) (B : Vec Ideal S1x256 .f32) : FVec Ideal S1x128x128 .f32 :=
  k0_pay23 k0_pay6 (k0_pay9 K) (k0_pay10 V) (bM L W B) (k0_pay12 k0_pay3 L W B)
def upd1M (K : Vec Ideal S1x64x256 .bf16) (V : Vec Ideal S1x64x512 .bf16) (L : Vec Ideal S1x64x128 .bf16) (W : Vec Ideal S128x256 .bf16) (B : Vec Ideal S1x256 .f32) : FVec Ideal S1x128x128 .f32 :=
  k0_pay24 k0_pay6 (k0_pay9 K) (k0_pay10 V) (bM L W B) (k0_pay12 k0_pay3 L W B)
def upd2M (K : Vec Ideal S1x64x256 .bf16) (V : Vec Ideal S1x64x512 .bf16) (L : Vec Ideal S1x64x128 .bf16) (W : Vec Ideal S128x256 .bf16) (B : Vec Ideal S1x256 .f32) : FVec Ideal S1x128x128 .f32 :=
  k0_pay25 k0_pay6 (k0_pay9 K) (k0_pay10 V) (bM L W B) (k0_pay12 k0_pay3 L W B)
def upd3M (K : Vec Ideal S1x64x256 .bf16) (V : Vec Ideal S1x64x512 .bf16) (L : Vec Ideal S1x64x128 .bf16) (W : Vec Ideal S128x256 .bf16) (B : Vec Ideal S1x256 .f32) : FVec Ideal S1x128x128 .f32 :=
  k0_pay28 (k0_pay26 k0_pay6) (k0_pay27 (k0_pay9 K) (k0_pay10 V) (bM L W B) (k0_pay12 k0_pay3 L W B)) (FloatOps.ofBits .f32 0#32)

/-! What a load of the staging buffers reads of the block staged there. -/

def rd256 (arg : Memref sig .tc .vmem S1x512x256 .bf16) (harg : arg.IsWhole) (x : Vec Ideal S1x512x256 .bf16) (off : Fin 3 → ℕ) (inb : ∀ a, off a + S1x64x256.size a ≤ S1x512x256.size a) : Vec Ideal S1x64x256 .bf16 :=
  View.readAt (Val := Elt Ideal) (s := S1x512x256) (e := .bf16) arg.view (Rect.unit (s := S1x512x256) off S1x64x256.size inb).toLoadRect (harg.unread x)
def rd512 (arg : Memref sig .tc .vmem S1x512x512 .bf16) (harg : arg.IsWhole) (x : Vec Ideal S1x512x512 .bf16) (off : Fin 3 → ℕ) (inb : ∀ a, off a + S1x64x512.size a ≤ S1x512x512.size a) : Vec Ideal S1x64x512 .bf16 :=
  View.readAt (Val := Elt Ideal) (s := S1x512x512) (e := .bf16) arg.view (Rect.unit (s := S1x512x512) off S1x64x512.size inb).toLoadRect (harg.unread x)
def rd128 (arg : Memref sig .tc .vmem S1x512x128 .bf16) (harg : arg.IsWhole) (x : Vec Ideal S1x512x128 .bf16) (off : Fin 3 → ℕ) (inb : ∀ a, off a + S1x64x128.size a ≤ S1x512x128.size a) : Vec Ideal S1x64x128 .bf16 :=
  View.readAt (Val := Elt Ideal) (s := S1x512x128) (e := .bf16) arg.view (Rect.unit (s := S1x512x128) off S1x64x128.size inb).toLoadRect (harg.unread x)
def rdW (arg : Memref sig .tc .vmem S128x256 .bf16) (harg : arg.IsWhole) (x : Vec Ideal S128x256 .bf16) : Vec Ideal S128x256 .bf16 :=
  View.readAt (Val := Elt Ideal) (s := S128x256) (e := .bf16) arg.view (Rect.unit (s := S128x256) ![0, 0] S128x256.size inb_S128x256_S128x256_0_0).toLoadRect (harg.unread x)
def rdB (arg : Memref sig .tc .vmem S1x256 .f32) (harg : arg.IsWhole) (x : Vec Ideal S1x256 .f32) : Vec Ideal S1x256 .f32 :=
  View.readAt (Val := Elt Ideal) (s := S1x256) (e := .f32) arg.view (Rect.unit (s := S1x256) ![0, 0] S1x256.size inb_S1x256_S1x256_0_0).toLoadRect (harg.unread x)
def rdG (arg : Memref sig .tc .vmem S1x512 .f32) (harg : arg.IsWhole) (x : Vec Ideal S1x512 .f32) : Vec Ideal S1x512 .f32 :=
  View.readAt (Val := Elt Ideal) (s := S1x512) (e := .f32) arg.view (Rect.unit (s := S1x512) ![0, 0] S1x512.size inb_S1x512_S1x512_0_0).toLoadRect (harg.unread x)

/-- Four blocks of 128 rows on top of one another. -/
def stack (a b c d : FVec Ideal S128x128 .f32) : Vec Ideal S512x128 .f32 := fun x =>
  if h0 : (x 0).val < 128 then a (ix2 ⟨(x 0).val, h0⟩ (x 1))
  else if h1 : (x 0).val < 256 then b (ix2 ⟨(x 0).val - 128, by omega⟩ (x 1))
  else if h2 : (x 0).val < 384 then c (ix2 ⟨(x 0).val - 256, by omega⟩ (x 1))
  else d (ix2 ⟨(x 0).val - 384, by have h3 : (x 0).val < 512 := (x 0).isLt; omega⟩ (x 1))

/-- The state after the chunk. -/
def nextM (st : Vec Ideal S512x128 .f32) (dec : Vec Ideal S1x8x256 .f32) (u0 u1 u2 u3 : Vec Ideal S1x128x128 .f32) : Vec Ideal S512x128 .f32 :=
  stack (k0_pay199 st dec u0) (k0_pay200 st dec u1) (k0_pay202 (k0_pay201 st dec) u2) (k0_pay203 st (k0_pay198 dec) u3)

/-- What the decayed queries read of the state. -/
def interM (st : Vec Ideal S512x128 .f32) (qd : Vec Ideal S1x64x256 .bf16) : FVec Ideal S64x512 .f32 :=
  k0_pay197 st k0_pay195 (k0_pay196 st) qd

/-- The chunk's rows of the output. -/
def outM (st : Vec Ideal S512x128 .f32) (qd : Vec Ideal S1x64x256 .bf16) (intra : Vec Ideal S1x64x512 .f32) (G : Vec Ideal S1x512 .f32) (R : Vec Ideal S1x64x512 .bf16) : FVec Ideal S1x64x512 .bf16 :=
  k0_pay207 (k0_pay204 (interM st qd) intra) (k0_pay205 (interM st qd) intra) (k0_pay206 (interM st qd) intra) G R

/-! A row of the stack is a row of the block that holds it. -/

theorem stack_0 (a b c d : FVec Ideal S128x128 .f32) (y : S512x128.Idx) (p q : Fin 128) (h0 : (y 0).val = 0 + p.val) (h1 : (y 1).val = q.val) :
    stack a b c d y = a (ix2 p q) := by
  have hq : y 1 = q := Fin.ext h1
  have hp := p.isLt
  unfold stack
  split_ifs <;> first | (exfalso; omega) | (rw [hq]; congr 2; exact Fin.ext (by show (y 0).val = p.val; omega))

theorem stack_1 (a b c d : FVec Ideal S128x128 .f32) (y : S512x128.Idx) (p q : Fin 128) (h0 : (y 0).val = 128 + p.val) (h1 : (y 1).val = q.val) :
    stack a b c d y = b (ix2 p q) := by
  have hq : y 1 = q := Fin.ext h1
  have hp := p.isLt
  unfold stack
  split_ifs <;> first | (exfalso; omega) | (rw [hq]; congr 2; exact Fin.ext (by show (y 0).val - 128 = p.val; omega))

theorem stack_2 (a b c d : FVec Ideal S128x128 .f32) (y : S512x128.Idx) (p q : Fin 128) (h0 : (y 0).val = 256 + p.val) (h1 : (y 1).val = q.val) :
    stack a b c d y = c (ix2 p q) := by
  have hq : y 1 = q := Fin.ext h1
  have hp := p.isLt
  unfold stack
  split_ifs <;> first | (exfalso; omega) | (rw [hq]; congr 2; exact Fin.ext (by show (y 0).val - 256 = p.val; omega))

theorem stack_3 (a b c d : FVec Ideal S128x128 .f32) (y : S512x128.Idx) (p q : Fin 128) (h0 : (y 0).val = 384 + p.val) (h1 : (y 1).val = q.val) :
    stack a b c d y = d (ix2 p q) := by
  have hq : y 1 = q := Fin.ext h1
  have hp := p.isLt
  unfold stack
  split_ifs <;> first | (exfalso; omega) | (rw [hq]; congr 2; exact Fin.ext (by show (y 0).val - 384 = p.val; omega))

/-- Four writes of 128 rows cover the state, whatever was written before them. -/
theorem canon_stack (a b c d : FVec Ideal S128x128 .f32) (l : List (View.Piece (Elt Ideal) S512x128 .f32)) :
    View.canon (Val := Elt Ideal) (s := S512x128) (e := .f32)
      (⟨Rect.unit ![384, 0] S128x128.size inb_S512x128_S128x128_384_0, d⟩ :: ⟨Rect.unit ![256, 0] S128x128.size inb_S512x128_S128x128_256_0, c⟩ ::
        ⟨Rect.unit ![128, 0] S128x128.size inb_S512x128_S128x128_128_0, b⟩ :: ⟨Rect.unit ![0, 0] S128x128.size inb_S512x128_S128x128_0_0, a⟩ :: l) = stack a b c d := by
  have hs : ∀ (L M : List (View.Piece (Elt Ideal) S512x128 .f32)) (G : S512x128.Idx → Elt Ideal .f32), View.PiecesOf G L → (∀ y : S512x128.Idx, ∃ p ∈ L, y ∈ p.1.set) →
      View.canon (Val := Elt Ideal) (s := S512x128) (e := .f32) (L ++ M) = G :=
    fun L M G h hc => funext fun y => View.canon_append_of_piecesOf G M L h y (hc y)
  refine hs [_, _, _, _] l (stack a b c d) ⟨?_, ?_, ?_, ?_, trivial⟩ (View.cover_of_tiledL _ ![128, 128] rfl)
  · intro x; exact ((stack_3 a b c d _ (x 0) (x 1) (by show 384 + 1 * (x 0).val = _; omega) (by show 0 + 1 * (x 1).val = _; omega)).trans (congrArg d (eq_ix2 x).symm)).symm
  · intro x; exact ((stack_2 a b c d _ (x 0) (x 1) (by show 256 + 1 * (x 0).val = _; omega) (by show 0 + 1 * (x 1).val = _; omega)).trans (congrArg c (eq_ix2 x).symm)).symm
  · intro x; exact ((stack_1 a b c d _ (x 0) (x 1) (by show 128 + 1 * (x 0).val = _; omega) (by show 0 + 1 * (x 1).val = _; omega)).trans (congrArg b (eq_ix2 x).symm)).symm
  · intro x; exact ((stack_0 a b c d _ (x 0) (x 1) (by show 0 + 1 * (x 0).val = _; omega) (by show 0 + 1 * (x 1).val = _; omega)).trans (congrArg a (eq_ix2 x).symm)).symm

end Cert.GlaIdeal.Model

end
-- ==== Proof.GlaMath.lean ====
/-
The mathematics of one chunk of the gated linear attention, one head at a time, with nothing of either program in it: the
running sum of the log decays, the part read from the carried state, the part read from the chunk's own rows, the next
state, and the facts about extended reals which let the kernel's reference row cancel.
-/
module

public import Idealize.ShloMosaic.Lib.Pointwise

@[expose] public section

noncomputable section

namespace Cert.GlaMath

open Idealize.ShloMosaic

/-- The running sum of a column up to and including row `i`. -/
def cum (a : Fin 64 → EReal) (i : Fin 64) : EReal := ∑ j : Fin 64, if j ≤ i then a j else 0

/-- The part of a chunk's output which is read from the carried state. -/
def inter (q b : Fin 64 → Fin 64 → EReal) (S : Fin 64 → Fin 128 → EReal) (i : Fin 64) (e : Fin 128) : EReal :=
  ∑ d, q i d * Ideal.exp (b i d) * S d e

/-- The score of row `i` against row `j` of the same chunk; a later row has weight `exp ⊥`, which is zero. -/
def score (q k b : Fin 64 → Fin 64 → EReal) (i j : Fin 64) : EReal :=
  ∑ d, k j d * (q i d * Ideal.exp (if j ≤ i then b i d - b j d else ⊥))

/-- The part of a chunk's output which is read from the chunk's own rows. -/
def intra (q k b : Fin 64 → Fin 64 → EReal) (v : Fin 64 → Fin 128 → EReal) (i : Fin 64) (e : Fin 128) : EReal :=
  ∑ j, score q k b i j * v j e

/-- The state after a chunk. -/
def next (k b : Fin 64 → Fin 64 → EReal) (v S : Fin 64 → Fin 128 → EReal) (d : Fin 64) (e : Fin 128) : EReal :=
  Ideal.exp (b 63 d) * S d e + ∑ j, k j d * Ideal.exp (b 63 d - b j d) * v j e

/-- The running sums of a chunk's log decays. -/
def cums (la : Fin 64 → Fin 64 → EReal) (i d : Fin 64) : EReal := cum (fun j => la j d) i

/-- The state before chunk `n`, from zero. -/
def st (k la : ℕ → Fin 64 → Fin 64 → EReal) (v : ℕ → Fin 64 → Fin 128 → EReal) : ℕ → Fin 64 → Fin 128 → EReal
  | 0 => fun _ _ => 0
  | n + 1 => next (k n) (cums (la n)) (v n) (st k la v n)

/-- A chunk's output before normalisation. -/
def out (q k la : ℕ → Fin 64 → Fin 64 → EReal) (v : ℕ → Fin 64 → Fin 128 → EReal) (n : ℕ) (i : Fin 64) (e : Fin 128) :
    EReal :=
  inter (q n) (cums (la n)) (st k la v n) i e + intra (q n) (k n) (cums (la n)) (v n) i e

/-- The normalised, gated output of a row from its entries before normalisation. -/
def gated (o : Fin 128 → EReal) (g r : EReal) (e : Fin 128) : EReal :=
  o e * Ideal.rsqrt (Ideal.div (∑ x, o x * o x) (Ideal.ofBits .f32 1124073472#32) + Ideal.ofBits .f32 897988541#32) * g
    * (r * Ideal.logistic r)

/-- The log decay of a gate value, as the reference writes it. -/
def gate (x : EReal) : EReal :=
  Ideal.div (-(max (-x) 0 + Ideal.log1p (Ideal.exp (-FloatOps.absf (F := Ideal) (φ := .f32) (-x - 0)))))
    (Ideal.ofBits .f32 0x41800000#32)

theorem absf_eq (x : EReal) : FloatOps.absf (F := Ideal) (φ := .f32) x = max x (-x) := rfl

theorem sixteen : Ideal.ofBits .f32 0x41800000#32 = ((16 : ℝ) : EReal) := by
  simp [Ideal.ofBits, Ideal.ieee]
  norm_num
  rw [← EReal.coe_mul]
  congr 1
  norm_num
theorem sixteenth : Ideal.ofBits .f32 0x3D800000#32 = ((1 / 16 : ℝ) : EReal) := by
  simp [Ideal.ofBits, Ideal.ieee]
  norm_num
  rw [← EReal.coe_mul]
  congr 1
  norm_num

theorem log_one : Ideal.log 1 = 0 := by
  rw [← EReal.coe_one, Ideal.log_coe, if_neg (by norm_num), Real.log_one]; rfl

theorem coe_max (x y : ℝ) : ((max x y : ℝ) : EReal) = max (x : EReal) (y : EReal) := EReal.coe_strictMono.monotone.map_max
theorem coe_min (x y : ℝ) : ((min x y : ℝ) : EReal) = min (x : EReal) (y : EReal) := EReal.coe_strictMono.monotone.map_min

/-- The kernel's log sigmoid is the reference's, and both are at most zero. -/
theorem logsig (x : EReal) :
    min x 0 - Ideal.log1p (Ideal.exp (0 - FloatOps.absf (F := Ideal) (φ := .f32) x))
      = -(max (-x) 0 + Ideal.log1p (Ideal.exp (-FloatOps.absf (F := Ideal) (φ := .f32) (-x - 0))))
    ∧ min x 0 - Ideal.log1p (Ideal.exp (0 - FloatOps.absf (F := Ideal) (φ := .f32) x)) ≤ 0 := by
  rw [absf_eq, absf_eq]
  induction x with
  | bot => simp [Ideal.log1p, log_one]
  | top => simp [Ideal.log1p, log_one]
  | coe r =>
    have e1 : max (r : EReal) (-(r : EReal)) = ((|r| : ℝ) : EReal) := by
      rw [← EReal.coe_neg, ← coe_max]; rfl
    have e2 : max (-(r : EReal) - 0) (-(-(r : EReal) - 0)) = ((|r| : ℝ) : EReal) := by
      rw [sub_zero, neg_neg, max_comm, e1]
    have hp : (0 : ℝ) < 1 + Real.exp (-|r|) := by positivity
    have e3 : Ideal.log1p (Ideal.exp (-((|r| : ℝ) : EReal))) = ((Real.log (1 + Real.exp (-|r|)) : ℝ) : EReal) := by
      rw [← EReal.coe_neg, Ideal.exp_coe, Ideal.log1p, ← EReal.coe_one, ← EReal.coe_add, Ideal.log_coe, if_neg (not_le.2 hp)]
    have hl : 0 ≤ Real.log (1 + Real.exp (-|r|)) := Real.log_nonneg (by linarith [Real.exp_pos (-|r|)])
    rw [e1, e2, zero_sub, e3, ← EReal.coe_neg, ← EReal.coe_zero, ← coe_min, ← coe_max, ← EReal.coe_sub,
      ← EReal.coe_add, ← EReal.coe_neg]
    refine ⟨congrArg _ ?_, EReal.coe_le_coe_iff.2 ?_⟩
    · rcases le_total r 0 with h | h
      · rw [min_eq_left h, max_eq_left (by linarith)]; ring
      · rw [min_eq_right h, max_eq_right (by linarith)]; ring
    · linarith [min_le_right r 0]

/-- The kernel's log decay is the reference's. -/
theorem gate_eq (x : EReal) :
    (min x 0 - Ideal.log1p (Ideal.exp (0 - FloatOps.absf (F := Ideal) (φ := .f32) x))) * Ideal.ofBits .f32 0x3D800000#32
      = gate x := by
  unfold gate
  rw [sixteen, Ideal.div_coe (by norm_num), sixteenth, (logsig x).1]

theorem gate_nonpos (x : EReal) : gate x ≤ 0 := by
  rw [← gate_eq, sixteenth]
  exact mul_nonpos_of_nonpos_of_nonneg (logsig x).2 (by exact_mod_cast (by norm_num : (0 : ℝ) ≤ 1 / 16))

variable {a : Fin 64 → EReal}

/-- A running sum plus the running sum of each term's difference with itself is the running sum. -/
theorem cum_self (h : ∀ j, a j ≤ 0) (i : Fin 64) :
    (∑ j : Fin 64, if j ≤ i then a j else 0) + (∑ j : Fin 64, if j ≤ i then a j - a j else 0) = cum a i := by
  unfold cum
  rw [← Finset.sum_add_distrib]
  refine Finset.sum_congr rfl fun j _ => ?_
  split_ifs
  · have := h j
    generalize a j = x at this
    induction x with
    | bot => simp
    | top => simp at this
    | coe r => rw [← EReal.coe_sub, sub_self, ← EReal.coe_add, add_zero]
  · simp

theorem cum_anti (h : ∀ j, a j ≤ 0) {i j : Fin 64} (hij : j ≤ i) : cum a i ≤ cum a j := by
  refine Finset.sum_le_sum fun x _ => ?_
  split_ifs with h1 h2 h2
  · exact le_rfl
  · exact h x
  · exact absurd (h2.trans hij) h1
  · exact le_rfl

theorem cum_nonpos (h : ∀ j, a j ≤ 0) (i : Fin 64) : cum a i ≤ 0 := by
  refine Finset.sum_nonpos fun x _ => ?_
  split_ifs
  · exact h x
  · exact le_rfl

/-- Between two rows a reference row's log decay cancels. -/
theorem exp_cancel (h : ∀ j, a j ≤ 0) {i r j : Fin 64} (hr : r ≤ i) (hj : j ≤ i) (q k : EReal) :
    q * Ideal.exp (cum a i - cum a r) * (k * Ideal.exp (cum a r - cum a j))
      = k * (q * Ideal.exp (cum a i - cum a j)) := by
  have h1 := cum_anti h hr
  have h2 := cum_anti h hj
  have h3 := cum_nonpos h r
  have h4 := cum_nonpos h j
  have h5 := cum_nonpos h i
  generalize cum a i = x at *
  generalize cum a r = y at *
  generalize cum a j = z at *
  induction x with
  | bot => simp [sub_eq_add_neg]
  | top => simp at h5
  | coe x =>
    induction y with
    | bot => simp at h1
    | top => simp at h3
    | coe y =>
      induction z with
      | bot => simp at h2
      | top => simp at h4
      | coe z =>
        rw [← EReal.coe_sub, ← EReal.coe_sub, ← EReal.coe_sub, Ideal.exp_coe, Ideal.exp_coe, Ideal.exp_coe,
          show x - z = (x - y) + (y - z) by ring, Real.exp_add, EReal.coe_mul]
        ac_rfl

/-- The first row's running sum is its own term. -/
theorem ofBits_ninf : Ideal.ofBits .f32 0xFF800000#32 = ⊥ := by
  simp [Ideal.ofBits, Ideal.ieee]

end Cert.GlaMath

end
-- ==== Proof.GlaEntries.lean ====
/-
The kernel's chunk, read off an entry at a time: the running sums, the scores of a head, what the chunk's own rows and the
carried state give the output, the next state and the gated output. The kernel lays the four heads side by side and masks
the lanes of the other heads; each lemma names one head and sums over its own 64 lanes only.
-/
module

public import proofs.«01_k».proof.Proof.GlaModel
public import proofs.«01_k».proof.Proof.GlaMath

@[expose] public section

set_option maxRecDepth 16384

noncomputable section

namespace Cert.GlaIdeal.Model

open Idealize.ShloMosaic Idealize.ShloMosaic.TcCoe Idealize.SL.Sem
open Cert.GlaIdeal Cert.GlaIdeal.Gen Cert.GlaMath

/-! The lane words. -/

theorem sel_ite (p : Prop) [Decidable p] (a b : EReal) : Scalar.select (if p then 1#1 else 0#1) a b = if p then a else b := by
  split_ifs <;> rfl

theorem w_sge (i x : Fin 64) : IntOp.cmpi .sge (BitVec.ofNat 32 i.val) (BitVec.ofNat 32 x.val) = if x ≤ i then 1#1 else 0#1 :=
  (by decide +kernel : ∀ i x : Fin 64, IntOp.cmpi .sge (BitVec.ofNat 32 i.val) (BitVec.ofNat 32 x.val) = if x ≤ i then 1#1 else 0#1) i x
theorem w_sle (x i : Fin 64) : IntOp.cmpi .sle (BitVec.ofNat 32 x.val) (BitVec.ofNat 32 i.val) = if x ≤ i then 1#1 else 0#1 :=
  (by decide +kernel : ∀ x i : Fin 64, IntOp.cmpi .sle (BitVec.ofNat 32 x.val) (BitVec.ofNat 32 i.val) = if x ≤ i then 1#1 else 0#1) x i
theorem w_slt (x : Fin 64) (n : Fin 65) : IntOp.cmpi .slt (BitVec.ofNat 32 x.val) (BitVec.ofNat 32 n.val) = if x.val < n.val then 1#1 else 0#1 :=
  (by decide +kernel : ∀ (x : Fin 64) (n : Fin 65), IntOp.cmpi .slt (BitVec.ofNat 32 x.val) (BitVec.ofNat 32 n.val) = if x.val < n.val then 1#1 else 0#1) x n
theorem w_eq (a b : Fin 8) : IntOp.cmpi .eq (BitVec.ofNat 32 a.val) (BitVec.ofNat 32 b.val) = if a.val = b.val then 1#1 else 0#1 :=
  (by decide +kernel : ∀ a b : Fin 8, IntOp.cmpi .eq (BitVec.ofNat 32 a.val) (BitVec.ofNat 32 b.val) = if a.val = b.val then 1#1 else 0#1) a b
theorem w_sh6 (x : Fin 256) : IntOp.shrsi .vector (BitVec.ofNat 32 x.val) 6#32 = BitVec.ofNat 32 (x.val / 64) :=
  (by decide +kernel : ∀ x : Fin 256, IntOp.shrsi .vector (BitVec.ofNat 32 x.val) 6#32 = BitVec.ofNat 32 (x.val / 64)) x
theorem w_sh7 (x : Fin 512) : IntOp.shrsi .vector (BitVec.ofNat 32 x.val) 7#32 = BitVec.ofNat 32 (x.val / 128) :=
  (by decide +kernel : ∀ x : Fin 512, IntOp.shrsi .vector (BitVec.ofNat 32 x.val) 7#32 = BitVec.ofNat 32 (x.val / 128)) x
theorem w_and (x : Fin 256) : IntOp.andi (BitVec.ofNat 32 x.val) 63#32 = BitVec.ofNat 32 (x.val % 64) :=
  (by decide +kernel : ∀ x : Fin 256, IntOp.andi (BitVec.ofNat 32 x.val) 63#32 = BitVec.ofNat 32 (x.val % 64)) x

theorem w_lane (c x : Fin 256) : IntOp.cmpi .eq (IntOp.shrsi .vector (BitVec.ofNat 32 c.val) 6#32) (IntOp.shrsi .vector (BitVec.ofNat 32 x.val) 6#32)
    = if x.val / 64 = c.val / 64 then 1#1 else 0#1 := by
  rw [w_sh6, w_sh6, w_eq ⟨c.val / 64, by omega⟩ ⟨x.val / 64, by omega⟩]
  exact if_congr eq_comm rfl rfl
theorem w_head (x : Fin 256) (c : Fin 512) : IntOp.cmpi .eq (IntOp.shrsi .vector (BitVec.ofNat 32 x.val) 6#32) (IntOp.shrsi .vector (BitVec.ofNat 32 c.val) 7#32)
    = if x.val / 64 = c.val / 128 then 1#1 else 0#1 := by
  rw [w_sh6, w_sh7, w_eq ⟨x.val / 64, by omega⟩ ⟨c.val / 128, by omega⟩]
theorem w_half0 (x : Fin 128) : IntOp.cmpi .eq (IntOp.shrsi .vector (BitVec.ofNat 32 x.val) 6#32) 0#32 = if x.val / 64 = 0 then 1#1 else 0#1 :=
  (by decide +kernel : ∀ x : Fin 128, IntOp.cmpi .eq (IntOp.shrsi .vector (BitVec.ofNat 32 x.val) 6#32) 0#32 = if x.val / 64 = 0 then 1#1 else 0#1) x
theorem w_half1 (x : Fin 128) : IntOp.cmpi .eq (IntOp.shrsi .vector (BitVec.ofNat 32 x.val) 6#32) 1#32 = if x.val / 64 = 1 then 1#1 else 0#1 :=
  (by decide +kernel : ∀ x : Fin 128, IntOp.cmpi .eq (IntOp.shrsi .vector (BitVec.ofNat 32 x.val) 6#32) 1#32 = if x.val / 64 = 1 then 1#1 else 0#1) x

/-- A sum over the lanes of four heads, the others' masked to zero, is the sum over one head's lanes. -/
theorem sum_head (h : Fin 4) (f : Fin 256 → EReal) :
    (∑ x : Fin 256, if x.val / 64 = h.val then f x else 0) = ∑ d : Fin 64, f ⟨h.val * 64 + d.val, by omega⟩ := by
  rw [Fin.sum_univ_tiles 4 64 rfl, Finset.sum_eq_single h]
  · exact Finset.sum_congr rfl fun d _ => if_pos (by show (h.val * 64 + d.val) / 64 = h.val; omega)
  · intro t _ ht
    refine Finset.sum_eq_zero fun d _ => if_neg ?_
    have : t.val ≠ h.val := fun e => ht (Fin.ext e)
    show ¬ (t.val * 64 + d.val) / 64 = h.val
    omega
  · simp

/-- The same over the lanes of two heads. -/
theorem sum_half (p : Fin 2) (f : Fin 128 → EReal) :
    (∑ x : Fin 128, if x.val / 64 = p.val then f x else 0) = ∑ d : Fin 64, f ⟨p.val * 64 + d.val, by omega⟩ := by
  rw [Fin.sum_univ_tiles 2 64 rfl, Finset.sum_eq_single p]
  · exact Finset.sum_congr rfl fun d _ => if_pos (by show (p.val * 64 + d.val) / 64 = p.val; omega)
  · intro t _ ht
    refine Finset.sum_eq_zero fun d _ => if_neg ?_
    have : t.val ≠ p.val := fun e => ht (Fin.ext e)
    show ¬ (t.val * 64 + d.val) / 64 = p.val
    omega
  · simp

/-! The chunk's inputs. -/

/-- Lane `d` of head `h` among 256, lane `e` of head `h` among 512. -/
abbrev ln (h : Fin 4) (d : Fin 64) : Fin 256 := ⟨h.val * 64 + d.val, by omega⟩
abbrev lv (h : Fin 4) (e : Fin 128) : Fin 512 := ⟨h.val * 128 + e.val, by omega⟩

/-- The gate's argument at a row and lane. -/
def xM (L : Vec Ideal S1x64x128 .bf16) (W : Vec Ideal S128x256 .bf16) (B : Vec Ideal S1x256 .f32) (i : Fin 64) (c : Fin 256) : EReal :=
  ∑ x : Fin 128, L (ix3 0 i x) * W (ix2 x c) + B (ix2 0 c)

theorem bM_at (L : Vec Ideal S1x64x128 .bf16) (W : Vec Ideal S128x256 .bf16) (B : Vec Ideal S1x256 .f32) (i : Fin 64) (c : Fin 256) :
    bM L W B (ix2 i c) = cum (fun j => gate (xM L W B j c)) i := by
  rw [← cum_self (fun j => gate_nonpos _)]
  simp only [← gate_eq]
  unfold xM
  pointwise [bM, k0_pay11, k0_pay3]
  simp only [w_sge, sel_ite]

theorem q_at (Q : Vec Ideal S1x64x256 .bf16) (i : Fin 64) (c : Fin 256) : k0_pay8 Q (ix2 i c) = Q (ix3 0 i c) * Ideal.ofBits .f32 0x3E000000#32 := by
  pointwise [k0_pay8]
theorem k_at (K : Vec Ideal S1x64x256 .bf16) (i : Fin 64) (c : Fin 256) : k0_pay9 K (ix2 i c) = K (ix3 0 i c) := by
  pointwise [k0_pay9]
theorem v_at (V : Vec Ideal S1x64x512 .bf16) (i : Fin 64) (c : Fin 512) : k0_pay10 V (ix2 i c) = V (ix3 0 i c) := by
  pointwise [k0_pay10]
theorem e_at (L : Vec Ideal S1x64x128 .bf16) (W : Vec Ideal S128x256 .bf16) (B : Vec Ideal S1x256 .f32) (c : Fin 256) :
    k0_pay12 k0_pay3 L W B (ix2 0 c) = bM L W B (ix2 63 c) := by
  unfold k0_pay12 bM
  generalize hb : k0_pay11 k0_pay3 L W B = b
  pointwise []
theorem qd_at (Q : Vec Ideal S1x64x256 .bf16) (L : Vec Ideal S1x64x128 .bf16) (W : Vec Ideal S128x256 .bf16) (B : Vec Ideal S1x256 .f32) (i : Fin 64) (c : Fin 256) :
    qdM Q L W B (ix3 0 i c) = k0_pay8 Q (ix2 i c) * Ideal.exp (bM L W B (ix2 i c)) := by
  unfold qdM k0_pay13 bM
  generalize hb : k0_pay11 k0_pay3 L W B = b
  pointwise []
theorem dec_at (L : Vec Ideal S1x64x128 .bf16) (W : Vec Ideal S128x256 .bf16) (B : Vec Ideal S1x256 .f32) (c : Fin 256) :
    decM L W B (ix3 0 0 c) = Ideal.exp (bM L W B (ix2 63 c)) := by
  rw [← e_at]
  unfold decM k0_pay15 k0_pay14
  generalize hb : k0_pay12 k0_pay3 L W B = b
  pointwise []

/-! The scores. -/

theorem blk_at (n : BitVec 32) (N : ℕ) (hn : ∀ x : Fin 64, IntOp.cmpi .slt (BitVec.ofNat 32 x.val) n = if x.val < N then 1#1 else 0#1)
    (ref : FVec Ideal S1x256 .f32) (qs bs : FVec Ideal S16x256 .f32) (k b : FVec Ideal S64x256 .f32)
    (r : Fin 16) (h : Fin 4) (j : Fin 64) :
    blkM n ref qs bs k b (ix2 r (ln h j))
      = ∑ d : Fin 64, qs (ix2 r (ln h d)) * Ideal.exp (bs (ix2 r (ln h d)) - ref (ix2 0 (ln h d)))
          * (k (ix2 j (ln h d)) * Ideal.exp (if j.val < N then ref (ix2 0 (ln h d)) - b (ix2 j (ln h d)) else 0)) := by
  rw [← sum_head h fun x => qs (ix2 r x) * Ideal.exp (bs (ix2 r x) - ref (ix2 0 x))
          * (k (ix2 j x) * Ideal.exp (if j.val < N then ref (ix2 0 x) - b (ix2 j x) else 0))]
  generalize hc : ln h j = c
  have hv : c.val = h.val * 64 + j.val := by rw [← hc]
  clear hc
  pointwise [blkM, k0_pay4]
  refine Finset.sum_congr rfl fun x _ => ?_
  rw [w_lane, sel_ite, show c.val / 64 = h.val by omega]
  refine if_congr Iff.rfl ?_ rfl
  refine congrArg _ ?_
  rw [← sel_ite, ← hn j]
  have hj : ∀ (t : ℕ) (ht : t < 64), t = j.val → k (ix2 ⟨t, ht⟩ x) * Ideal.exp (Scalar.select (IntOp.cmpi .slt (BitVec.ofNat 32 t) n)
      (ref (ix2 0 x) - b (ix2 ⟨t, ht⟩ x)) 0) = k (ix2 j x) * Ideal.exp (Scalar.select (IntOp.cmpi .slt (BitVec.ofNat 32 j.val) n)
      (ref (ix2 0 x) - b (ix2 j x)) 0) := fun t ht e => by subst e; rfl
  have hh := h.isLt
  have hj' := j.isLt
  split_ifs <;> exact hj _ _ (by omega)

theorem att_at (sc : FVec Ideal S64x256 .f32) (v : FVec Ideal S64x512 .bf16) (i : Fin 64) (h : Fin 4) (e : Fin 128) :
    attM sc v (ix3 0 i (lv h e)) = ∑ j : Fin 64, (if j ≤ i then sc (ix2 i (ln h j)) else 0) * v (ix2 j (lv h e)) := by
  generalize hc : lv h e = c
  have hv : c.val / 128 = h.val := by rw [← hc]; show (h.val * 128 + e.val) / 128 = h.val; omega
  clear hc
  pointwise [attM, k0_pay21, k0_pay5, k0_pay7]
  simp only [w_head, sel_ite, hv]
  rw [sum_head h]
  refine Finset.sum_congr rfl fun j _ => ?_
  rw [w_and, show (h.val * 64 + j.val) % 64 = j.val by omega, w_sle, sel_ite]
  rw [ite_mul, zero_mul]
  refine if_congr Iff.rfl ?_ rfl
  refine congrArg _ ?_
  have hj : ∀ (t : ℕ) (ht : t < 64), t = j.val → (⟨t, ht⟩ : Fin 64) = j := fun t ht e => Fin.ext e
  have hh := h.isLt
  have hj' := j.isLt
  dsimp only
  split_ifs <;> first
    | rw [hj (h.val * 64 + j.val) _ (by omega)]
    | rw [hj (h.val * 64 + j.val - 64) _ (by omega)]
    | rw [hj (h.val * 64 + j.val - 64 - 64) _ (by omega)]
    | rw [hj (h.val * 64 + j.val - 64 - 64 - 64) _ (by omega)]

theorem inter_at (st : Vec Ideal S512x128 .f32) (qd : Vec Ideal S1x64x256 .bf16) (i : Fin 64) (h : Fin 4) (e : Fin 128) (S : Fin 64 → EReal)
    (hS : ∀ l : Fin 128, st (ix2 (lv h e) l) = if l.val / 64 = h.val % 2 then S ⟨l.val % 64, by omega⟩ else 0) :
    interM st qd (ix2 i (lv h e)) = ∑ d, qd (ix3 0 i (ln h d)) * S d := by
  pointwise [interM, k0_pay197, k0_pay195, k0_pay196]
  have hr : ∀ (t : ℕ) (ht : t < 512) (l : Fin 128), t = h.val * 128 + e.val →
      st (ix2 ⟨t, ht⟩ l) = if l.val / 64 = h.val % 2 then S ⟨l.val % 64, by omega⟩ else 0 := fun t ht l e => by
    subst e; exact hS l
  clear hS
  have hm : ∀ (p : Fin 2) (d : Fin 64), (⟨(p.val * 64 + d.val) % 64, by omega⟩ : Fin 64) = d := fun p d => Fin.ext (by
    show (p.val * 64 + d.val) % 64 = d.val; omega)
  obtain ⟨h, hh⟩ := h
  have he := e.isLt
  dsimp only at *
  have h4 : h = 0 ∨ h = 1 ∨ h = 2 ∨ h = 3 := by omega
  rcases h4 with rfl | rfl | rfl | rfl
  · simp only [dif_pos (show 0 * 128 + e.val < 128 by omega), mul_zero, Finset.sum_const_zero, add_zero]
    simp only [hr (0 * 128 + e.val) _ _ rfl, mul_ite, mul_zero]
    refine (sum_half 0 fun x => qd (ix3 0 i ⟨x.val, by omega⟩) * S ⟨x.val % 64, by omega⟩).trans ?_
    exact Finset.sum_congr rfl fun d _ => congrArg _ (congrArg S (hm 0 d))
  · simp only [dif_neg (show ¬ 1 * 128 + e.val < 128 by omega), dif_pos (show 1 * 128 + e.val - 128 < 128 by omega), mul_zero, Finset.sum_const_zero, add_zero]
    simp only [hr (128 + (1 * 128 + e.val - 128)) _ _ (by omega), mul_ite, mul_zero]
    refine (sum_half 1 fun x => qd (ix3 0 i ⟨x.val, by omega⟩) * S ⟨x.val % 64, by omega⟩).trans ?_
    exact Finset.sum_congr rfl fun d _ => congrArg _ (congrArg S (hm 1 d))
  · simp only [dif_neg (show ¬ 2 * 128 + e.val < 128 by omega), dif_neg (show ¬ 2 * 128 + e.val - 128 < 128 by omega), dif_pos (show 2 * 128 + e.val - 128 - 128 < 128 by omega), mul_zero, Finset.sum_const_zero, zero_add]
    simp only [hr (256 + (2 * 128 + e.val - 128 - 128)) _ _ (by omega), mul_ite, mul_zero]
    refine (sum_half 0 fun x => qd (ix3 0 i ⟨128 + x.val, by omega⟩) * S ⟨x.val % 64, by omega⟩).trans ?_
    refine Finset.sum_congr rfl fun d _ => congrArg₂ _ (congrArg (fun z => qd (ix3 0 i z)) (Fin.ext ?_)) (congrArg S (hm 0 d))
    show 128 + (0 * 64 + d.val) = 2 * 64 + d.val
    omega
  · simp only [dif_neg (show ¬ 3 * 128 + e.val < 128 by omega), dif_neg (show ¬ 3 * 128 + e.val - 128 < 128 by omega), dif_neg (show ¬ 3 * 128 + e.val - 128 - 128 < 128 by omega), mul_zero, Finset.sum_const_zero, zero_add]
    simp only [hr (384 + (3 * 128 + e.val - 128 - 128 - 128)) _ _ (by omega), mul_ite, mul_zero]
    refine (sum_half 1 fun x => qd (ix3 0 i ⟨128 + x.val, by omega⟩) * S ⟨x.val % 64, by omega⟩).trans ?_
    refine Finset.sum_congr rfl fun d _ => congrArg₂ _ (congrArg (fun z => qd (ix3 0 i z)) (Fin.ext ?_)) (congrArg S (hm 1 d))
    show 128 + (1 * 64 + d.val) = 3 * 64 + d.val
    omega

end Cert.GlaIdeal.Model

end
-- ==== Proof.GlaHead.lean ====
/-
One chunk of the kernel, head by head: what it gives the output and the next state is the chunk's mathematics, where the
carried state of a head sits in that head's half of the lanes and the other half is zero.
-/
module

public import proofs.«01_k».proof.Proof.GlaEntries

@[expose] public section

set_option maxRecDepth 16384

noncomputable section

namespace Cert.GlaIdeal.Model

open Idealize.ShloMosaic Idealize.ShloMosaic.TcCoe Idealize.SL.Sem
open Cert.GlaIdeal Cert.GlaIdeal.Gen Cert.GlaMath

/-- A block of 16 rows of the scores: the decay to the block's first row and from it cancel. -/
theorem blk_score (n : BitVec 32) (N : ℕ) (hn : ∀ x : Fin 64, IntOp.cmpi .slt (BitVec.ofNat 32 x.val) n = if x.val < N then 1#1 else 0#1)
    (ref : FVec Ideal S1x256 .f32) (qs bs : FVec Ideal S16x256 .f32) (q k b : FVec Ideal S64x256 .f32)
    (r : Fin 16) (h : Fin 4) (t i j : Fin 64) (hi : t ≤ i) (hN : i.val < N) (hj : j ≤ i)
    (href : ∀ c, ref (ix2 0 c) = b (ix2 t c)) (hqs : ∀ c, qs (ix2 r c) = q (ix2 i c)) (hbs : ∀ c, bs (ix2 r c) = b (ix2 i c))
    (a : Fin 256 → Fin 64 → EReal) (ha : ∀ c j, a c j ≤ 0) (hb : ∀ i c, b (ix2 i c) = cum (a c) i) :
    blkM n ref qs bs k b (ix2 r (ln h j))
      = score (fun i d => q (ix2 i (ln h d))) (fun i d => k (ix2 i (ln h d))) (fun i d => b (ix2 i (ln h d))) i j := by
  rw [blk_at n N hn]
  unfold score
  refine Finset.sum_congr rfl fun d _ => ?_
  have hjN : j.val < N := lt_of_le_of_lt hj hN
  dsimp only
  rw [if_pos hjN, if_pos hj, href, hqs, hbs, hb, hb, hb]
  exact exp_cancel (ha _) hi hj _ _

theorem slt16 (x : Fin 64) : IntOp.cmpi .slt (BitVec.ofNat 32 x.val) 16#32 = if x.val < 16 then 1#1 else 0#1 := w_slt x 16
theorem slt32 (x : Fin 64) : IntOp.cmpi .slt (BitVec.ofNat 32 x.val) 32#32 = if x.val < 32 then 1#1 else 0#1 := w_slt x 32
theorem slt48 (x : Fin 64) : IntOp.cmpi .slt (BitVec.ofNat 32 x.val) 48#32 = if x.val < 48 then 1#1 else 0#1 := w_slt x 48
theorem slt64 (x : Fin 64) : IntOp.cmpi .slt (BitVec.ofNat 32 x.val) 64#32 = if x.val < 64 then 1#1 else 0#1 := w_slt x 64

/-- The scores of a head at and before the diagonal. -/
theorem sc_at (q k b : FVec Ideal S64x256 .f32) (a : Fin 256 → Fin 64 → EReal) (ha : ∀ c j, a c j ≤ 0)
    (hb : ∀ i c, b (ix2 i c) = cum (a c) i) (h : Fin 4) (i j : Fin 64) (hj : j ≤ i) :
    scM q k b (ix2 i (ln h j))
      = score (fun i d => q (ix2 i (ln h d))) (fun i d => k (ix2 i (ln h d))) (fun i d => b (ix2 i (ln h d))) i j := by
  unfold scM
  generalize hB : blkM = blk
  pointwise []
  have hi := i.isLt
  by_cases h1 : i.val < 16
  · rw [dif_pos h1]
    subst hB
    refine blk_score 16#32 16 slt16 _ _ _ q k b ⟨i.val, h1⟩ h 0 i j (Fin.zero_le i) h1 hj ?_ ?_ ?_ a ha hb <;> intro c
    · pointwise []
    · pointwise []
    · pointwise []
  rw [dif_neg h1]
  by_cases h2 : i.val - 16 < 16
  · rw [dif_pos h2]
    subst hB
    have hx : (⟨16 + (i.val - 16), by omega⟩ : Fin 64) = i := Fin.ext (by show 16 + (i.val - 16) = i.val; omega)
    refine blk_score 32#32 32 slt32 _ _ _ q k b ⟨i.val - 16, h2⟩ h 16 i j (by show 16 ≤ i.val; omega) (by omega) hj ?_ ?_ ?_ a ha hb <;> intro c
    · pointwise []
    · pointwise []; rw [hx]
    · pointwise []; rw [hx]
  rw [dif_neg h2]
  by_cases h3 : i.val - 16 - 16 < 16
  · rw [dif_pos h3]
    subst hB
    have hx : (⟨32 + (i.val - 16 - 16), by omega⟩ : Fin 64) = i := Fin.ext (by show 32 + (i.val - 16 - 16) = i.val; omega)
    refine blk_score 48#32 48 slt48 _ _ _ q k b ⟨i.val - 16 - 16, h3⟩ h 32 i j (by show 32 ≤ i.val; omega) (by omega) hj ?_ ?_ ?_ a ha hb <;> intro c
    · pointwise []
    · pointwise []; rw [hx]
    · pointwise []; rw [hx]
  · rw [dif_neg h3]
    subst hB
    have hx : (⟨48 + (i.val - 16 - 16 - 16), by omega⟩ : Fin 64) = i := Fin.ext (by show 48 + (i.val - 16 - 16 - 16) = i.val; omega)
    refine blk_score 64#32 64 slt64 _ _ _ q k b ⟨i.val - 16 - 16 - 16, by omega⟩ h 48 i j (by show 48 ≤ i.val; omega) (by omega) hj ?_ ?_ ?_ a ha hb <;> intro c
    · pointwise []
    · pointwise []; rw [hx]
    · pointwise []; rw [hx]

/-- What a head's own rows give the output. -/
theorem intra_at (q k b : FVec Ideal S64x256 .f32) (v : FVec Ideal S64x512 .bf16) (a : Fin 256 → Fin 64 → EReal) (ha : ∀ c j, a c j ≤ 0)
    (hb : ∀ i c, b (ix2 i c) = cum (a c) i) (h : Fin 4) (i : Fin 64) (e : Fin 128) :
    attM (scM q k b) v (ix3 0 i (lv h e))
      = intra (fun i d => q (ix2 i (ln h d))) (fun i d => k (ix2 i (ln h d))) (fun i d => b (ix2 i (ln h d)))
          (fun i e => v (ix2 i (lv h e))) i e := by
  rw [att_at]
  unfold intra
  refine Finset.sum_congr rfl fun j _ => congrArg (· * _) ?_
  split_ifs with hj
  · exact sc_at q k b a ha hb h i j hj
  · unfold score
    refine (Finset.sum_eq_zero fun d _ => ?_).symm
    rw [if_neg hj, Ideal.exp_bot, mul_zero, mul_zero]

/-- The kernel's carried state holds a head's state in that head's half of the lanes, zero in the other half. -/
def Holds (s : Vec Ideal S512x128 .f32) (S : Fin 4 → Fin 64 → Fin 128 → EReal) : Prop :=
  ∀ (h : Fin 4) (e l : Fin 128), s (ix2 (lv h e) l) = if l.val / 64 = h.val % 2 then S h ⟨l.val % 64, by omega⟩ e else 0

/-- The lane of the carried state's half `h / 2`. -/
abbrev lh (h : Fin 4) (l : Fin 128) : Fin 256 := ⟨h.val / 2 * 128 + l.val, by omega⟩

section
variable (K : Vec Ideal S1x64x256 .bf16) (V : Vec Ideal S1x64x512 .bf16) (L : Vec Ideal S1x64x128 .bf16) (W : Vec Ideal S128x256 .bf16) (B : Vec Ideal S1x256 .f32)

/-- What the chunk adds to a head's state at a lane. -/
def addM (h : Fin 4) (e l : Fin 128) : EReal :=
  ∑ j : Fin 64, V (ix3 0 j (lv h e)) * (K (ix3 0 j (lh h l)) * Ideal.exp (bM L W B (ix2 63 (lh h l)) - bM L W B (ix2 j (lh h l))))

theorem upd0_at (e l : Fin 128) : upd0M K V L W B (ix3 0 e l) = if l.val / 64 = 0 then addM K V L W B 0 e l else 0 := by
  unfold upd0M addM
  have he := fun c => e_at L W B c
  generalize k0_pay12 k0_pay3 L W B = z at *
  generalize bM L W B = b at *
  rw [← sel_ite, ← w_half0]
  pointwise [k0_pay23, k0_pay22, k0_pay6, k0_pay9, k0_pay10]
  simp only [he]
  rw [show lv 0 e = ⟨e.val, by omega⟩ from Fin.ext (by show 0 * 128 + e.val = e.val; omega), show lh 0 l = ⟨l.val, by omega⟩ from Fin.ext (by show 0 / 2 * 128 + l.val = l.val; omega)]
theorem upd1_at (e l : Fin 128) : upd1M K V L W B (ix3 0 e l) = if l.val / 64 = 1 then addM K V L W B 1 e l else 0 := by
  unfold upd1M addM
  have he := fun c => e_at L W B c
  generalize k0_pay12 k0_pay3 L W B = z at *
  generalize bM L W B = b at *
  rw [← sel_ite, ← w_half1]
  pointwise [k0_pay24, k0_pay22, k0_pay6, k0_pay9, k0_pay10]
  simp only [he]
  rw [show lh 1 l = ⟨l.val, by omega⟩ from Fin.ext (by show 1 / 2 * 128 + l.val = l.val; omega)]
  rfl
theorem upd2_at (e l : Fin 128) : upd2M K V L W B (ix3 0 e l) = if l.val / 64 = 0 then addM K V L W B 2 e l else 0 := by
  unfold upd2M addM
  have he := fun c => e_at L W B c
  generalize k0_pay12 k0_pay3 L W B = z at *
  generalize bM L W B = b at *
  rw [← sel_ite, ← w_half0]
  pointwise [k0_pay25, k0_pay22, k0_pay6, k0_pay9, k0_pay10]
  simp only [he]
  rfl
theorem upd3_at (e l : Fin 128) : upd3M K V L W B (ix3 0 e l) = if l.val / 64 = 1 then addM K V L W B 3 e l else 0 := by
  unfold upd3M addM
  have he := fun c => e_at L W B c
  generalize k0_pay12 k0_pay3 L W B = z at *
  generalize bM L W B = b at *
  rw [← sel_ite, ← w_half1]
  pointwise [k0_pay28, k0_pay27, k0_pay26, k0_pay22, k0_pay6, k0_pay9, k0_pay10]
  simp only [he]
  rfl
end

/-- The next state at a head's row: the carried row decayed, plus what the chunk adds. -/
theorem next_row (s : Vec Ideal S512x128 .f32) (dec : Vec Ideal S1x8x256 .f32) (u : Fin 4 → Vec Ideal S1x128x128 .f32) (h : Fin 4) (e l : Fin 128) :
    nextM s dec (u 0) (u 1) (u 2) (u 3) (ix2 (lv h e) l) = s (ix2 (lv h e) l) * dec (ix3 0 0 (lh h l)) + u h (ix3 0 e l) := by
  unfold nextM
  fin_cases h
  · refine (stack_0 _ _ _ _ _ e l rfl rfl).trans ?_
    pointwise [k0_pay199, k0_pay198]
    show s (ix2 ⟨e.val, _⟩ l) * dec (ix3 0 0 ⟨l.val, _⟩) + u 0 (ix3 0 e l) = s (ix2 (lv 0 e) l) * dec (ix3 0 0 (lh 0 l)) + u 0 (ix3 0 e l)
    rw [show lv 0 e = ⟨e.val, by omega⟩ from Fin.ext (by show 0 * 128 + e.val = e.val; omega), show lh 0 l = ⟨l.val, by omega⟩ from Fin.ext (by show 0 / 2 * 128 + l.val = l.val; omega)]
  · refine (stack_1 _ _ _ _ _ e l rfl rfl).trans ?_
    pointwise [k0_pay200, k0_pay198]
    show _ = s (ix2 (lv 1 e) l) * dec (ix3 0 0 (lh 1 l)) + u 1 (ix3 0 e l)
    rw [show lh 1 l = ⟨l.val, by omega⟩ from Fin.ext (by show 1 / 2 * 128 + l.val = l.val; omega)]
    rfl
  · refine (stack_2 _ _ _ _ _ e l rfl rfl).trans ?_
    pointwise [k0_pay202, k0_pay201, k0_pay198]
    rfl
  · refine (stack_3 _ _ _ _ _ e l rfl rfl).trans ?_
    pointwise [k0_pay203, k0_pay198]
    rfl

theorem out_at (s : Vec Ideal S512x128 .f32) (qd : Vec Ideal S1x64x256 .bf16) (w : Vec Ideal S1x64x512 .f32) (G : Vec Ideal S1x512 .f32)
    (R : Vec Ideal S1x64x512 .bf16) (i : Fin 64) (h : Fin 4) (e : Fin 128) :
    outM s qd w G R (ix3 0 i (lv h e))
      = gated (fun e => interM s qd (ix2 i (lv h e)) + w (ix3 0 i (lv h e))) (G (ix2 0 (lv h e))) (R (ix3 0 i (lv h e))) e := by
  unfold outM gated
  generalize interM s qd = o
  pointwise [k0_pay207, k0_pay206, k0_pay205, k0_pay204]
  obtain ⟨h, hh⟩ := h
  have he := e.isLt
  dsimp only at *
  have h4 : h = 0 ∨ h = 1 ∨ h = 2 ∨ h = 3 := by omega
  rcases h4 with rfl | rfl | rfl | rfl
  · simp only [dif_pos (show 0 * 128 + e.val < 128 by omega)]
    have hx : ∀ x : Fin 128, lv ⟨0, hh⟩ x = ⟨x.val, by omega⟩ := fun x => Fin.ext (by show 0 * 128 + x.val = x.val; omega)
    simp only [hx]
  · simp only [dif_neg (show ¬ 1 * 128 + e.val < 128 by omega), dif_pos (show 1 * 128 + e.val - 128 < 128 by omega)]
    have hx : (⟨128 + (1 * 128 + e.val - 128), by omega⟩ : Fin 512) = lv ⟨1, hh⟩ e := Fin.ext (by show 128 + (1 * 128 + e.val - 128) = 1 * 128 + e.val; omega)
    simp only [hx]
    rfl
  · simp only [dif_neg (show ¬ 2 * 128 + e.val < 128 by omega), dif_neg (show ¬ 2 * 128 + e.val - 128 < 128 by omega), dif_pos (show 2 * 128 + e.val - 128 - 128 < 128 by omega)]
    have hx : (⟨256 + (2 * 128 + e.val - 128 - 128), by omega⟩ : Fin 512) = lv ⟨2, hh⟩ e := Fin.ext (by show 256 + (2 * 128 + e.val - 128 - 128) = 2 * 128 + e.val; omega)
    simp only [hx]
    rfl
  · simp only [dif_neg (show ¬ 3 * 128 + e.val < 128 by omega), dif_neg (show ¬ 3 * 128 + e.val - 128 < 128 by omega), dif_neg (show ¬ 3 * 128 + e.val - 128 - 128 < 128 by omega)]
    have hx : (⟨384 + (3 * 128 + e.val - 128 - 128 - 128), by omega⟩ : Fin 512) = lv ⟨3, hh⟩ e := Fin.ext (by show 384 + (3 * 128 + e.val - 128 - 128 - 128) = 3 * 128 + e.val; omega)
    simp only [hx]
    rfl

end Cert.GlaIdeal.Model

end
-- ==== Proof.GlaPoint.lean ====
module

public import proofs.«01_k».proof.Proof.GlaModel
public import Idealize.ShloMosaic.Lib.WholeRead

@[expose] public section

set_option maxRecDepth 16384

noncomputable section

/-! One grid point of the gated linear attention: eight chunks of 64 rows, one after another. -/

namespace Cert.GlaIdeal.Model

open Idealize.ShloMosaic Idealize.ShloMosaic.TcCoe Idealize.SL.Sem
open Cert.GlaIdeal Cert.GlaIdeal.Gen Cert.GlaIdeal.Model

/-! Chunk `u` of a block of 512 rows. -/

def cut256 (x : Vec Ideal S1x512x256 .bf16) (u : Fin 8) : Vec Ideal S1x64x256 .bf16 := fun j => x (ix3 0 ⟨64 * u.val + (j 1).val, by have h : (j 1).val < 64 := (j 1).isLt; omega⟩ (j 2))

theorem rd256_eq (arg : Memref sig .tc .vmem S1x512x256 .bf16) (harg : arg.IsWhole) (x : Vec Ideal S1x512x256 .bf16) (u : Fin 8) (o : ℕ) (ho : o = 64 * u.val) (inb : ∀ a, ![0, o, 0] a + S1x64x256.size a ≤ S1x512x256.size a) :
    rd256 arg harg x ![0, o, 0] inb = cut256 x u := by
  subst ho
  funext j
  refine (harg.readAt_unread x (Rect.unit (s := S1x512x256) ![0, 64 * u.val, 0] S1x64x256.size inb).toLoadRect j).trans ?_
  have h0 : (j 0).val < 1 := (j 0).isLt
  refine congrArg x (funext fun a => ?_)
  fin_cases a
  · exact Fin.ext (by show 0 + 1 * (j 0).val = 0; omega)
  · exact Fin.ext (by show 64 * u.val + 1 * (j 1).val = 64 * u.val + (j 1).val; omega)
  · exact Fin.ext (by show 0 + 1 * (j 2).val = (j 2).val; omega)

def cut512 (x : Vec Ideal S1x512x512 .bf16) (u : Fin 8) : Vec Ideal S1x64x512 .bf16 := fun j => x (ix3 0 ⟨64 * u.val + (j 1).val, by have h : (j 1).val < 64 := (j 1).isLt; omega⟩ (j 2))

theorem rd512_eq (arg : Memref sig .tc .vmem S1x512x512 .bf16) (harg : arg.IsWhole) (x : Vec Ideal S1x512x512 .bf16) (u : Fin 8) (o : ℕ) (ho : o = 64 * u.val) (inb : ∀ a, ![0, o, 0] a + S1x64x512.size a ≤ S1x512x512.size a) :
    rd512 arg harg x ![0, o, 0] inb = cut512 x u := by
  subst ho
  funext j
  refine (harg.readAt_unread x (Rect.unit (s := S1x512x512) ![0, 64 * u.val, 0] S1x64x512.size inb).toLoadRect j).trans ?_
  have h0 : (j 0).val < 1 := (j 0).isLt
  refine congrArg x (funext fun a => ?_)
  fin_cases a
  · exact Fin.ext (by show 0 + 1 * (j 0).val = 0; omega)
  · exact Fin.ext (by show 64 * u.val + 1 * (j 1).val = 64 * u.val + (j 1).val; omega)
  · exact Fin.ext (by show 0 + 1 * (j 2).val = (j 2).val; omega)

def cut128 (x : Vec Ideal S1x512x128 .bf16) (u : Fin 8) : Vec Ideal S1x64x128 .bf16 := fun j => x (ix3 0 ⟨64 * u.val + (j 1).val, by have h : (j 1).val < 64 := (j 1).isLt; omega⟩ (j 2))

theorem rd128_eq (arg : Memref sig .tc .vmem S1x512x128 .bf16) (harg : arg.IsWhole) (x : Vec Ideal S1x512x128 .bf16) (u : Fin 8) (o : ℕ) (ho : o = 64 * u.val) (inb : ∀ a, ![0, o, 0] a + S1x64x128.size a ≤ S1x512x128.size a) :
    rd128 arg harg x ![0, o, 0] inb = cut128 x u := by
  subst ho
  funext j
  refine (harg.readAt_unread x (Rect.unit (s := S1x512x128) ![0, 64 * u.val, 0] S1x64x128.size inb).toLoadRect j).trans ?_
  have h0 : (j 0).val < 1 := (j 0).isLt
  refine congrArg x (funext fun a => ?_)
  fin_cases a
  · exact Fin.ext (by show 0 + 1 * (j 0).val = 0; omega)
  · exact Fin.ext (by show 64 * u.val + 1 * (j 1).val = 64 * u.val + (j 1).val; omega)
  · exact Fin.ext (by show 0 + 1 * (j 2).val = (j 2).val; omega)

theorem rdW_eq (arg : Memref sig .tc .vmem S128x256 .bf16) (harg : arg.IsWhole) (x : Vec Ideal S128x256 .bf16) : rdW arg harg x = x := by
  funext j
  refine (harg.readAt_unread x (Rect.unit (s := S128x256) ![0, 0] S128x256.size inb_S128x256_S128x256_0_0).toLoadRect j).trans ?_
  refine congrArg x (funext fun a => ?_)
  fin_cases a
  · exact Fin.ext (by show 0 + 1 * (j 0).val = (j 0).val; omega)
  · exact Fin.ext (by show 0 + 1 * (j 1).val = (j 1).val; omega)

theorem rdB_eq (arg : Memref sig .tc .vmem S1x256 .f32) (harg : arg.IsWhole) (x : Vec Ideal S1x256 .f32) : rdB arg harg x = x := by
  funext j
  refine (harg.readAt_unread x (Rect.unit (s := S1x256) ![0, 0] S1x256.size inb_S1x256_S1x256_0_0).toLoadRect j).trans ?_
  refine congrArg x (funext fun a => ?_)
  fin_cases a
  · exact Fin.ext (by show 0 + 1 * (j 0).val = (j 0).val; omega)
  · exact Fin.ext (by show 0 + 1 * (j 1).val = (j 1).val; omega)

theorem rdG_eq (arg : Memref sig .tc .vmem S1x512 .f32) (harg : arg.IsWhole) (x : Vec Ideal S1x512 .f32) : rdG arg harg x = x := by
  funext j
  refine (harg.readAt_unread x (Rect.unit (s := S1x512) ![0, 0] S1x512.size inb_S1x512_S1x512_0_0).toLoadRect j).trans ?_
  refine congrArg x (funext fun a => ?_)
  fin_cases a
  · exact Fin.ext (by show 0 + 1 * (j 0).val = (j 0).val; omega)
  · exact Fin.ext (by show 0 + 1 * (j 1).val = (j 1).val; omega)

theorem whole_idx (j : S512x128.Idx) : (Rect.unit (s := S512x128) ![0, 0] S512x128.size inb_S512x128_S512x128_0_0).toLoadRect.idx j = j := by
  refine funext fun a => ?_
  fin_cases a
  · exact Fin.ext (by show 0 + 1 * (j 0).val = (j 0).val; omega)
  · exact Fin.ext (by show 0 + 1 * (j 1).val = (j 1).val; omega)

theorem rdS_eq (arg : Memref sig .tc .vmem S512x128 .f32) (harg : arg.IsWhole) (x : Vec Ideal S512x128 .f32) :
    View.readAt (Val := Elt Ideal) (s := S512x128) (e := .f32) arg.view (Rect.unit (s := S512x128) ![0, 0] S512x128.size inb_S512x128_S512x128_0_0).toLoadRect (harg.unread x) = x := by
  funext j
  exact (harg.readAt_unread x _ j).trans (congrArg x (whole_idx j))

/-- A load of the whole state after four covering writes reads their stack. -/
theorem readCov_stack (v : View sig .tc .vmem S512x128 .f32) (a b c d : FVec Ideal S128x128 .f32) (l : List (View.Piece (Elt Ideal) S512x128 .f32)) :
    v.readCov (Val := Elt Ideal)
      (⟨Rect.unit ![384, 0] S128x128.size inb_S512x128_S128x128_384_0, d⟩ :: ⟨Rect.unit ![256, 0] S128x128.size inb_S512x128_S128x128_256_0, c⟩ ::
        ⟨Rect.unit ![128, 0] S128x128.size inb_S512x128_S128x128_128_0, b⟩ :: ⟨Rect.unit ![0, 0] S128x128.size inb_S512x128_S128x128_0_0, a⟩ :: l)
      (Rect.unit ![0, 0] S512x128.size inb_S512x128_S512x128_0_0).toLoadRect = stack a b c d := by
  rw [View.readCov_eq_canon', canon_stack]
  funext j
  exact congrArg (stack a b c d) (whole_idx j)

/-- Eight blocks of 64 rows on top of one another. -/
def rows8 (a : Fin 8 → FVec Ideal S1x64x512 .bf16) : Vec Ideal S1x512x512 .bf16 := fun y =>
  a ⟨(y 1).val / 64, by have h : (y 1).val < 512 := (y 1).isLt; omega⟩ (ix3 0 ⟨(y 1).val % 64, Nat.mod_lt _ (by omega)⟩ (y 2))

theorem rows8_at (a : Fin 8 → FVec Ideal S1x64x512 .bf16) (u : Fin 8) (y : S1x512x512.Idx) (x : S1x64x512.Idx) (h1 : (y 1).val = 64 * u.val + (x 1).val) (h2 : (y 2).val = (x 2).val) :
    rows8 a y = a u x := by
  have hx : (x 1).val < 64 := (x 1).isLt
  have h0 : (x 0).val < 1 := (x 0).isLt
  have hu : (⟨(y 1).val / 64, by have h : (y 1).val < 512 := (y 1).isLt; omega⟩ : Fin 8) = u := Fin.ext (by show (y 1).val / 64 = u.val; omega)
  unfold rows8
  rw [hu]
  refine congrArg (a u) (funext fun b => ?_)
  fin_cases b
  · exact Fin.ext (by show 0 = (x 0).val; omega)
  · exact Fin.ext (by show (y 1).val % 64 = (x 1).val; omega)
  · exact Fin.ext h2

/-- Eight writes of 64 rows cover the block. -/
theorem canon_rows8 (a0 a1 a2 a3 a4 a5 a6 a7 : FVec Ideal S1x64x512 .bf16) :
    View.canon (Val := Elt Ideal) (s := S1x512x512) (e := .bf16)
      [⟨Rect.unit ![0, 448, 0] S1x64x512.size inb_S1x512x512_S1x64x512_0_448_0, a7⟩, ⟨Rect.unit ![0, 384, 0] S1x64x512.size inb_S1x512x512_S1x64x512_0_384_0, a6⟩, ⟨Rect.unit ![0, 320, 0] S1x64x512.size inb_S1x512x512_S1x64x512_0_320_0, a5⟩, ⟨Rect.unit ![0, 256, 0] S1x64x512.size inb_S1x512x512_S1x64x512_0_256_0, a4⟩, ⟨Rect.unit ![0, 192, 0] S1x64x512.size inb_S1x512x512_S1x64x512_0_192_0, a3⟩, ⟨Rect.unit ![0, 128, 0] S1x64x512.size inb_S1x512x512_S1x64x512_0_128_0, a2⟩, ⟨Rect.unit ![0, 64, 0] S1x64x512.size inb_S1x512x512_S1x64x512_0_64_0, a1⟩, ⟨Rect.unit ![0, 0, 0] S1x64x512.size inb_S1x512x512_S1x64x512_0_0_0, a0⟩]
      = rows8 ![a0, a1, a2, a3, a4, a5, a6, a7] := by
  have hs : ∀ (L : List (View.Piece (Elt Ideal) S1x512x512 .bf16)) (G : S1x512x512.Idx → Elt Ideal .bf16), View.PiecesOf G L → (∀ y : S1x512x512.Idx, ∃ p ∈ L, y ∈ p.1.set) →
      View.canon (Val := Elt Ideal) (s := S1x512x512) (e := .bf16) L = G :=
    fun L G h hc => funext fun y => View.canon_apply_of_pieces G L h.mem y (hc y)
  refine hs _ _ ⟨?_, ?_, ?_, ?_, ?_, ?_, ?_, ?_, trivial⟩ (View.cover_of_tiledL _ ![1, 64, 512] rfl)
  · intro x
    refine (rows8_at ![a0, a1, a2, a3, a4, a5, a6, a7] 7 ((Rect.unit (s := S1x512x512) ![0, 448, 0] S1x64x512.size inb_S1x512x512_S1x64x512_0_448_0).emb x) x ?_ ?_).symm
    · show 448 + 1 * (x 1).val = 64 * 7 + (x 1).val; omega
    · show 0 + 1 * (x 2).val = (x 2).val; omega
  · intro x
    refine (rows8_at ![a0, a1, a2, a3, a4, a5, a6, a7] 6 ((Rect.unit (s := S1x512x512) ![0, 384, 0] S1x64x512.size inb_S1x512x512_S1x64x512_0_384_0).emb x) x ?_ ?_).symm
    · show 384 + 1 * (x 1).val = 64 * 6 + (x 1).val; omega
    · show 0 + 1 * (x 2).val = (x 2).val; omega
  · intro x
    refine (rows8_at ![a0, a1, a2, a3, a4, a5, a6, a7] 5 ((Rect.unit (s := S1x512x512) ![0, 320, 0] S1x64x512.size inb_S1x512x512_S1x64x512_0_320_0).emb x) x ?_ ?_).symm
    · show 320 + 1 * (x 1).val = 64 * 5 + (x 1).val; omega
    · show 0 + 1 * (x 2).val = (x 2).val; omega
  · intro x
    refine (rows8_at ![a0, a1, a2, a3, a4, a5, a6, a7] 4 ((Rect.unit (s := S1x512x512) ![0, 256, 0] S1x64x512.size inb_S1x512x512_S1x64x512_0_256_0).emb x) x ?_ ?_).symm
    · show 256 + 1 * (x 1).val = 64 * 4 + (x 1).val; omega
    · show 0 + 1 * (x 2).val = (x 2).val; omega
  · intro x
    refine (rows8_at ![a0, a1, a2, a3, a4, a5, a6, a7] 3 ((Rect.unit (s := S1x512x512) ![0, 192, 0] S1x64x512.size inb_S1x512x512_S1x64x512_0_192_0).emb x) x ?_ ?_).symm
    · show 192 + 1 * (x 1).val = 64 * 3 + (x 1).val; omega
    · show 0 + 1 * (x 2).val = (x 2).val; omega
  · intro x
    refine (rows8_at ![a0, a1, a2, a3, a4, a5, a6, a7] 2 ((Rect.unit (s := S1x512x512) ![0, 128, 0] S1x64x512.size inb_S1x512x512_S1x64x512_0_128_0).emb x) x ?_ ?_).symm
    · show 128 + 1 * (x 1).val = 64 * 2 + (x 1).val; omega
    · show 0 + 1 * (x 2).val = (x 2).val; omega
  · intro x
    refine (rows8_at ![a0, a1, a2, a3, a4, a5, a6, a7] 1 ((Rect.unit (s := S1x512x512) ![0, 64, 0] S1x64x512.size inb_S1x512x512_S1x64x512_0_64_0).emb x) x ?_ ?_).symm
    · show 64 + 1 * (x 1).val = 64 * 1 + (x 1).val; omega
    · show 0 + 1 * (x 2).val = (x 2).val; omega
  · intro x
    refine (rows8_at ![a0, a1, a2, a3, a4, a5, a6, a7] 0 ((Rect.unit (s := S1x512x512) ![0, 0, 0] S1x64x512.size inb_S1x512x512_S1x64x512_0_0_0).emb x) x ?_ ?_).symm
    · show 0 + 1 * (x 1).val = 64 * 0 + (x 1).val; omega
    · show 0 + 1 * (x 2).val = (x 2).val; omega

section
variable (x0 x1 : Vec Ideal S1x512x256 .bf16) (x2 x3 : Vec Ideal S1x512x512 .bf16) (x4 : Vec Ideal S1x512x128 .bf16) (x5 : Vec Ideal S128x256 .bf16) (x6 : Vec Ideal S1x256 .f32) (x7 : Vec Ideal S1x512 .f32) (xs0 : Vec Ideal S512x128 .f32)

/-- The state after chunk `u`, from the state before it. -/
def stepU (u : Fin 8) (st : Vec Ideal S512x128 .f32) : Vec Ideal S512x128 .f32 :=
  nextM st (decM (cut128 x4 u) x5 x6) (upd0M (cut256 x1 u) (cut512 x2 u) (cut128 x4 u) x5 x6) (upd1M (cut256 x1 u) (cut512 x2 u) (cut128 x4 u) x5 x6)
    (upd2M (cut256 x1 u) (cut512 x2 u) (cut128 x4 u) x5 x6) (upd3M (cut256 x1 u) (cut512 x2 u) (cut128 x4 u) x5 x6)

/-- The state before chunk `u` of the point. -/
def stU : ℕ → Vec Ideal S512x128 .f32
  | 0 => xs0
  | u + 1 => stepU x1 x2 x4 x5 x6 (Fin.ofNat 8 u) (stU u)

/-- Chunk `u` of the point's output. -/
def outU (u : Fin 8) : FVec Ideal S1x64x512 .bf16 :=
  outM (stU x1 x2 x4 x5 x6 xs0 u.val) (qdM (cut256 x0 u) (cut128 x4 u) x5 x6) (intraM (cut256 x0 u) (cut256 x1 u) (cut512 x2 u) (cut128 x4 u) x5 x6) x7 (cut512 x3 u)
end

end Cert.GlaIdeal.Model

end
-- ==== Proof.GlaScan.lean ====
/-
A grid point of the kernel is eight chunks in a row: if the carried state holds the heads' states before the first of them, it
holds their states after the last, and the eight blocks of output rows are the chunks' outputs.
-/
module

public import proofs.«01_k».proof.Proof.GlaHead
public import proofs.«01_k».proof.Proof.GlaPoint

@[expose] public section

set_option maxRecDepth 16384

noncomputable section

namespace Cert.GlaIdeal.Model

open Idealize.ShloMosaic Idealize.ShloMosaic.TcCoe Idealize.SL.Sem
open Cert.GlaIdeal Cert.GlaIdeal.Gen Cert.GlaMath

section
variable (Q K : Vec Ideal S1x64x256 .bf16) (V : Vec Ideal S1x64x512 .bf16) (L : Vec Ideal S1x64x128 .bf16) (W : Vec Ideal S128x256 .bf16) (B : Vec Ideal S1x256 .f32)

/-- A chunk's queries, keys, values and log decays, a head at a time. -/
def qC (h : Fin 4) (i d : Fin 64) : EReal := Q (ix3 0 i (ln h d)) * Ideal.ofBits .f32 0x3E000000#32
def kC (h : Fin 4) (i d : Fin 64) : EReal := K (ix3 0 i (ln h d))
def vC (h : Fin 4) (i : Fin 64) (e : Fin 128) : EReal := V (ix3 0 i (lv h e))
def laC (h : Fin 4) (i d : Fin 64) : EReal := gate (xM L W B i (ln h d))

theorem b_cums (h : Fin 4) (i d : Fin 64) : bM L W B (ix2 i (ln h d)) = cums (laC L W B h) i d := bM_at L W B i (ln h d)

theorem intraM_at (h : Fin 4) (i : Fin 64) (e : Fin 128) :
    intraM Q K V L W B (ix3 0 i (lv h e)) = intra (qC Q h) (kC K h) (cums (laC L W B h)) (vC V h) i e := by
  unfold intraM
  rw [intra_at _ _ _ _ (fun c j => gate (xM L W B j c)) (fun c j => gate_nonpos _) (bM_at L W B)]
  simp only [q_at, k_at, v_at, b_cums]
  rfl

/-- A head's state after the chunk, at a lane of the head's own half. -/
theorem addM_at (s : EReal) (S : Fin 64 → Fin 128 → EReal) (h : Fin 4) (e l : Fin 128) (hl : l.val / 64 = h.val % 2)
    (hs : s = S ⟨l.val % 64, by omega⟩ e) :
    s * Ideal.exp (bM L W B (ix2 63 (lh h l))) + addM K V L W B h e l
      = next (kC K h) (cums (laC L W B h)) (vC V h) S ⟨l.val % 64, by omega⟩ e := by
  have hx : lh h l = ln h ⟨l.val % 64, by omega⟩ := Fin.ext (by
    show h.val / 2 * 128 + l.val = h.val * 64 + l.val % 64
    omega)
  unfold addM next
  rw [hx, hs]
  simp only [b_cums]
  refine congrArg₂ _ (mul_comm _ _) (Finset.sum_congr rfl fun j _ => ?_)
  exact mul_comm _ _

theorem upd_at (h : Fin 4) (e l : Fin 128) :
    (![upd0M K V L W B, upd1M K V L W B, upd2M K V L W B, upd3M K V L W B] : Fin 4 → Vec Ideal S1x128x128 .f32) h (ix3 0 e l)
      = if l.val / 64 = h.val % 2 then addM K V L W B h e l else 0 := by
  fin_cases h
  · exact upd0_at K V L W B e l
  · exact upd1_at K V L W B e l
  · exact upd2_at K V L W B e l
  · exact upd3_at K V L W B e l

/-- One chunk takes states held to states held. -/
theorem holds_next (s : Vec Ideal S512x128 .f32) (S : Fin 4 → Fin 64 → Fin 128 → EReal) (hs : Holds s S) :
    Holds (nextM s (decM L W B) (upd0M K V L W B) (upd1M K V L W B) (upd2M K V L W B) (upd3M K V L W B))
      (fun h => next (kC K h) (cums (laC L W B h)) (vC V h) (S h)) := by
  intro h e l
  refine (next_row s (decM L W B) (![upd0M K V L W B, upd1M K V L W B, upd2M K V L W B, upd3M K V L W B] : Fin 4 → Vec Ideal S1x128x128 .f32) h e l).trans ?_
  rw [upd_at, dec_at, hs h e l]
  by_cases hl : l.val / 64 = h.val % 2
  · rw [if_pos hl, if_pos hl, if_pos hl]
    exact addM_at K V L W B _ (S h) h e l hl rfl
  · rw [if_neg hl, if_neg hl, if_neg hl, zero_mul, add_zero]

/-- One chunk's output rows. -/
theorem outM_at (s : Vec Ideal S512x128 .f32) (S : Fin 4 → Fin 64 → Fin 128 → EReal) (hs : Holds s S) (G : Vec Ideal S1x512 .f32)
    (R : Vec Ideal S1x64x512 .bf16) (h : Fin 4) (i : Fin 64) (e : Fin 128) :
    outM s (qdM Q L W B) (intraM Q K V L W B) G R (ix3 0 i (lv h e))
      = gated (fun e => inter (qC Q h) (cums (laC L W B h)) (S h) i e + intra (qC Q h) (kC K h) (cums (laC L W B h)) (vC V h) i e)
          (G (ix2 0 (lv h e))) (R (ix3 0 i (lv h e))) e := by
  rw [out_at]
  congr 1
  funext e
  rw [intraM_at]
  congr 1
  rw [inter_at s (qdM Q L W B) i h e (fun d => S h d e) (hs h e)]
  unfold inter
  simp only [qd_at, q_at, b_cums]
  rfl
end

section
variable (x0 x1 : Vec Ideal S1x512x256 .bf16) (x2 x3 : Vec Ideal S1x512x512 .bf16) (x4 : Vec Ideal S1x512x128 .bf16)
  (x5 : Vec Ideal S128x256 .bf16) (x6 : Vec Ideal S1x256 .f32) (x7 : Vec Ideal S1x512 .f32) (xs0 : Vec Ideal S512x128 .f32)
  (q k la : Fin 4 → ℕ → Fin 64 → Fin 64 → EReal) (v : Fin 4 → ℕ → Fin 64 → Fin 128 → EReal) (n0 : ℕ)
  (hk : ∀ (u : Fin 8) h, kC (cut256 x1 u) h = k h (n0 + u.val))
  (hv : ∀ (u : Fin 8) h, vC (cut512 x2 u) h = v h (n0 + u.val))
  (hla : ∀ (u : Fin 8) h, laC (cut128 x4 u) x5 x6 h = la h (n0 + u.val))
  (hs : Holds xs0 (fun h => st (k h) (la h) (v h) n0))

include hk hv hla hs in
/-- The carried state within a grid point. -/
theorem holds_stU (m : ℕ) (hm : m ≤ 8) : Holds (stU x1 x2 x4 x5 x6 xs0 m) (fun h => st (k h) (la h) (v h) (n0 + m)) := by
  induction m with
  | zero => exact hs
  | succ m ih =>
    have hu : Fin.ofNat 8 m = (⟨m, by omega⟩ : Fin 8) := Fin.ext (Nat.mod_eq_of_lt (by omega))
    have := holds_next (cut256 x1 ⟨m, by omega⟩) (cut512 x2 ⟨m, by omega⟩) (cut128 x4 ⟨m, by omega⟩) x5 x6 _ _ (ih (by omega))
    simp only [hk, hv, hla] at this
    show Holds (stepU x1 x2 x4 x5 x6 (Fin.ofNat 8 m) (stU x1 x2 x4 x5 x6 xs0 m)) _
    rw [hu]
    exact this

include hk hv hla hs in
/-- The output rows of a grid point. -/
theorem outU_at (hq : ∀ (u : Fin 8) h, qC (cut256 x0 u) h = q h (n0 + u.val)) (u : Fin 8) (h : Fin 4) (i : Fin 64) (e : Fin 128) :
    outU x0 x1 x2 x3 x4 x5 x6 x7 xs0 u (ix3 0 i (lv h e))
      = gated (out (q h) (k h) (la h) (v h) (n0 + u.val) i) (x7 (ix2 0 (lv h e))) (cut512 x3 u (ix3 0 i (lv h e))) e := by
  have := outM_at (cut256 x0 u) (cut256 x1 u) (cut512 x2 u) (cut128 x4 u) x5 x6 _ _
    (holds_stU x1 x2 x4 x5 x6 xs0 k la v n0 hk hv hla hs u.val (by omega)) x7 (cut512 x3 u) h i e
  simp only [hq, hk, hv, hla] at this
  exact this
end

end Cert.GlaIdeal.Model

end
-- ==== Proof.GlaHost.lean ====
/-
The operands that the host lays out for the gated linear attention: the gate's weight with rows of zeros behind, the gate's bias
as a row, and the output gain once per head. And the window of each operand at each grid point.
-/
module

public import proofs.«01_k».proof.Proof.Gen.GlaIdeal.Value
public import proofs.«01_k».proof.Proof.GlaScan
public import Idealize.ShloMosaic.Lib.Pipeline.ReadBack
public import Idealize.ShloMosaic.Lib.Pipeline.ValueKit
public import Idealize.ShloMosaic.Lib.Routing.OpsSet
public import Idealize.ShloMosaic.Lib.Routing.OpsPair

@[expose] public section

set_option maxRecDepth 16384

noncomputable section

namespace Cert.GlaIdeal.Array

open Idealize.ShloMosaic Idealize.ShloMosaic.TcCoe Idealize.SL.Sem
open Idealize.ShloMosaic.Pipeline (Dat)
open Cert.GlaIdeal Cert.GlaIdeal.Gen Cert.GlaIdeal.Model

variable (m : (ℓ : Loc nD τ sig) → Buf (Elt Ideal) ℓ)

/-- The place of the one start: row 0. -/
def start0 : IVec S1 32 := broadcastInDim S1 ![] bcast_S_S1 (constantI S_ 32 0#32)

/-- Where an entry of the 16 rows lands: at itself. -/
theorem lands (z : IVec S1 32) (hz : ∀ a, z a = 0#32) (k : S16x256.Idx) (r : Fin 128) (c : Fin 256) :
    scatter_S128x256_S1_S16x256_01_n_0_0.resultIdx? k z = some (ix2 r c) ↔ (k 0).val = r.val ∧ (k 1).val = c.val := by
  have h0 : scatter_S128x256_S1_S16x256_01_n_0_0.start k z 0 = 0 := by
    unfold ScatterDims.start
    rw [dif_pos (show (0 : Fin 2) ∈ scatter_S128x256_S1_S16x256_01_n_0_0.scatterDimsToOperandDims from List.mem_singleton.2 rfl), hz]
    rfl
  have h1 : scatter_S128x256_S1_S16x256_01_n_0_0.start k z 1 = 0 := rfl
  have w0 : scatter_S128x256_S1_S16x256_01_n_0_0.window k 0 = (k 0).val := rfl
  have w1 : scatter_S128x256_S1_S16x256_01_n_0_0.window k 1 = (k 1).val := rfl
  refine (Routing.resultIdx?_ix2 (R := 128) (C := 256) scatter_S128x256_S1_S16x256_01_n_0_0 k z r c).trans ?_
  rw [h0, h1, w0, w1]
  omega

theorem set_lt {α : Type} (x0 : S128x256.Idx → α) (z : IVec S1 32) (hz : ∀ a, z a = 0#32) (w : S16x256.Idx → α) (r : Fin 128) (c : Fin 256) (x : Fin 16) (h : x.val = r.val) :
    Host.scatter scatter_S128x256_S1_S16x256_01_n_0_0 (fun _ b => b) x0 z w (ix2 r c) = w (ix2 x c) := by
  refine Routing.scatter_set_hit scatter_S128x256_S1_S16x256_01_n_0_0 x0 z w (ix2 r c) _ (fun k hk => ?_) (ix2 x c) ((lands z hz _ r c).2 ⟨h, rfl⟩)
  have := (lands z hz k r c).1 hk
  exact congrArg w ((eq_ix2 k).trans (congrArg₂ ix2 (Fin.ext (this.1.trans h.symm)) (Fin.ext this.2)))

theorem set_ge {α : Type} (x0 : S128x256.Idx → α) (z : IVec S1 32) (hz : ∀ a, z a = 0#32) (w : S16x256.Idx → α) (r : Fin 128) (c : Fin 256) (h : 16 ≤ r.val) :
    Host.scatter scatter_S128x256_S1_S16x256_01_n_0_0 (fun _ b => b) x0 z w (ix2 r c) = x0 (ix2 r c) := by
  refine Routing.scatter_set_miss scatter_S128x256_S1_S16x256_01_n_0_0 x0 z w (ix2 r c) fun k hk => ?_
  have := (lands z hz k r c).1 hk
  have h2 : (k 0).val < 16 := (k 0).isLt
  omega

/-- The gate's weight with 112 rows of zeros behind. -/
def setW (w : FVec Ideal S16x256 .f32) : FVec Ideal S128x256 .f32 :=
  Host.scatter scatter_S128x256_S1_S16x256_01_n_0_0 (fun _ b => b)
    (broadcastInDim S128x256 ![] bcast_S_S128x256 (constant (F := Ideal) S_ .f32 0x00000000#32)) start0 w

def padW (w : FVec Ideal S16x256 .f32) : FVec Ideal S128x256 .bf16 := truncf .bf16 (setW w) bitsLt_bf16_f32

theorem padW_eq (w : FVec Ideal S16x256 .f32) (j : S128x256.Idx) : padW w j = setW w j := by
  unfold padW
  generalize setW w = x
  rfl

theorem start0_at (a : S1.Idx) : start0 a = 0#32 := by
  unfold start0
  rfl

theorem padW_lt (w : FVec Ideal S16x256 .f32) (r : Fin 128) (c : Fin 256) (x : Fin 16) (h : x.val = r.val) : padW w (ix2 r c) = w (ix2 x c) := by
  rw [padW_eq]
  unfold setW
  exact set_lt _ _ start0_at w r c x h

theorem padW_ge (w : FVec Ideal S16x256 .f32) (r : Fin 128) (c : Fin 256) (h : 16 ≤ r.val) : padW w (ix2 r c) = 0 := by
  rw [padW_eq]
  unfold setW
  rw [set_ge _ _ start0_at w r c h]
  pointwise []

/-- The gate's bias as a row. -/
def rowB (g : FVec Ideal S256 .f32) : FVec Ideal S1x256 .f32 := shapeCast S1x256 g shapeCasts_S256_S1x256

theorem rowB_at (g : FVec Ideal S256 .f32) (c : Fin 256) : rowB g (ix2 0 c) = g (ix1 c) := by
  pointwise [rowB]

/-- The gain once per head. -/
def rowG (g : FVec Ideal S128 .f32) : FVec Ideal S1x512 .f32 :=
  shapeCast S1x512 (shapeCast S512 (broadcastInDim S4x128 ![0, 1] bcast_S1x128_S4x128_0_1 (shapeCast S1x128 g shapeCasts_S128_S1x128)) shapeCasts_S4x128_S512) shapeCasts_S512_S1x512

theorem rowG_at (g : FVec Ideal S128 .f32) (h : Fin 4) (e : Fin 128) : rowG g (ix2 0 (lv h e)) = g (ix1 e) := by
  unfold lv
  pointwise [rowG]

set_option maxHeartbeats 4000000 in
theorem weight (c : Dev nD) : V m c main_v3 = padW (m ((c : Thread nD τ).loc main_arg1)) := by
  unfold V; after_results; rfl

set_option maxHeartbeats 4000000 in
theorem bias (c : Dev nD) : V m c main_v4 = rowB (m ((c : Thread nD τ).loc main_arg2)) := by
  unfold V; after_results; rfl

set_option maxHeartbeats 4000000 in
theorem gain (c : Dev nD) : V m c main_v8 = rowG (m ((c : Thread nD τ).loc main_arg3)) := by
  unfold V; after_results; rfl

/-- Every window's block at every point: batch element `t / 8`, rows `t % 8`. -/
theorem idx : ∀ t : Fin cfg0.N, win0_0.index t = ![t.val / 8, t.val % 8, 36] ∧ win0_1.index t = ![t.val / 8, t.val % 8, 37]
    ∧ win0_2.index t = ![t.val / 8, t.val % 8, 7] ∧ win0_3.index t = ![t.val / 8, t.val % 8, 8] ∧ win0_4.index t = ![t.val / 8, t.val % 8, 76]
    ∧ win0_5.index t = ![0, 0] ∧ win0_6.index t = ![0, 0] ∧ win0_7.index t = ![0, 0] ∧ win0_8.index t = ![t.val / 8, t.val % 8, 0] ∧ t.val < 64 :=
  (by decide +kernel : ∀ t : Fin grid0.N, _)

end Cert.GlaIdeal.Array

end
-- ==== Proof.GlaSteps.lean ====
/-
One trip of the reference's loop, read off an entry at a time: the chunk's rows, the running sums of the log decays, the
output of the chunk and the next state are those of the chunk's mathematics.
-/
module

public import proofs.«01_k».proof.Proof.Gen.GlaRefIdeal.Step
public import proofs.«01_k».proof.Proof.GlaMath
public import Idealize.ShloMosaic.Lib.Pointwise
public import Idealize.ShloMosaic.Lib.DynamicIndex

@[expose] public section

set_option maxRecDepth 16384

noncomputable section

namespace Cert.GlaRefIdeal.Steps

open Idealize.ShloMosaic Idealize.ShloMosaic.TcCoe Idealize.SL.Sem
open Cert.GlaRefIdeal Cert.GlaRefIdeal.Gen Cert.GlaRefIdeal.Step Cert.GlaMath

/-- The starts of a trip's slices: the trip's number on the first axis, zero on the others. -/
theorem starts (j : ℕ) (hj : j < 64) (z0 z1 z2 z3 : Vec Ideal S_ .i32) (h0 : z0 = constantI S_ 32 0#32)
    (h1 : z1 = constantI S_ 32 0#32) (h2 : z2 = constantI S_ 32 0#32) (h3 : z3 = constantI S_ 32 0#32) (k : Fin 5) :
    (((![(constantI S_ 32 (BitVec.ofNat 32 j) : (⟨S_, .i32⟩ : BufTy).Contents (Elt Ideal)), z0, z1, z2, z3]
      : Fin 5 → (⟨S_, .i32⟩ : BufTy).Contents (Elt Ideal)) k (Shape.Idx.first h_S_)).toInt)
      = ((![j, 0, 0, 0, 0] : Fin 5 → ℕ) k : Int) := by
  subst h0 h1 h2 h3
  fin_cases k
  · exact toInt_ofNat_of_lt (by omega)
  all_goals rfl

theorem fits64 (j : ℕ) (hj : j < 64) : S64x8x4x64x64.Slices (![j, 0, 0, 0, 0] : Fin 5 → ℕ) S1x8x4x64x64 :=
  ⟨rfl, fun a => by fin_cases a <;> first | exact (by show j + 1 ≤ 64; omega) | exact Nat.le_of_eq (Nat.zero_add _)⟩
theorem fits128 (j : ℕ) (hj : j < 64) : S64x8x4x64x128.Slices (![j, 0, 0, 0, 0] : Fin 5 → ℕ) S1x8x4x64x128 :=
  ⟨rfl, fun a => by fin_cases a <;> first | exact (by show j + 1 ≤ 64; omega) | exact Nat.le_of_eq (Nat.zero_add _)⟩

variable (s : State Ideal) (j : ℕ) (hj : j < 64) (b : Fin 8) (h : Fin 4)

include hj

/-- The chunk's queries. -/
theorem b5_at (i d : Fin 64) : b5 j s (ix4 b h i d) = s.main_v35_0 (ix5 ⟨j, hj⟩ b h i d) := by
  unfold b5 b4
  rw [Host.dynamicSlice_eq_extractStridedSlice _ _ _ _ _ (fits64 j hj) (fun k => starts j hj (b0 j s) (b1 j s) (b2 j s) (b3 j s) rfl rfl rfl rfl k)]
  pointwise []
theorem b11_at (i d : Fin 64) : b11 j s (ix4 b h i d) = s.main_v35_1 (ix5 ⟨j, hj⟩ b h i d) := by
  unfold b11 b10
  rw [Host.dynamicSlice_eq_extractStridedSlice _ _ _ _ _ (fits64 j hj) (fun k => starts j hj (b6 j s) (b7 j s) (b8 j s) (b9 j s) rfl rfl rfl rfl k)]
  pointwise []
theorem b17_at (i : Fin 64) (e : Fin 128) : b17 j s (ix4 b h i e) = s.main_v35_2 (ix5 ⟨j, hj⟩ b h i e) := by
  unfold b17 b16
  rw [Host.dynamicSlice_eq_extractStridedSlice _ _ _ _ _ (fits128 j hj) (fun k => starts j hj (b12 j s) (b13 j s) (b14 j s) (b15 j s) rfl rfl rfl rfl k)]
  pointwise []
theorem b23_at (i d : Fin 64) : b23 j s (ix4 b h i d) = s.main_v35_3 (ix5 ⟨j, hj⟩ b h i d) := by
  unfold b23 b22
  rw [Host.dynamicSlice_eq_extractStridedSlice _ _ _ _ _ (fits64 j hj) (fun k => starts j hj (b18 j s) (b19 j s) (b20 j s) (b21 j s) rfl rfl rfl rfl k)]
  pointwise []

omit hj

/-- A left fold of additions is the initial value plus the sum. -/
theorem foldl_sum {n : ℕ} (f : Fin n → EReal) (z : EReal) :
    (List.finRange n).foldl (fun r k => r + f k) z = z + ∑ k, f k := by
  rw [← List.sum_ofFn, List.ofFn_eq_map]
  generalize List.finRange n = l
  induction l generalizing z with
  | nil => simp
  | cons x l ih => rw [List.foldl_cons, ih, List.map_cons, List.sum_cons, add_assoc]

/-- The window of the running sum. -/
abbrev win : Shape := ⟨4, ![1, 1, 64, 1]⟩

/-- The window's positions are the 64 offsets along its third axis. -/
def winEquiv : Fin 64 ≃ win.Idx where
  toFun w := ix4 0 0 w 0
  invFun x := x 2
  left_inv _ := rfl
  right_inv x := by
    funext a
    fin_cases a
    · exact (Fin.eq_zero (x 0 : Fin 1)).symm
    · exact (Fin.eq_zero (x 1 : Fin 1)).symm
    · rfl
    · exact (Fin.eq_zero (x 3 : Fin 1)).symm

/-- The window sum with 63 rows of zeros before the first row is the running sum. -/
theorem cumsum_at (x : Vec Ideal S8x4x64x64 .f32) (z : Vec Ideal S_ .f32) (hz : ∀ y, z y = 0) (i d : Fin 64) :
    Host.reduceWindowAdd (F := Ideal) (φ := .f32) ![1, 1, 64, 1] ![1, 1, 1, 1] ![0, 0, 63, 0] ![0, 0, 0, 0] x z
      reduceWindows_S8x4x64x64_S8x4x64x64_w1s1p0_0_w1s1p0_0_w64s1p63_0_w1s1p0_0 h_S_ (ix4 b h i d)
      = cum (fun k => x (ix4 b h k d)) i := by
  unfold Host.reduceWindowAdd
  rw [hz, Ideal.hostReduceWindowAdd_def]
  unfold Ideal.hostReduceWindowAdd Host.reduceWindow
  dsimp only
  rw [foldl_sum, zero_add, ← Equiv.sum_comp win.rowMajor]
  simp only [Equiv.symm_apply_apply]
  rw [← Equiv.sum_comp winEquiv]
  have key : ∀ w : Fin 64, (if hin : ∀ a, (![0, 0, 63, 0] : Fin 4 → ℕ) a ≤ ((ix4 b h i d : S8x4x64x64.Idx) a).val * (![1, 1, 1, 1] : Fin 4 → ℕ) a + (winEquiv w a).val
        ∧ ((ix4 b h i d : S8x4x64x64.Idx) a).val * (![1, 1, 1, 1] : Fin 4 → ℕ) a + (winEquiv w a).val - (![0, 0, 63, 0] : Fin 4 → ℕ) a < S8x4x64x64.size a then
        x (fun a => ⟨((ix4 b h i d : S8x4x64x64.Idx) a).val * (![1, 1, 1, 1] : Fin 4 → ℕ) a + (winEquiv w a).val - (![0, 0, 63, 0] : Fin 4 → ℕ) a, (hin a).2⟩) else 0)
      = if hw : 63 ≤ i.val + w.val then x (ix4 b h ⟨i.val + w.val - 63, by omega⟩ d) else 0 := by
    intro w
    by_cases hw : 63 ≤ i.val + w.val
    · rw [dif_pos hw, dif_pos]
      · congr 1
        funext a
        apply Fin.ext
        fin_cases a
        · show b.val * 1 + 0 - 0 = b.val; omega
        · show h.val * 1 + 0 - 0 = h.val; omega
        · show i.val * 1 + w.val - 63 = i.val + w.val - 63; omega
        · show d.val * 1 + 0 - 0 = d.val; omega
      · intro a
        fin_cases a
        · show 0 ≤ b.val * 1 + 0 ∧ b.val * 1 + 0 - 0 < 8; omega
        · show 0 ≤ h.val * 1 + 0 ∧ h.val * 1 + 0 - 0 < 4; omega
        · show 63 ≤ i.val * 1 + w.val ∧ i.val * 1 + w.val - 63 < 64; omega
        · show 0 ≤ d.val * 1 + 0 ∧ d.val * 1 + 0 - 0 < 64; omega
    · rw [dif_neg hw, dif_neg]
      intro hc
      have : 63 ≤ i.val * 1 + w.val := (hc 2).1
      omega
  refine (Finset.sum_congr rfl fun w _ => key w).trans ?_
  unfold cum
  rw [Finset.sum_dite, Finset.sum_const_zero, add_zero, ← Finset.sum_filter]
  refine Finset.sum_bij' (i := fun w _ => (⟨i.val + w.1.val - 63, by omega⟩ : Fin 64))
    (j := fun k hk => ⟨⟨k.val + 63 - i.val, by have := (Finset.mem_filter.1 hk).2; omega⟩, by
      have := (Finset.mem_filter.1 hk).2
      simp only [Finset.mem_filter, Finset.mem_univ, true_and]; omega⟩) ?_ ?_ ?_ ?_ ?_
  · intro w _
    have := w.1.isLt
    exact Finset.mem_filter.2 ⟨Finset.mem_univ _, by show i.val + w.1.val - 63 ≤ i.val; omega⟩
  · intro k hk
    exact Finset.mem_attach _ _
  · intro w _
    have := (Finset.mem_filter.1 w.2).2
    apply Subtype.ext
    apply Fin.ext
    show i.val + w.1.val - 63 + 63 - i.val = w.1.val
    omega
  · intro k hk
    have := (Finset.mem_filter.1 hk).2
    apply Fin.ext
    show i.val + (k.val + 63 - i.val) - 63 = k.val
    omega
  · intro w _
    rfl

theorem b26_at (i d : Fin 64) : b26 j s (ix4 b h i d) = cum (fun k => b23 j s (ix4 b h k d)) i := by
  unfold b26
  refine cumsum_at b h _ _ (fun y => ?_) i d
  show Ideal.ofBits .f32 0x00000000#32 = 0
  exact Ideal.ofBits_zero_f32

/-- The causal mask. -/
theorem mask_at (i k : Fin 64) : K_main_v24 (F := Ideal) (ix2 i k) = if k ≤ i then 1#1 else 0#1 := by
  pointwise [K_main_v24, K_main_call1_v4, K_main_call1_v2, K_main_call1_v1, K_main_call1_v0, K_main_call1_c, K_main_call1_v3, K_main_v23, K_main_call1_v5, K_main_c, K_main_call1_c_0]
  exact (by decide +kernel : ∀ i k : Fin 64, Scalar.select (IntOp.cmpi CmpIPredicate.sge (IntOp.addi (BitVec.ofNat 32 i.val) 0#32)
    (BitVec.ofNat 32 k.val)) 1#1 0#1 = if k ≤ i then 1#1 else 0#1) i k

theorem b29_at (i : Fin 64) (e : Fin 128) : b29 j s (ix4 b h i e)
    = inter (fun i d => b5 j s (ix4 b h i d)) (fun i d => b26 j s (ix4 b h i d)) (fun d e => s.main_v35_6 (ix4 b h d e)) i e := by
  unfold b29 b28 b27 inter
  pointwise []

theorem b46_at (i k : Fin 64) : b46 j s (ix4 b h i k)
    = score (fun i d => b5 j s (ix4 b h i d)) (fun i d => b11 j s (ix4 b h i d)) (fun i d => b26 j s (ix4 b h i d)) i k := by
  unfold b46 b45 b44 b43 b42 b41 b40 b39 b38 b37 b36 b35 b34 b33 b32 b31 b30 score
  generalize hm : K_main_v24 (F := Ideal) = m
  pointwise []
  subst hm
  refine Finset.sum_congr rfl fun x _ => ?_
  rw [mask_at, ofBits_ninf]
  congr 3
  split_ifs <;> rfl

theorem b47_at (i : Fin 64) (e : Fin 128) : b47 j s (ix4 b h i e)
    = ∑ k, b46 j s (ix4 b h i k) * b17 j s (ix4 b h k e) := by
  unfold b47
  pointwise []

theorem b59_at (d : Fin 64) (e : Fin 128) : b59 j s (ix4 b h d e)
    = next (fun i d => b11 j s (ix4 b h i d)) (fun i d => b26 j s (ix4 b h i d)) (fun i e => b17 j s (ix4 b h i e)) (fun d e => s.main_v35_6 (ix4 b h d e)) d e := by
  unfold b59 b58 b57 b56 b55 b54 b53 b52 b51 b50 b49 b48 next
  pointwise []

theorem b61_at (i : Fin 64) (e : Fin 128) : b61 j s (ix5 0 b h i e) = b29 j s (ix4 b h i e) + b47 j s (ix4 b h i e) := by
  unfold b61 b60
  pointwise []

include hj in
theorem b66_at (n : Fin 64) (i : Fin 64) (e : Fin 128) : b66 j s (ix5 n b h i e)
    = if n.val = j then b61 j s (ix5 0 b h i e) else s.main_v35_7 (ix5 n b h i e) := by
  unfold b66
  rw [Host.dynamicUpdateSlice_eq_updateSlice _ _ _ _ (![j, 0, 0, 0, 0] : Fin 5 → ℕ) (fun k => by
      rw [starts j hj (b62 j s) (b63 j s) (b64 j s) (b65 j s) rfl rfl rfl rfl k]
      fin_cases k
      · show (min (max ((j : ℕ) : Int) 0) ((64 - 1 : ℕ) : Int)).toNat = j
        omega
      all_goals rfl) (fits128 j hj)]
  pointwise []
  by_cases hn : n.val = j
  · rw [dif_pos ⟨by omega, by omega⟩, if_pos hn]
    congr 2
    exact Fin.ext (by show n.val - j = 0; omega)
  · rw [dif_neg (by omega), if_neg hn]

end Cert.GlaRefIdeal.Steps

end
-- ==== Proof.GlaLoop.lean ====
/-
The reference's run over its loop's step: a valuation which holds a state goes, by one trip, to one which holds the next
state, so the run's results are read from the step iterated from the initial state.
-/
module

public import proofs.«01_k».proof.Proof.Gen.GlaRefIdeal.Run
public import proofs.«01_k».proof.Proof.Gen.GlaRefIdeal.Step

@[expose] public section

noncomputable section

namespace Cert.GlaRefIdeal.LoopRun

open Idealize.ShloMosaic Idealize.ShloMosaic.TcCoe Idealize.SL.Sem Idealize.ShloMosaic.StableHlo
open Cert.GlaRefIdeal Cert.GlaRefIdeal.Gen Cert.GlaRefIdeal.Value
open Cert.GlaRefIdeal.Step (State step init)

variable {F : FTy → Type} [FloatOps F]

variable (V0 : Valuation τ sig (Elt F)) (s : State F) (j : ℕ)

/-- The valuation holds the state, the set-up values and the trip's number. -/
structure Holds : Prop where
  f_6 : V0 (Proc.devRef .tc main_v35_6) = s.main_v35_6
  f_7 : V0 (Proc.devRef .tc main_v35_7) = s.main_v35_7
  f_0 : V0 (Proc.devRef .tc main_v35_0) = s.main_v35_0
  f_1 : V0 (Proc.devRef .tc main_v35_1) = s.main_v35_1
  f_2 : V0 (Proc.devRef .tc main_v35_2) = s.main_v35_2
  f_3 : V0 (Proc.devRef .tc main_v35_3) = s.main_v35_3
  n_5 : V0 (Proc.devRef .tc main_v35_5) = constantI S_ 32 (BitVec.ofNat 32 j)
  k_4 : V0 (Proc.devRef .tc main_v35_4) = Cert.GlaRefIdeal.Step.K_main_v24 (F := F)

variable {V0 s j}

set_option maxRecDepth 8192 in
theorem al_0 (h : Holds V0 s j) : (constantI S_ 32 0#32 : (Proc.devRef .tc main_while0b_call2_c : DevRef τ sig).ty.Contents (Elt F)) = Cert.GlaRefIdeal.Step.b0 j s := by
  unfold Cert.GlaRefIdeal.Step.b0
  rfl
set_option maxRecDepth 8192 in
theorem al_1 (h : Holds V0 s j) : (constantI S_ 32 0#32 : (Proc.devRef .tc main_while0b_call2_c_0 : DevRef τ sig).ty.Contents (Elt F)) = Cert.GlaRefIdeal.Step.b1 j s := by
  unfold Cert.GlaRefIdeal.Step.b1
  rfl
set_option maxRecDepth 8192 in
theorem al_2 (h : Holds V0 s j) : (constantI S_ 32 0#32 : (Proc.devRef .tc main_while0b_call2_c_1 : DevRef τ sig).ty.Contents (Elt F)) = Cert.GlaRefIdeal.Step.b2 j s := by
  unfold Cert.GlaRefIdeal.Step.b2
  rfl
set_option maxRecDepth 8192 in
theorem al_3 (h : Holds V0 s j) : (constantI S_ 32 0#32 : (Proc.devRef .tc main_while0b_call2_c_2 : DevRef τ sig).ty.Contents (Elt F)) = Cert.GlaRefIdeal.Step.b3 j s := by
  unfold Cert.GlaRefIdeal.Step.b3
  rfl
set_option maxRecDepth 8192 in
theorem al_4 (h : Holds V0 s j) : (Host.dynamicSlice S1x8x4x64x64 (V0 (Proc.devRef .tc main_v35_0)) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x64_S1x8x4x64x64 : (Proc.devRef .tc main_while0b_call2_v0 : DevRef τ sig).ty.Contents (Elt F)) = Cert.GlaRefIdeal.Step.b4 j s := by
  unfold Cert.GlaRefIdeal.Step.b4
  rw [← al_0 h, ← al_1 h, ← al_2 h, ← al_3 h, h.f_0, h.n_5]
  try rfl
set_option maxRecDepth 8192 in
theorem al_5 (h : Holds V0 s j) : (res_main_while0b_v57 V0 : (Proc.devRef .tc main_while0b_v57 : DevRef τ sig).ty.Contents (Elt F)) = Cert.GlaRefIdeal.Step.b5 j s := by
  unfold res_main_while0b_v57 Cert.GlaRefIdeal.Step.b5
  rw [← al_4 h]
  try rfl
set_option maxRecDepth 8192 in
theorem al_6 (h : Holds V0 s j) : (constantI S_ 32 0#32 : (Proc.devRef .tc main_while0b_call3_c : DevRef τ sig).ty.Contents (Elt F)) = Cert.GlaRefIdeal.Step.b6 j s := by
  unfold Cert.GlaRefIdeal.Step.b6
  rfl
set_option maxRecDepth 8192 in
theorem al_7 (h : Holds V0 s j) : (constantI S_ 32 0#32 : (Proc.devRef .tc main_while0b_call3_c_0 : DevRef τ sig).ty.Contents (Elt F)) = Cert.GlaRefIdeal.Step.b7 j s := by
  unfold Cert.GlaRefIdeal.Step.b7
  rfl
set_option maxRecDepth 8192 in
theorem al_8 (h : Holds V0 s j) : (constantI S_ 32 0#32 : (Proc.devRef .tc main_while0b_call3_c_1 : DevRef τ sig).ty.Contents (Elt F)) = Cert.GlaRefIdeal.Step.b8 j s := by
  unfold Cert.GlaRefIdeal.Step.b8
  rfl
set_option maxRecDepth 8192 in
theorem al_9 (h : Holds V0 s j) : (constantI S_ 32 0#32 : (Proc.devRef .tc main_while0b_call3_c_2 : DevRef τ sig).ty.Contents (Elt F)) = Cert.GlaRefIdeal.Step.b9 j s := by
  unfold Cert.GlaRefIdeal.Step.b9
  rfl
set_option maxRecDepth 8192 in
theorem al_10 (h : Holds V0 s j) : (Host.dynamicSlice S1x8x4x64x64 (V0 (Proc.devRef .tc main_v35_1)) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x64_S1x8x4x64x64 : (Proc.devRef .tc main_while0b_call3_v0 : DevRef τ sig).ty.Contents (Elt F)) = Cert.GlaRefIdeal.Step.b10 j s := by
  unfold Cert.GlaRefIdeal.Step.b10
  rw [← al_6 h, ← al_7 h, ← al_8 h, ← al_9 h, h.f_1, h.n_5]
  try rfl
set_option maxRecDepth 8192 in
theorem al_11 (h : Holds V0 s j) : (res_main_while0b_v58 V0 : (Proc.devRef .tc main_while0b_v58 : DevRef τ sig).ty.Contents (Elt F)) = Cert.GlaRefIdeal.Step.b11 j s := by
  unfold res_main_while0b_v58 Cert.GlaRefIdeal.Step.b11
  rw [← al_10 h]
  try rfl
set_option maxRecDepth 8192 in
theorem al_12 (h : Holds V0 s j) : (constantI S_ 32 0#32 : (Proc.devRef .tc main_while0b_call4_c : DevRef τ sig).ty.Contents (Elt F)) = Cert.GlaRefIdeal.Step.b12 j s := by
  unfold Cert.GlaRefIdeal.Step.b12
  rfl
set_option maxRecDepth 8192 in
theorem al_13 (h : Holds V0 s j) : (constantI S_ 32 0#32 : (Proc.devRef .tc main_while0b_call4_c_0 : DevRef τ sig).ty.Contents (Elt F)) = Cert.GlaRefIdeal.Step.b13 j s := by
  unfold Cert.GlaRefIdeal.Step.b13
  rfl
set_option maxRecDepth 8192 in
theorem al_14 (h : Holds V0 s j) : (constantI S_ 32 0#32 : (Proc.devRef .tc main_while0b_call4_c_1 : DevRef τ sig).ty.Contents (Elt F)) = Cert.GlaRefIdeal.Step.b14 j s := by
  unfold Cert.GlaRefIdeal.Step.b14
  rfl
set_option maxRecDepth 8192 in
theorem al_15 (h : Holds V0 s j) : (constantI S_ 32 0#32 : (Proc.devRef .tc main_while0b_call4_c_2 : DevRef τ sig).ty.Contents (Elt F)) = Cert.GlaRefIdeal.Step.b15 j s := by
  unfold Cert.GlaRefIdeal.Step.b15
  rfl
set_option maxRecDepth 8192 in
theorem al_16 (h : Holds V0 s j) : (Host.dynamicSlice S1x8x4x64x128 (V0 (Proc.devRef .tc main_v35_2)) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x128_S1x8x4x64x128 : (Proc.devRef .tc main_while0b_call4_v0 : DevRef τ sig).ty.Contents (Elt F)) = Cert.GlaRefIdeal.Step.b16 j s := by
  unfold Cert.GlaRefIdeal.Step.b16
  rw [← al_12 h, ← al_13 h, ← al_14 h, ← al_15 h, h.f_2, h.n_5]
  try rfl
set_option maxRecDepth 8192 in
theorem al_17 (h : Holds V0 s j) : (res_main_while0b_v59 V0 : (Proc.devRef .tc main_while0b_v59 : DevRef τ sig).ty.Contents (Elt F)) = Cert.GlaRefIdeal.Step.b17 j s := by
  unfold res_main_while0b_v59 Cert.GlaRefIdeal.Step.b17
  rw [← al_16 h]
  try rfl
set_option maxRecDepth 8192 in
theorem al_18 (h : Holds V0 s j) : (constantI S_ 32 0#32 : (Proc.devRef .tc main_while0b_call5_c : DevRef τ sig).ty.Contents (Elt F)) = Cert.GlaRefIdeal.Step.b18 j s := by
  unfold Cert.GlaRefIdeal.Step.b18
  rfl
set_option maxRecDepth 8192 in
theorem al_19 (h : Holds V0 s j) : (constantI S_ 32 0#32 : (Proc.devRef .tc main_while0b_call5_c_0 : DevRef τ sig).ty.Contents (Elt F)) = Cert.GlaRefIdeal.Step.b19 j s := by
  unfold Cert.GlaRefIdeal.Step.b19
  rfl
set_option maxRecDepth 8192 in
theorem al_20 (h : Holds V0 s j) : (constantI S_ 32 0#32 : (Proc.devRef .tc main_while0b_call5_c_1 : DevRef τ sig).ty.Contents (Elt F)) = Cert.GlaRefIdeal.Step.b20 j s := by
  unfold Cert.GlaRefIdeal.Step.b20
  rfl
set_option maxRecDepth 8192 in
theorem al_21 (h : Holds V0 s j) : (constantI S_ 32 0#32 : (Proc.devRef .tc main_while0b_call5_c_2 : DevRef τ sig).ty.Contents (Elt F)) = Cert.GlaRefIdeal.Step.b21 j s := by
  unfold Cert.GlaRefIdeal.Step.b21
  rfl
set_option maxRecDepth 8192 in
theorem al_22 (h : Holds V0 s j) : (Host.dynamicSlice S1x8x4x64x64 (V0 (Proc.devRef .tc main_v35_3)) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x64_S1x8x4x64x64 : (Proc.devRef .tc main_while0b_call5_v0 : DevRef τ sig).ty.Contents (Elt F)) = Cert.GlaRefIdeal.Step.b22 j s := by
  unfold Cert.GlaRefIdeal.Step.b22
  rw [← al_18 h, ← al_19 h, ← al_20 h, ← al_21 h, h.f_3, h.n_5]
  try rfl
set_option maxRecDepth 8192 in
theorem al_23 (h : Holds V0 s j) : (shapeCast S8x4x64x64 (Host.dynamicSlice S1x8x4x64x64 (V0 (Proc.devRef .tc main_v35_3)) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) sliceFits_S64x8x4x64x64_S1x8x4x64x64) shapeCasts_S1x8x4x64x64_S8x4x64x64 : (Proc.devRef .tc main_while0b_v60 : DevRef τ sig).ty.Contents (Elt F)) = Cert.GlaRefIdeal.Step.b23 j s := by
  unfold Cert.GlaRefIdeal.Step.b23
  rw [← al_22 h]
  try rfl
set_option maxRecDepth 8192 in
theorem al_24 (h : Holds V0 s j) : (constant S_ .f32 0x00000000#32 : (Proc.devRef .tc main_while0b_call6_call0_cst : DevRef τ sig).ty.Contents (Elt F)) = Cert.GlaRefIdeal.Step.b24 j s := by
  unfold Cert.GlaRefIdeal.Step.b24
  rfl
set_option maxRecDepth 8192 in
theorem al_25 (h : Holds V0 s j) : (broadcastInDim S_ ![] bcast_S_S_ (constant S_ .f32 0x00000000#32) : (Proc.devRef .tc main_while0b_call6_call0_v0 : DevRef τ sig).ty.Contents (Elt F)) = Cert.GlaRefIdeal.Step.b25 j s := by
  unfold Cert.GlaRefIdeal.Step.b25
  rw [← al_24 h]
  try rfl
set_option maxRecDepth 8192 in
theorem al_26 (h : Holds V0 s j) : (res_main_while0b_v61 V0 : (Proc.devRef .tc main_while0b_v61 : DevRef τ sig).ty.Contents (Elt F)) = Cert.GlaRefIdeal.Step.b26 j s := by
  unfold res_main_while0b_v61 Cert.GlaRefIdeal.Step.b26
  rw [← al_23 h, ← al_25 h]
  try rfl
set_option maxRecDepth 8192 in
theorem al_27 (h : Holds V0 s j) : (Host.exp (res_main_while0b_v61 V0) : (Proc.devRef .tc main_while0b_v62 : DevRef τ sig).ty.Contents (Elt F)) = Cert.GlaRefIdeal.Step.b27 j s := by
  unfold Cert.GlaRefIdeal.Step.b27
  rw [← al_26 h]
  try rfl
set_option maxRecDepth 8192 in
theorem al_28 (h : Holds V0 s j) : (mulf (res_main_while0b_v57 V0) (Host.exp (res_main_while0b_v61 V0)) : (Proc.devRef .tc main_while0b_v63 : DevRef τ sig).ty.Contents (Elt F)) = Cert.GlaRefIdeal.Step.b28 j s := by
  unfold Cert.GlaRefIdeal.Step.b28
  rw [← al_5 h, ← al_27 h]
  try rfl
set_option maxRecDepth 8192 in
theorem al_29 (h : Holds V0 s j) : (Host.dotGeneral dot_S8x4x64x64_S8x4x64x128_S8x4x64x128_3_2_2_3_01_01 none (mulf (res_main_while0b_v57 V0) (Host.exp (res_main_while0b_v61 V0))) (V0 (Proc.devRef .tc main_v35_6)) : (Proc.devRef .tc main_while0b_v64 : DevRef τ sig).ty.Contents (Elt F)) = Cert.GlaRefIdeal.Step.b29 j s := by
  unfold Cert.GlaRefIdeal.Step.b29
  rw [← al_28 h, h.f_6]
  try rfl
set_option maxRecDepth 8192 in
theorem al_30 (h : Holds V0 s j) : (broadcastInDim S8x4x64x1x64 ![0, 1, 2, 4] bcast_S8x4x64x64_S8x4x64x1x64_0_1_2_4 (res_main_while0b_v61 V0) : (Proc.devRef .tc main_while0b_v65 : DevRef τ sig).ty.Contents (Elt F)) = Cert.GlaRefIdeal.Step.b30 j s := by
  unfold Cert.GlaRefIdeal.Step.b30
  rw [← al_26 h]
  try rfl
set_option maxRecDepth 8192 in
theorem al_31 (h : Holds V0 s j) : (broadcastInDim S8x4x1x64x64 ![0, 1, 3, 4] bcast_S8x4x64x64_S8x4x1x64x64_0_1_3_4 (res_main_while0b_v61 V0) : (Proc.devRef .tc main_while0b_v66 : DevRef τ sig).ty.Contents (Elt F)) = Cert.GlaRefIdeal.Step.b31 j s := by
  unfold Cert.GlaRefIdeal.Step.b31
  rw [← al_26 h]
  try rfl
set_option maxRecDepth 8192 in
theorem al_32 (h : Holds V0 s j) : (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0)) : (Proc.devRef .tc main_while0b_v67 : DevRef τ sig).ty.Contents (Elt F)) = Cert.GlaRefIdeal.Step.b32 j s := by
  unfold Cert.GlaRefIdeal.Step.b32
  rw [← al_30 h]
  try rfl
set_option maxRecDepth 8192 in
theorem al_33 (h : Holds V0 s j) : (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)) : (Proc.devRef .tc main_while0b_v68 : DevRef τ sig).ty.Contents (Elt F)) = Cert.GlaRefIdeal.Step.b33 j s := by
  unfold Cert.GlaRefIdeal.Step.b33
  rw [← al_31 h]
  try rfl
set_option maxRecDepth 8192 in
theorem al_34 (h : Holds V0 s j) : (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0))) : (Proc.devRef .tc main_while0b_v69 : DevRef τ sig).ty.Contents (Elt F)) = Cert.GlaRefIdeal.Step.b34 j s := by
  unfold Cert.GlaRefIdeal.Step.b34
  rw [← al_32 h, ← al_33 h]
  try rfl
set_option maxRecDepth 8192 in
theorem al_35 (h : Holds V0 s j) : (broadcastInDim S64x64x1 ![0, 1] bcast_S64x64_S64x64x1_0_1 (V0 (Proc.devRef .tc main_v35_4)) : (Proc.devRef .tc main_while0b_v70 : DevRef τ sig).ty.Contents (Elt F)) = Cert.GlaRefIdeal.Step.b35 j s := by
  unfold Cert.GlaRefIdeal.Step.b35
  rw [h.k_4]
  try rfl
set_option maxRecDepth 8192 in
theorem al_36 (h : Holds V0 s j) : (constant S_ .f32 0xFF800000#32 : (Proc.devRef .tc main_while0b_cst_14 : DevRef τ sig).ty.Contents (Elt F)) = Cert.GlaRefIdeal.Step.b36 j s := by
  unfold Cert.GlaRefIdeal.Step.b36
  rfl
set_option maxRecDepth 8192 in
theorem al_37 (h : Holds V0 s j) : (id (constant S_ .f32 0xFF800000#32) : (Proc.devRef .tc main_while0b_call7_v0 : DevRef τ sig).ty.Contents (Elt F)) = Cert.GlaRefIdeal.Step.b37 j s := by
  unfold Cert.GlaRefIdeal.Step.b37
  rw [← al_36 h]
  try rfl
set_option maxRecDepth 8192 in
theorem al_38 (h : Holds V0 s j) : (broadcastInDim S8x4x64x64x64 ![2, 3, 4] bcast_S64x64x1_S8x4x64x64x64_2_3_4 (broadcastInDim S64x64x1 ![0, 1] bcast_S64x64_S64x64x1_0_1 (V0 (Proc.devRef .tc main_v35_4))) : (Proc.devRef .tc main_while0b_call7_v1 : DevRef τ sig).ty.Contents (Elt F)) = Cert.GlaRefIdeal.Step.b38 j s := by
  unfold Cert.GlaRefIdeal.Step.b38
  rw [← al_35 h]
  try rfl
set_option maxRecDepth 8192 in
theorem al_39 (h : Holds V0 s j) : (broadcastInDim S8x4x64x64x64 ![] bcast_S_S8x4x64x64x64 (id (constant S_ .f32 0xFF800000#32)) : (Proc.devRef .tc main_while0b_call7_v2 : DevRef τ sig).ty.Contents (Elt F)) = Cert.GlaRefIdeal.Step.b39 j s := by
  unfold Cert.GlaRefIdeal.Step.b39
  rw [← al_37 h]
  try rfl
set_option maxRecDepth 8192 in
theorem al_40 (h : Holds V0 s j) : (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))) : (Proc.devRef .tc main_while0b_v71 : DevRef τ sig).ty.Contents (Elt F)) = Cert.GlaRefIdeal.Step.b40 j s := by
  unfold Cert.GlaRefIdeal.Step.b40
  rw [← al_38 h, ← al_34 h, ← al_39 h]
  try rfl
set_option maxRecDepth 8192 in
theorem al_41 (h : Holds V0 s j) : (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32)))) : (Proc.devRef .tc main_while0b_v72 : DevRef τ sig).ty.Contents (Elt F)) = Cert.GlaRefIdeal.Step.b41 j s := by
  unfold Cert.GlaRefIdeal.Step.b41
  rw [← al_40 h]
  try rfl
set_option maxRecDepth 8192 in
theorem al_42 (h : Holds V0 s j) : (broadcastInDim S8x4x64x1x64 ![0, 1, 2, 4] bcast_S8x4x64x64_S8x4x64x1x64_0_1_2_4 (res_main_while0b_v57 V0) : (Proc.devRef .tc main_while0b_v73 : DevRef τ sig).ty.Contents (Elt F)) = Cert.GlaRefIdeal.Step.b42 j s := by
  unfold Cert.GlaRefIdeal.Step.b42
  rw [← al_5 h]
  try rfl
set_option maxRecDepth 8192 in
theorem al_43 (h : Holds V0 s j) : (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0)) : (Proc.devRef .tc main_while0b_v74 : DevRef τ sig).ty.Contents (Elt F)) = Cert.GlaRefIdeal.Step.b43 j s := by
  unfold Cert.GlaRefIdeal.Step.b43
  rw [← al_42 h]
  try rfl
set_option maxRecDepth 8192 in
theorem al_44 (h : Holds V0 s j) : (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))) : (Proc.devRef .tc main_while0b_v75 : DevRef τ sig).ty.Contents (Elt F)) = Cert.GlaRefIdeal.Step.b44 j s := by
  unfold Cert.GlaRefIdeal.Step.b44
  rw [← al_43 h, ← al_41 h]
  try rfl
set_option maxRecDepth 8192 in
theorem al_45 (h : Holds V0 s j) : (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32)))))) : (Proc.devRef .tc main_while0b_v76 : DevRef τ sig).ty.Contents (Elt F)) = Cert.GlaRefIdeal.Step.b45 j s := by
  unfold Cert.GlaRefIdeal.Step.b45
  rw [← al_11 h, ← al_44 h]
  try rfl
set_option maxRecDepth 8192 in
theorem al_46 (h : Holds V0 s j) : (transpose S8x4x64x64 [0, 1, 3, 2] (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))))) transposes_S8x4x64x64_S8x4x64x64_0_1_3_2 : (Proc.devRef .tc main_while0b_v77 : DevRef τ sig).ty.Contents (Elt F)) = Cert.GlaRefIdeal.Step.b46 j s := by
  unfold Cert.GlaRefIdeal.Step.b46
  rw [← al_45 h]
  try rfl
set_option maxRecDepth 8192 in
theorem al_47 (h : Holds V0 s j) : (Host.dotGeneral dot_S8x4x64x64_S8x4x64x128_S8x4x64x128_3_2_2_3_01_01 none (transpose S8x4x64x64 [0, 1, 3, 2] (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))))) transposes_S8x4x64x64_S8x4x64x64_0_1_3_2) (res_main_while0b_v59 V0) : (Proc.devRef .tc main_while0b_v78 : DevRef τ sig).ty.Contents (Elt F)) = Cert.GlaRefIdeal.Step.b47 j s := by
  unfold Cert.GlaRefIdeal.Step.b47
  rw [← al_46 h, ← al_17 h]
  try rfl
set_option maxRecDepth 8192 in
theorem al_48 (h : Holds V0 s j) : (res_main_while0b_v79 V0 : (Proc.devRef .tc main_while0b_v79 : DevRef τ sig).ty.Contents (Elt F)) = Cert.GlaRefIdeal.Step.b48 j s := by
  unfold res_main_while0b_v79 Cert.GlaRefIdeal.Step.b48
  rw [← al_26 h]
  try rfl
set_option maxRecDepth 8192 in
theorem al_49 (h : Holds V0 s j) : (shapeCast S8x4x64 (res_main_while0b_v79 V0) shapeCasts_S8x4x1x64_S8x4x64 : (Proc.devRef .tc main_while0b_v80 : DevRef τ sig).ty.Contents (Elt F)) = Cert.GlaRefIdeal.Step.b49 j s := by
  unfold Cert.GlaRefIdeal.Step.b49
  rw [← al_48 h]
  try rfl
set_option maxRecDepth 8192 in
theorem al_50 (h : Holds V0 s j) : (Host.exp (shapeCast S8x4x64 (res_main_while0b_v79 V0) shapeCasts_S8x4x1x64_S8x4x64) : (Proc.devRef .tc main_while0b_v81 : DevRef τ sig).ty.Contents (Elt F)) = Cert.GlaRefIdeal.Step.b50 j s := by
  unfold Cert.GlaRefIdeal.Step.b50
  rw [← al_49 h]
  try rfl
set_option maxRecDepth 8192 in
theorem al_51 (h : Holds V0 s j) : (broadcastInDim S8x4x64x1 ![0, 1, 2] bcast_S8x4x64_S8x4x64x1_0_1_2 (Host.exp (shapeCast S8x4x64 (res_main_while0b_v79 V0) shapeCasts_S8x4x1x64_S8x4x64)) : (Proc.devRef .tc main_while0b_v82 : DevRef τ sig).ty.Contents (Elt F)) = Cert.GlaRefIdeal.Step.b51 j s := by
  unfold Cert.GlaRefIdeal.Step.b51
  rw [← al_50 h]
  try rfl
set_option maxRecDepth 8192 in
theorem al_52 (h : Holds V0 s j) : (broadcastInDim S8x4x64x128 ![0, 1, 2, 3] bcast_S8x4x64x1_S8x4x64x128_0_1_2_3 (broadcastInDim S8x4x64x1 ![0, 1, 2] bcast_S8x4x64_S8x4x64x1_0_1_2 (Host.exp (shapeCast S8x4x64 (res_main_while0b_v79 V0) shapeCasts_S8x4x1x64_S8x4x64))) : (Proc.devRef .tc main_while0b_v83 : DevRef τ sig).ty.Contents (Elt F)) = Cert.GlaRefIdeal.Step.b52 j s := by
  unfold Cert.GlaRefIdeal.Step.b52
  rw [← al_51 h]
  try rfl
set_option maxRecDepth 8192 in
theorem al_53 (h : Holds V0 s j) : (mulf (broadcastInDim S8x4x64x128 ![0, 1, 2, 3] bcast_S8x4x64x1_S8x4x64x128_0_1_2_3 (broadcastInDim S8x4x64x1 ![0, 1, 2] bcast_S8x4x64_S8x4x64x1_0_1_2 (Host.exp (shapeCast S8x4x64 (res_main_while0b_v79 V0) shapeCasts_S8x4x1x64_S8x4x64)))) (V0 (Proc.devRef .tc main_v35_6)) : (Proc.devRef .tc main_while0b_v84 : DevRef τ sig).ty.Contents (Elt F)) = Cert.GlaRefIdeal.Step.b53 j s := by
  unfold Cert.GlaRefIdeal.Step.b53
  rw [← al_52 h, h.f_6]
  try rfl
set_option maxRecDepth 8192 in
theorem al_54 (h : Holds V0 s j) : (broadcastInDim S8x4x64x64 ![0, 1, 2, 3] bcast_S8x4x1x64_S8x4x64x64_0_1_2_3 (res_main_while0b_v79 V0) : (Proc.devRef .tc main_while0b_v85 : DevRef τ sig).ty.Contents (Elt F)) = Cert.GlaRefIdeal.Step.b54 j s := by
  unfold Cert.GlaRefIdeal.Step.b54
  rw [← al_48 h]
  try rfl
set_option maxRecDepth 8192 in
theorem al_55 (h : Holds V0 s j) : (subf (broadcastInDim S8x4x64x64 ![0, 1, 2, 3] bcast_S8x4x1x64_S8x4x64x64_0_1_2_3 (res_main_while0b_v79 V0)) (res_main_while0b_v61 V0) : (Proc.devRef .tc main_while0b_v86 : DevRef τ sig).ty.Contents (Elt F)) = Cert.GlaRefIdeal.Step.b55 j s := by
  unfold Cert.GlaRefIdeal.Step.b55
  rw [← al_54 h, ← al_26 h]
  try rfl
set_option maxRecDepth 8192 in
theorem al_56 (h : Holds V0 s j) : (Host.exp (subf (broadcastInDim S8x4x64x64 ![0, 1, 2, 3] bcast_S8x4x1x64_S8x4x64x64_0_1_2_3 (res_main_while0b_v79 V0)) (res_main_while0b_v61 V0)) : (Proc.devRef .tc main_while0b_v87 : DevRef τ sig).ty.Contents (Elt F)) = Cert.GlaRefIdeal.Step.b56 j s := by
  unfold Cert.GlaRefIdeal.Step.b56
  rw [← al_55 h]
  try rfl
set_option maxRecDepth 8192 in
theorem al_57 (h : Holds V0 s j) : (mulf (res_main_while0b_v58 V0) (Host.exp (subf (broadcastInDim S8x4x64x64 ![0, 1, 2, 3] bcast_S8x4x1x64_S8x4x64x64_0_1_2_3 (res_main_while0b_v79 V0)) (res_main_while0b_v61 V0))) : (Proc.devRef .tc main_while0b_v88 : DevRef τ sig).ty.Contents (Elt F)) = Cert.GlaRefIdeal.Step.b57 j s := by
  unfold Cert.GlaRefIdeal.Step.b57
  rw [← al_11 h, ← al_56 h]
  try rfl
set_option maxRecDepth 8192 in
theorem al_58 (h : Holds V0 s j) : (Host.dotGeneral dot_S8x4x64x64_S8x4x64x128_S8x4x64x128_2_2_3_3_01_01 none (mulf (res_main_while0b_v58 V0) (Host.exp (subf (broadcastInDim S8x4x64x64 ![0, 1, 2, 3] bcast_S8x4x1x64_S8x4x64x64_0_1_2_3 (res_main_while0b_v79 V0)) (res_main_while0b_v61 V0)))) (res_main_while0b_v59 V0) : (Proc.devRef .tc main_while0b_v89 : DevRef τ sig).ty.Contents (Elt F)) = Cert.GlaRefIdeal.Step.b58 j s := by
  unfold Cert.GlaRefIdeal.Step.b58
  rw [← al_57 h, ← al_17 h]
  try rfl
set_option maxRecDepth 8192 in
theorem al_59 (h : Holds V0 s j) : (addf (mulf (broadcastInDim S8x4x64x128 ![0, 1, 2, 3] bcast_S8x4x64x1_S8x4x64x128_0_1_2_3 (broadcastInDim S8x4x64x1 ![0, 1, 2] bcast_S8x4x64_S8x4x64x1_0_1_2 (Host.exp (shapeCast S8x4x64 (res_main_while0b_v79 V0) shapeCasts_S8x4x1x64_S8x4x64)))) (V0 (Proc.devRef .tc main_v35_6))) (Host.dotGeneral dot_S8x4x64x64_S8x4x64x128_S8x4x64x128_2_2_3_3_01_01 none (mulf (res_main_while0b_v58 V0) (Host.exp (subf (broadcastInDim S8x4x64x64 ![0, 1, 2, 3] bcast_S8x4x1x64_S8x4x64x64_0_1_2_3 (res_main_while0b_v79 V0)) (res_main_while0b_v61 V0)))) (res_main_while0b_v59 V0)) : (Proc.devRef .tc main_while0b_v90 : DevRef τ sig).ty.Contents (Elt F)) = Cert.GlaRefIdeal.Step.b59 j s := by
  unfold Cert.GlaRefIdeal.Step.b59
  rw [← al_53 h, ← al_58 h]
  try rfl
set_option maxRecDepth 8192 in
theorem al_60 (h : Holds V0 s j) : (addf (Host.dotGeneral dot_S8x4x64x64_S8x4x64x128_S8x4x64x128_3_2_2_3_01_01 none (mulf (res_main_while0b_v57 V0) (Host.exp (res_main_while0b_v61 V0))) (V0 (Proc.devRef .tc main_v35_6))) (Host.dotGeneral dot_S8x4x64x64_S8x4x64x128_S8x4x64x128_3_2_2_3_01_01 none (transpose S8x4x64x64 [0, 1, 3, 2] (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))))) transposes_S8x4x64x64_S8x4x64x64_0_1_3_2) (res_main_while0b_v59 V0)) : (Proc.devRef .tc main_while0b_v91 : DevRef τ sig).ty.Contents (Elt F)) = Cert.GlaRefIdeal.Step.b60 j s := by
  unfold Cert.GlaRefIdeal.Step.b60
  rw [← al_29 h, ← al_47 h]
  try rfl
set_option maxRecDepth 8192 in
theorem al_61 (h : Holds V0 s j) : (broadcastInDim S1x8x4x64x128 ![1, 2, 3, 4] bcast_S8x4x64x128_S1x8x4x64x128_1_2_3_4 (addf (Host.dotGeneral dot_S8x4x64x64_S8x4x64x128_S8x4x64x128_3_2_2_3_01_01 none (mulf (res_main_while0b_v57 V0) (Host.exp (res_main_while0b_v61 V0))) (V0 (Proc.devRef .tc main_v35_6))) (Host.dotGeneral dot_S8x4x64x64_S8x4x64x128_S8x4x64x128_3_2_2_3_01_01 none (transpose S8x4x64x64 [0, 1, 3, 2] (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))))) transposes_S8x4x64x64_S8x4x64x64_0_1_3_2) (res_main_while0b_v59 V0))) : (Proc.devRef .tc main_while0b_call8_v0 : DevRef τ sig).ty.Contents (Elt F)) = Cert.GlaRefIdeal.Step.b61 j s := by
  unfold Cert.GlaRefIdeal.Step.b61
  rw [← al_60 h]
  try rfl
set_option maxRecDepth 8192 in
theorem al_62 (h : Holds V0 s j) : (constantI S_ 32 0#32 : (Proc.devRef .tc main_while0b_call8_c : DevRef τ sig).ty.Contents (Elt F)) = Cert.GlaRefIdeal.Step.b62 j s := by
  unfold Cert.GlaRefIdeal.Step.b62
  rfl
set_option maxRecDepth 8192 in
theorem al_63 (h : Holds V0 s j) : (constantI S_ 32 0#32 : (Proc.devRef .tc main_while0b_call8_c_0 : DevRef τ sig).ty.Contents (Elt F)) = Cert.GlaRefIdeal.Step.b63 j s := by
  unfold Cert.GlaRefIdeal.Step.b63
  rfl
set_option maxRecDepth 8192 in
theorem al_64 (h : Holds V0 s j) : (constantI S_ 32 0#32 : (Proc.devRef .tc main_while0b_call8_c_1 : DevRef τ sig).ty.Contents (Elt F)) = Cert.GlaRefIdeal.Step.b64 j s := by
  unfold Cert.GlaRefIdeal.Step.b64
  rfl
set_option maxRecDepth 8192 in
theorem al_65 (h : Holds V0 s j) : (constantI S_ 32 0#32 : (Proc.devRef .tc main_while0b_call8_c_2 : DevRef τ sig).ty.Contents (Elt F)) = Cert.GlaRefIdeal.Step.b65 j s := by
  unfold Cert.GlaRefIdeal.Step.b65
  rfl
set_option maxRecDepth 8192 in
theorem al_66 (h : Holds V0 s j) : (Host.dynamicUpdateSlice (V0 (Proc.devRef .tc main_v35_7)) (broadcastInDim S1x8x4x64x128 ![1, 2, 3, 4] bcast_S8x4x64x128_S1x8x4x64x128_1_2_3_4 (addf (Host.dotGeneral dot_S8x4x64x64_S8x4x64x128_S8x4x64x128_3_2_2_3_01_01 none (mulf (res_main_while0b_v57 V0) (Host.exp (res_main_while0b_v61 V0))) (V0 (Proc.devRef .tc main_v35_6))) (Host.dotGeneral dot_S8x4x64x64_S8x4x64x128_S8x4x64x128_3_2_2_3_01_01 none (transpose S8x4x64x64 [0, 1, 3, 2] (Host.dotGeneral dot_S8x4x64x64_S8x4x64x64x64_S8x4x64x64_3_4_n_2_012_013 none (res_main_while0b_v58 V0) (mulf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v57 V0))) (Host.exp (select (broadcastInDim S8x4x64x64x64 ![2, 3, 4] bcast_S64x64x1_S8x4x64x64x64_2_3_4 (broadcastInDim S64x64x1 ![0, 1] bcast_S64x64_S64x64x1_0_1 (V0 (Proc.devRef .tc main_v35_4)))) (subf (broadcastInDim S8x4x64x64x64 ![0, 1, 2, 3, 4] bcast_S8x4x64x1x64_S8x4x64x64x64_0_1_2_3_4 (broadcastInDim S8x4x64x1x64 ![0, 1, 2, 4] bcast_S8x4x64x64_S8x4x64x1x64_0_1_2_4 (res_main_while0b_v61 V0))) (broadcastInDim S8x4x64x64x64 ![0, 1, 2, 3, 4] bcast_S8x4x1x64x64_S8x4x64x64x64_0_1_2_3_4 (broadcastInDim S8x4x1x64x64 ![0, 1, 3, 4] bcast_S8x4x64x64_S8x4x1x64x64_0_1_3_4 (res_main_while0b_v61 V0)))) (broadcastInDim S8x4x64x64x64 ![] bcast_S_S8x4x64x64x64 (id (constant S_ .f32 0xFF800000#32))))))) transposes_S8x4x64x64_S8x4x64x64_0_1_3_2) (res_main_while0b_v59 V0)))) (fun k => (((![V0 (Proc.devRef .tc main_v35_5), constantI S_ 32 0#32, constantI S_ 32 0#32, constantI S_ 32 0#32, constantI S_ 32 0#32] : Fin 5 → (⟨S_, .i32⟩ : BufTy).Contents (Elt F))) k (Shape.Idx.first h_S_)).toInt) updateFits_S64x8x4x64x128_S1x8x4x64x128 : (Proc.devRef .tc main_while0b_v92 : DevRef τ sig).ty.Contents (Elt F)) = Cert.GlaRefIdeal.Step.b66 j s := by
  unfold Cert.GlaRefIdeal.Step.b66
  rw [← al_61 h, ← al_62 h, ← al_63 h, ← al_64 h, ← al_65 h, h.f_7, h.n_5]
  try rfl

/-! One trip's step of the carried values is `step`, field by field; a counter steps to the next number. -/

theorem step_6 (h : Holds V0 s j) : step_main_v35_6 V0 = (step j s).main_v35_6 := by
  unfold step_main_v35_6
  exact al_59 h
theorem step_7 (h : Holds V0 s j) : step_main_v35_7 V0 = (step j s).main_v35_7 := by
  unfold step_main_v35_7
  exact al_66 h
theorem step_5 (h : Holds V0 s j) : step_main_v35_5 V0 = constantI S_ 32 (BitVec.ofNat 32 (j + 1)) := by
  unfold step_main_v35_5
  rw [h.n_5]
  funext i
  show BitVec.ofNat 32 j + 1#32 = BitVec.ofNat 32 (j + 1)
  simp only [BitVec.ofNat_add]

set_option maxRecDepth 8192 in
theorem out_main_v56_holds (h : Holds V0 s j) {x_main_arg0 : (⟨S8x4096x10240, .bf16⟩ : BufTy).Contents (Elt F)} (h_main_arg0 : V0 (Proc.devRef .tc main_arg0) = x_main_arg0) {x_main_arg3 : (⟨S128, .f32⟩ : BufTy).Contents (Elt F)} (h_main_arg3 : V0 (Proc.devRef .tc main_arg3) = x_main_arg3) : out_main_v56 V0 = Cert.GlaRefIdeal.Step.R_main_v56 s x_main_arg0 x_main_arg3 := by
  unfold out_main_v56 Cert.GlaRefIdeal.Step.R_main_v56
  rw [h.f_7, h_main_arg0, h_main_arg3]
  try rfl

/-- One trip keeps the valuation holding: `step` of the state, the same set-up values, the next number. -/
theorem holds_step (h : Holds V0 s j) : Holds (STEP V0) (step j s) (j + 1) where
  f_6 := (STEP_main_v35_6 V0).trans (step_6 h)
  f_7 := (STEP_main_v35_7 V0).trans (step_7 h)
  n_5 := (STEP_main_v35_5 V0).trans (step_5 h)
  k_4 := (STEP_main_v35_4 V0).trans h.k_4
  f_0 := (STEP_main_v35_0 V0).trans h.f_0
  f_1 := (STEP_main_v35_1 V0).trans h.f_1
  f_2 := (STEP_main_v35_2 V0).trans h.f_2
  f_3 := (STEP_main_v35_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg2))

variable (m : (ℓ : Loc nD τ sig) → Buf (Elt F) ℓ) (c : Dev nD)

set_option maxRecDepth 65536 in
set_option maxHeartbeats 400000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `GlaRefIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v56) = Cert.GlaRefIdeal.Step.R_main_v56 (it c 64) (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    have hk := holds_iter m c (it c) (h0 c) (hs c) 64
    ⟨(h c).1.trans (out_main_v56_holds hk (iter_main_arg0 m c 64) (iter_main_arg3 m c 64)), (h c).2.1, (h c).2.2.1, (h c).2.2.2.1, (h c).2.2.2.2⟩) (Value.run m ρ)

end Cert.GlaRefIdeal.LoopRun

end
-- ==== Proof.GlaRef.lean ====
/-
The reference in closed form: its loop carries the chunks' states, its output rows are the chunks' outputs, and the last
operations normalise and gate each head's row.
-/
module

public import proofs.«01_k».proof.Proof.GlaSteps
public import proofs.«01_k».proof.Proof.GlaLoop

@[expose] public section

set_option maxRecDepth 16384

noncomputable section

namespace Cert.GlaRefIdeal.Ref

open Idealize.ShloMosaic Idealize.ShloMosaic.TcCoe Idealize.SL.Sem
open Cert.GlaRefIdeal Cert.GlaRefIdeal.Gen Cert.GlaRefIdeal.Step Cert.GlaRefIdeal.Steps Cert.GlaMath

variable (p : Vec Ideal S8x4096x10240 .bf16) (w : Vec Ideal S16x256 .f32) (g : Vec Ideal S256 .f32)

/-- Row `i` of chunk `n`. -/
def row (n : ℕ) (i : Fin 64) : Fin 4096 := ⟨n % 64 * 64 + i.val, by omega⟩

theorem row_of (n i : Fin 64) : row n.val i = ⟨n.val * 64 + i.val, by omega⟩ :=
  Fin.ext (by show n.val % 64 * 64 + i.val = n.val * 64 + i.val; omega)

/-- The queries, keys, values and log decays of a batch element's head, a chunk at a time. -/
def qF (b : Fin 8) (h : Fin 4) (n : ℕ) (i d : Fin 64) : EReal :=
  p (ix3 b (row n i) ⟨9216 + (h.val * 64 + d.val), by omega⟩) * Ideal.ofBits .f32 0x3E000000#32
def kF (b : Fin 8) (h : Fin 4) (n : ℕ) (i d : Fin 64) : EReal := p (ix3 b (row n i) ⟨9472 + (h.val * 64 + d.val), by omega⟩)
def vF (b : Fin 8) (h : Fin 4) (n : ℕ) (i : Fin 64) (e : Fin 128) : EReal :=
  p (ix3 b (row n i) ⟨3584 + (h.val * 128 + e.val), by omega⟩)
def xF (b : Fin 8) (r : Fin 4096) (c : Fin 256) : EReal := ∑ x : Fin 16, p (ix3 b r ⟨9728 + x.val, by omega⟩) * w (ix2 x c) + g (ix1 c)
def laF (b : Fin 8) (h : Fin 4) (n : ℕ) (i d : Fin 64) : EReal := gate (xF p w g b (row n i) ⟨h.val * 64 + d.val, by omega⟩)

theorem q_at (n : Fin 64) (b : Fin 8) (h : Fin 4) (i d : Fin 64) : A_main_v27 p w g (ix5 n b h i d) = qF p b h n.val i d := by
  pointwise [A_main_v27, A_main_v26, A_main_v7, A_main_v5, A_main_v4, A_main_v1, K_main_v6, K_main_cst]
  unfold qF
  rw [row_of]
theorem k_at (n : Fin 64) (b : Fin 8) (h : Fin 4) (i d : Fin 64) : A_main_v29 p w g (ix5 n b h i d) = kF p b h n.val i d := by
  pointwise [A_main_v29, A_main_v28, A_main_v9, A_main_v8, A_main_v2]
  unfold kF
  rw [row_of]
theorem v_at (n : Fin 64) (b : Fin 8) (h : Fin 4) (i : Fin 64) (e : Fin 128) : A_main_v31 p w g (ix5 n b h i e) = vF p b h n.val i e := by
  pointwise [A_main_v31, A_main_v30, A_main_v11, A_main_v10, A_main_v0]
  unfold vF
  rw [row_of]
theorem x_at (b : Fin 8) (r : Fin 4096) (c : Fin 256) : A_main_v16 p w g (ix3 b r c) = xF p w g b r c := by
  pointwise [A_main_v16, A_main_v15, A_main_v14, A_main_v13, A_main_v12, A_main_v3]
  rfl
theorem gate_at (b : Fin 8) (r : Fin 4096) (c : Fin 256) : A_main_v21 p w g (ix3 b r c) = gate (xF p w g b r c) := by
  rw [← x_at]
  unfold A_main_v21 A_main_v19 A_main_v18 A_main_call0_v11 A_main_call0_v10 A_main_call0_v9 A_main_call0_v8 A_main_call0_v7 A_main_call0_v6 A_main_call0_v4 A_main_call0_v3 A_main_call0_v1 A_main_v17
  generalize hx : A_main_v16 p w g = x
  pointwise [K_main_v20, K_main_call0_v0, K_main_call0_v2, K_main_call0_cst, K_main_cst_0]
  rw [if_neg (by simp)]
  simp only [gate, sub_zero]
theorem la_at (n : Fin 64) (b : Fin 8) (h : Fin 4) (i d : Fin 64) : A_main_v33 p w g (ix5 n b h i d) = laF p w g b h n.val i d := by
  unfold A_main_v33 A_main_v32 A_main_v22 laF
  rw [← gate_at]
  generalize hx : A_main_v21 p w g = x
  pointwise []
  rw [row_of]

/-- The loop's states. -/
def it : ℕ → State Ideal
  | 0 => init p w g
  | n + 1 => step n (it n)

theorem kept (n : ℕ) : (it p w g n).main_v35_0 = A_main_v27 p w g ∧ (it p w g n).main_v35_1 = A_main_v29 p w g
    ∧ (it p w g n).main_v35_2 = A_main_v31 p w g ∧ (it p w g n).main_v35_3 = A_main_v33 p w g := by
  induction n with
  | zero => exact ⟨rfl, rfl, rfl, rfl⟩
  | succ n ih => exact ih

section
variable (n : ℕ) (hn : n < 64) (b : Fin 8) (h : Fin 4)
include hn
theorem q5 : (fun i d => b5 n (it p w g n) (ix4 b h i d)) = qF p b h n := by
  funext i d; rw [b5_at _ _ hn, (kept p w g n).1, q_at]
theorem k5 : (fun i d => b11 n (it p w g n) (ix4 b h i d)) = kF p b h n := by
  funext i d; rw [b11_at _ _ hn, (kept p w g n).2.1, k_at]
theorem v5 : (fun i d => b17 n (it p w g n) (ix4 b h i d)) = vF p b h n := by
  funext i d; rw [b17_at _ _ hn, (kept p w g n).2.2.1, v_at]
theorem la5 : (fun i d => b26 n (it p w g n) (ix4 b h i d)) = cums (laF p w g b h n) := by
  funext i d; rw [b26_at]; unfold cums; congr 1; funext k; rw [b23_at _ _ hn, (kept p w g n).2.2.2, la_at]
end

/-- The carried state. -/
theorem state_at (n : ℕ) (hn : n ≤ 64) (b : Fin 8) (h : Fin 4) : (fun d e => (it p w g n).main_v35_6 (ix4 b h d e))
    = st (kF p b h) (laF p w g b h) (vF p b h) n := by
  induction n with
  | zero =>
    funext d e
    show Ideal.ofBits .f32 0x00000000#32 = 0
    exact Ideal.ofBits_zero_f32
  | succ n ih =>
    funext d e
    rw [show (it p w g (n + 1)).main_v35_6 = b59 n (it p w g n) from step_main_v35_6 _ _, b59_at, k5 p w g n hn, la5 p w g n hn, v5 p w g n hn, ih (by omega)]
    rfl

/-- The chunks written so far. -/
theorem rows_at (n : ℕ) (hn : n ≤ 64) (m : Fin 64) (hm : m.val < n) (b : Fin 8) (h : Fin 4) (i : Fin 64) (e : Fin 128) :
    (it p w g n).main_v35_7 (ix5 m b h i e) = out (qF p b h) (kF p b h) (laF p w g b h) (vF p b h) m.val i e := by
  induction n with
  | zero => exact absurd hm (Nat.not_lt_zero _)
  | succ n ih =>
    rw [show (it p w g (n + 1)).main_v35_7 = b66 n (it p w g n) from step_main_v35_7 _ _, b66_at _ _ hn]
    split_ifs with hmn
    · rw [b61_at, b29_at, b47_at]
      simp only [b46_at]
      have hv := v5 p w g n hn b h
      rw [q5 p w g n hn, k5 p w g n hn, la5 p w g n hn, state_at p w g n (by omega), hmn]
      unfold out intra
      congr 1
      exact Finset.sum_congr rfl fun k _ => congrArg _ (congrFun (congrFun hv k) e)
    · exact ih (by omega) (by omega)

/-- The operations after the loop: each head's row of the chunks' outputs, normalised and gated. -/
theorem R_at (s : State Ideal) (g3 : Vec Ideal S128 .f32) (b : Fin 8) (n i : Fin 64) (h : Fin 4) (e : Fin 128) :
    R_main_v56 s p g3 (ix3 b (row n.val i) ⟨h.val * 128 + e.val, by omega⟩)
      = gated (fun e => s.main_v35_7 (ix5 n b h i e)) (g3 (ix1 e))
          (p (ix3 b (row n.val i) ⟨4096 + (h.val * 128 + e.val), by omega⟩)) e := by
  unfold R_main_v56
  rw [row_of]
  pointwise []
  have e1 : (⟨(n.val * 64 + i.val) / 64, by omega⟩ : Fin 64) = n := Fin.ext (by show (n.val * 64 + i.val) / 64 = n.val; omega)
  have e2 : (⟨(n.val * 64 + i.val) % 64, by omega⟩ : Fin 64) = i := Fin.ext (by show (n.val * 64 + i.val) % 64 = i.val; omega)
  have e3 : (⟨(h.val * 128 + e.val) / 128, by omega⟩ : Fin 4) = h := Fin.ext (by show (h.val * 128 + e.val) / 128 = h.val; omega)
  have e4 : (⟨(h.val * 128 + e.val) % 128, by omega⟩ : Fin 128) = e := Fin.ext (by show (h.val * 128 + e.val) % 128 = e.val; omega)
  simp only [e1, e2, e3, e4, gated, Ideal.logistic]

/-- The reference's output. -/
theorem out_at (g3 : Vec Ideal S128 .f32) (b : Fin 8) (n i : Fin 64) (h : Fin 4) (e : Fin 128) :
    R_main_v56 (it p w g 64) p g3 (ix3 b (row n.val i) ⟨h.val * 128 + e.val, by omega⟩)
      = gated (out (qF p b h) (kF p b h) (laF p w g b h) (vF p b h) n.val i) (g3 (ix1 e))
          (p (ix3 b (row n.val i) ⟨4096 + (h.val * 128 + e.val), by omega⟩)) e := by
  rw [R_at]
  simp only [rows_at p w g 64 le_rfl n n.isLt b h i]

end Cert.GlaRefIdeal.Ref

end
-- ==== Proof.GlaBlocks.lean ====
/-
The blocks that a grid point reads, entry by entry, and the chunks they hold in the reference's terms: point `t` works on batch
element `t / 8` and on chunks `8 * (t % 8)` to `8 * (t % 8) + 7`.
-/
module

public import proofs.«01_k».proof.Proof.GlaHost
public import proofs.«01_k».proof.Proof.GlaRef

@[expose] public section

set_option maxRecDepth 16384

noncomputable section

namespace Cert.GlaIdeal.Array

open Idealize.ShloMosaic Idealize.ShloMosaic.TcCoe Idealize.SL.Sem
open Idealize.ShloMosaic.Pipeline (Dat)
open Cert.GlaIdeal Cert.GlaIdeal.Gen Cert.GlaIdeal.Model Cert.GlaMath
open Cert.GlaRefIdeal.Ref (row qF kF vF xF laF)

variable (m : (ℓ : Loc nD τ sig) → Buf (Elt Ideal) ℓ)

theorem lt64 (t : Fin cfg0.N) : t.val < 64 := (idx t).2.2.2.2.2.2.2.2.2

/-- The batch element of a point. -/
def bt (t : Fin cfg0.N) : Fin 8 := ⟨t.val / 8, by have := lt64 t; omega⟩

theorem blk0 (c : Dev nD) (t : Fin cfg0.N) (r : Fin 512) (l : Fin 256) : iblk m c 0 t (ix3 0 r l)
    = m ((c : Thread nD τ).loc main_arg0) (ix3 (bt t) ⟨t.val % 8 * 512 + r.val, by omega⟩ ⟨9216 + l.val, by omega⟩) := by
  unfold bt
  blk_point [iblk, V, idx t]

theorem blk1 (c : Dev nD) (t : Fin cfg0.N) (r : Fin 512) (l : Fin 256) : iblk m c 1 t (ix3 0 r l)
    = m ((c : Thread nD τ).loc main_arg0) (ix3 (bt t) ⟨t.val % 8 * 512 + r.val, by omega⟩ ⟨9472 + l.val, by omega⟩) := by
  unfold bt
  blk_point [iblk, V, idx t]

theorem blk2 (c : Dev nD) (t : Fin cfg0.N) (r : Fin 512) (l : Fin 512) : iblk m c 2 t (ix3 0 r l)
    = m ((c : Thread nD τ).loc main_arg0) (ix3 (bt t) ⟨t.val % 8 * 512 + r.val, by omega⟩ ⟨3584 + l.val, by omega⟩) := by
  unfold bt
  blk_point [iblk, V, idx t]

theorem blk3 (c : Dev nD) (t : Fin cfg0.N) (r : Fin 512) (l : Fin 512) : iblk m c 3 t (ix3 0 r l)
    = m ((c : Thread nD τ).loc main_arg0) (ix3 (bt t) ⟨t.val % 8 * 512 + r.val, by omega⟩ ⟨4096 + l.val, by omega⟩) := by
  unfold bt
  blk_point [iblk, V, idx t]

theorem blk4 (c : Dev nD) (t : Fin cfg0.N) (r : Fin 512) (l : Fin 128) : iblk m c 4 t (ix3 0 r l)
    = m ((c : Thread nD τ).loc main_arg0) (ix3 (bt t) ⟨t.val % 8 * 512 + r.val, by omega⟩ ⟨9728 + l.val, by omega⟩) := by
  unfold bt
  blk_point [iblk, V, idx t]

theorem blk5 (c : Dev nD) (t : Fin cfg0.N) (r : Fin 128) (l : Fin 256) : iblk m c 5 t (ix2 r l)
    = padW (m ((c : Thread nD τ).loc main_arg1)) (ix2 r l) := by
  rw [← weight m c]
  blk_ext [iblk, idx t]

theorem blk6 (c : Dev nD) (t : Fin cfg0.N) (l : Fin 256) : iblk m c 6 t (ix2 0 l) = m ((c : Thread nD τ).loc main_arg2) (ix1 l) := by
  refine Eq.trans ?_ (rowB_at _ l)
  rw [← bias m c]
  blk_ext [iblk, idx t]

theorem blk7 (c : Dev nD) (t : Fin cfg0.N) (h : Fin 4) (e : Fin 128) : iblk m c 7 t (ix2 0 (lv h e)) = m ((c : Thread nD τ).loc main_arg3) (ix1 e) := by
  refine Eq.trans ?_ (rowG_at _ h e)
  rw [← gain m c]
  blk_ext [iblk, idx t]

/-- The rows of a point's chunk. -/
theorem row_eq (t : Fin cfg0.N) (u : Fin 8) (i : Fin 64) :
    (⟨t.val % 8 * 512 + (64 * u.val + i.val), by omega⟩ : Fin 4096) = row (8 * (t.val % 8) + u.val) i :=
  Fin.ext (by show t.val % 8 * 512 + (64 * u.val + i.val) = (8 * (t.val % 8) + u.val) % 64 * 64 + i.val; omega)

theorem hq (c : Dev nD) (t : Fin cfg0.N) (u : Fin 8) (h : Fin 4) : qC (cut256 (iblk m c 0 t) u) h
    = qF (m ((c : Thread nD τ).loc main_arg0)) (bt t) h (8 * (t.val % 8) + u.val) := by
  funext i d
  refine congrArg (· * _) ((blk0 m c t ⟨64 * u.val + i.val, by omega⟩ (ln h d)).trans ?_)
  exact congrArg (m ((c : Thread nD τ).loc main_arg0)) (congrArg (fun r => ix3 (bt t) r _) (row_eq t u i))

theorem hk (c : Dev nD) (t : Fin cfg0.N) (u : Fin 8) (h : Fin 4) : kC (cut256 (iblk m c 1 t) u) h
    = kF (m ((c : Thread nD τ).loc main_arg0)) (bt t) h (8 * (t.val % 8) + u.val) := by
  funext i d
  refine (blk1 m c t ⟨64 * u.val + i.val, by omega⟩ (ln h d)).trans ?_
  exact congrArg (m ((c : Thread nD τ).loc main_arg0)) (congrArg (fun r => ix3 (bt t) r _) (row_eq t u i))

theorem hv (c : Dev nD) (t : Fin cfg0.N) (u : Fin 8) (h : Fin 4) : vC (cut512 (iblk m c 2 t) u) h
    = vF (m ((c : Thread nD τ).loc main_arg0)) (bt t) h (8 * (t.val % 8) + u.val) := by
  funext i e
  refine (blk2 m c t ⟨64 * u.val + i.val, by omega⟩ (lv h e)).trans ?_
  exact congrArg (m ((c : Thread nD τ).loc main_arg0)) (congrArg (fun r => ix3 (bt t) r _) (row_eq t u i))

theorem hr (c : Dev nD) (t : Fin cfg0.N) (u : Fin 8) (h : Fin 4) (i : Fin 64) (e : Fin 128) : cut512 (iblk m c 3 t) u (ix3 0 i (lv h e))
    = m ((c : Thread nD τ).loc main_arg0) (ix3 (bt t) (row (8 * (t.val % 8) + u.val) i) ⟨4096 + (h.val * 128 + e.val), by omega⟩) := by
  refine (blk3 m c t ⟨64 * u.val + i.val, by omega⟩ (lv h e)).trans ?_
  exact congrArg (m ((c : Thread nD τ).loc main_arg0)) (congrArg (fun r => ix3 (bt t) r _) (row_eq t u i))

/-- A sum over 128 places whose terms are zero from place 16 on. -/
theorem sum_pad (f : Fin 128 → EReal) (g : Fin 16 → EReal) (h1 : ∀ (x : Fin 16) (r : Fin 128), x.val = r.val → f r = g x)
    (h2 : ∀ r : Fin 128, 16 ≤ r.val → f r = 0) : ∑ r, f r = ∑ x, g x := by
  have e : ∑ x : Fin 16, g x = ∑ x : Fin 16, f (Fin.castLEEmb (by omega : 16 ≤ 128) x) := Finset.sum_congr rfl fun x _ => (h1 x _ rfl).symm
  rw [e, ← Finset.sum_map Finset.univ (Fin.castLEEmb (by omega : 16 ≤ 128)) f]
  refine (Finset.sum_subset (Finset.subset_univ _) fun r _ hr => h2 r ?_).symm
  by_contra hlt
  exact hr (Finset.mem_map.2 ⟨⟨r.val, by omega⟩, Finset.mem_univ _, Fin.ext rfl⟩)

theorem hla (c : Dev nD) (t : Fin cfg0.N) (u : Fin 8) (h : Fin 4) : laC (cut128 (iblk m c 4 t) u) (iblk m c 5 t) (iblk m c 6 t) h
    = laF (m ((c : Thread nD τ).loc main_arg0)) (m ((c : Thread nD τ).loc main_arg1)) (m ((c : Thread nD τ).loc main_arg2)) (bt t) h (8 * (t.val % 8) + u.val) := by
  funext i d
  have hb : ∀ r : Fin 128, cut128 (iblk m c 4 t) u (ix3 0 i r)
      = m ((c : Thread nD τ).loc main_arg0) (ix3 (bt t) (row (8 * (t.val % 8) + u.val) i) ⟨9728 + r.val, by omega⟩) := fun r => by
    refine (blk4 m c t ⟨64 * u.val + i.val, by omega⟩ r).trans ?_
    exact congrArg (m ((c : Thread nD τ).loc main_arg0)) (congrArg (fun r => ix3 (bt t) r _) (row_eq t u i))
  unfold laC laF xM xF
  refine congrArg gate (congrArg₂ (· + ·) (sum_pad _ _ (fun x r hx => ?_) (fun r hr => ?_)) (blk6 m c t (ln h d)))
  · rw [hb, blk5, padW_lt _ r _ x hx]
    refine congrArg (· * _) (congrArg (m ((c : Thread nD τ).loc main_arg0)) (congrArg (fun l => ix3 (bt t) _ l) (Fin.ext ?_)))
    show 9728 + r.val = 9728 + x.val
    omega
  · rw [blk5, padW_ge _ r _ hr, mul_zero]

end Cert.GlaIdeal.Array

end
-- ==== Proof.GlaLoadsA.lean ====
module

public import proofs.«01_k».proof.Proof.GlaModel

@[expose] public section

set_option maxRecDepth 16384

noncomputable section

/-! What one grid point loads back from its chunk scratches, chunk by chunk. -/

namespace Cert.GlaIdeal.LoadsA

open Idealize.ShloMosaic Idealize.ShloMosaic.TcCoe Idealize.SL.Sem
open Cert.GlaIdeal Cert.GlaIdeal.Gen Cert.GlaIdeal.Model

variable (c : Dev nD) (arg2 : Memref sig .tc .vmem S1x512x256 .bf16) (harg2 : arg2.IsWhole) (arg3 : Memref sig .tc .vmem S1x512x256 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x512x128 .bf16) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg11 : Memref sig .tc .vmem S512x128 .f32) (harg11 : arg11.IsWhole)
  (arg12 : Memref sig .tc .vmem S8x64x256 .bf16) (arg13 : Memref sig .tc .vmem S8x64x512 .f32) (arg14 : Memref sig .tc .vmem S8x512x128 .f32) (arg15 : Memref sig .tc .vmem S8x8x256 .f32)
  (x0 x1 : Vec Ideal S1x512x256 .bf16) (x2 x3 : Vec Ideal S1x512x512 .bf16) (x4 : Vec Ideal S1x512x128 .bf16) (x5 : Vec Ideal S128x256 .bf16) (x6 : Vec Ideal S1x256 .f32) (x7 : Vec Ideal S1x512 .f32) (xs0 : Vec Ideal S512x128 .f32)

theorem qd_0 : kernelRun0_A.sl.v1545 c arg2 harg2 arg6 harg6 arg7 harg7 arg8 harg8 arg12 x0 x4 x5 x6 = qdM (rd256 arg2 harg2 x0 ![0, 0, 0] inb_S1x512x256_S1x64x256_0_0_0) (rd128 arg6 harg6 x4 ![0, 0, 0] inb_S1x512x128_S1x64x128_0_0_0) (rdW arg7 harg7 x5) (rdB arg8 harg8 x6) := by
  unfold kernelRun0_A.sl.v1545 kernelRun0_A.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_0 : kernelRun0_A.sl.v1548 c arg6 harg6 arg7 harg7 arg8 harg8 arg15 x4 x5 x6 = decM (rd128 arg6 harg6 x4 ![0, 0, 0] inb_S1x512x128_S1x64x128_0_0_0) (rdW arg7 harg7 x5) (rdB arg8 harg8 x6) := by
  unfold kernelRun0_A.sl.v1548 kernelRun0_A.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_0 : kernelRun0_A.sl.v1554 c arg3 harg3 arg4 harg4 arg6 harg6 arg7 harg7 arg8 harg8 arg14 x1 x2 x4 x5 x6 = upd0M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_A.sl.v1554 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_0 : kernelRun0_A.sl.v1564 c arg3 harg3 arg4 harg4 arg6 harg6 arg7 harg7 arg8 harg8 arg14 x1 x2 x4 x5 x6 = upd1M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_A.sl.v1564 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_0 : kernelRun0_A.sl.v1574 c arg3 harg3 arg4 harg4 arg6 harg6 arg7 harg7 arg8 harg8 arg14 x1 x2 x4 x5 x6 = upd2M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_A.sl.v1574 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_0 : kernelRun0_A.sl.v1584 c arg3 harg3 arg4 harg4 arg6 harg6 arg7 harg7 arg8 harg8 arg14 x1 x2 x4 x5 x6 = upd3M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_A.sl.v1584 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_0 : kernelRun0_A.sl.v1590 c arg2 harg2 arg3 harg3 arg4 harg4 arg6 harg6 arg7 harg7 arg8 harg8 arg13 x0 x1 x2 x4 x5 x6 = intraM (rd256 arg2 harg2 x0 ![0, 0, 0] inb_S1x512x256_S1x64x256_0_0_0) (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_A.sl.v1590 kernelRun0_A.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_1 : kernelRun0_A.sl.v1670 c arg2 harg2 arg6 harg6 arg7 harg7 arg8 harg8 arg12 x0 x4 x5 x6 = qdM (rd256 arg2 harg2 x0 ![0, 64, 0] inb_S1x512x256_S1x64x256_0_64_0) (rd128 arg6 harg6 x4 ![0, 64, 0] inb_S1x512x128_S1x64x128_0_64_0) (rdW arg7 harg7 x5) (rdB arg8 harg8 x6) := by
  unfold kernelRun0_A.sl.v1670 kernelRun0_A.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_1 : kernelRun0_A.sl.v1673 c arg6 harg6 arg7 harg7 arg8 harg8 arg15 x4 x5 x6 = decM (rd128 arg6 harg6 x4 ![0, 64, 0] inb_S1x512x128_S1x64x128_0_64_0) (rdW arg7 harg7 x5) (rdB arg8 harg8 x6) := by
  unfold kernelRun0_A.sl.v1673 kernelRun0_A.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_1 : kernelRun0_A.sl.v1679 c arg3 harg3 arg4 harg4 arg6 harg6 arg7 harg7 arg8 harg8 arg14 x1 x2 x4 x5 x6 = upd0M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_A.sl.v1679 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_1 : kernelRun0_A.sl.v1689 c arg3 harg3 arg4 harg4 arg6 harg6 arg7 harg7 arg8 harg8 arg14 x1 x2 x4 x5 x6 = upd1M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_A.sl.v1689 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_1 : kernelRun0_A.sl.v1699 c arg3 harg3 arg4 harg4 arg6 harg6 arg7 harg7 arg8 harg8 arg14 x1 x2 x4 x5 x6 = upd2M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_A.sl.v1699 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_1 : kernelRun0_A.sl.v1709 c arg3 harg3 arg4 harg4 arg6 harg6 arg7 harg7 arg8 harg8 arg14 x1 x2 x4 x5 x6 = upd3M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_A.sl.v1709 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_1 : kernelRun0_A.sl.v1715 c arg2 harg2 arg3 harg3 arg4 harg4 arg6 harg6 arg7 harg7 arg8 harg8 arg13 x0 x1 x2 x4 x5 x6 = intraM (rd256 arg2 harg2 x0 ![0, 64, 0] inb_S1x512x256_S1x64x256_0_64_0) (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_A.sl.v1715 kernelRun0_A.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_2 : kernelRun0_A.sl.v1795 c arg2 harg2 arg6 harg6 arg7 harg7 arg8 harg8 arg12 x0 x4 x5 x6 = qdM (rd256 arg2 harg2 x0 ![0, 128, 0] inb_S1x512x256_S1x64x256_0_128_0) (rd128 arg6 harg6 x4 ![0, 128, 0] inb_S1x512x128_S1x64x128_0_128_0) (rdW arg7 harg7 x5) (rdB arg8 harg8 x6) := by
  unfold kernelRun0_A.sl.v1795 kernelRun0_A.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_2 : kernelRun0_A.sl.v1798 c arg6 harg6 arg7 harg7 arg8 harg8 arg15 x4 x5 x6 = decM (rd128 arg6 harg6 x4 ![0, 128, 0] inb_S1x512x128_S1x64x128_0_128_0) (rdW arg7 harg7 x5) (rdB arg8 harg8 x6) := by
  unfold kernelRun0_A.sl.v1798 kernelRun0_A.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_2 : kernelRun0_A.sl.v1804 c arg3 harg3 arg4 harg4 arg6 harg6 arg7 harg7 arg8 harg8 arg14 x1 x2 x4 x5 x6 = upd0M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_A.sl.v1804 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_2 : kernelRun0_A.sl.v1814 c arg3 harg3 arg4 harg4 arg6 harg6 arg7 harg7 arg8 harg8 arg14 x1 x2 x4 x5 x6 = upd1M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_A.sl.v1814 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_2 : kernelRun0_A.sl.v1824 c arg3 harg3 arg4 harg4 arg6 harg6 arg7 harg7 arg8 harg8 arg14 x1 x2 x4 x5 x6 = upd2M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_A.sl.v1824 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_2 : kernelRun0_A.sl.v1834 c arg3 harg3 arg4 harg4 arg6 harg6 arg7 harg7 arg8 harg8 arg14 x1 x2 x4 x5 x6 = upd3M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_A.sl.v1834 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_2 : kernelRun0_A.sl.v1840 c arg2 harg2 arg3 harg3 arg4 harg4 arg6 harg6 arg7 harg7 arg8 harg8 arg13 x0 x1 x2 x4 x5 x6 = intraM (rd256 arg2 harg2 x0 ![0, 128, 0] inb_S1x512x256_S1x64x256_0_128_0) (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_A.sl.v1840 kernelRun0_A.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_3 : kernelRun0_A.sl.v1920 c arg2 harg2 arg6 harg6 arg7 harg7 arg8 harg8 arg12 x0 x4 x5 x6 = qdM (rd256 arg2 harg2 x0 ![0, 192, 0] inb_S1x512x256_S1x64x256_0_192_0) (rd128 arg6 harg6 x4 ![0, 192, 0] inb_S1x512x128_S1x64x128_0_192_0) (rdW arg7 harg7 x5) (rdB arg8 harg8 x6) := by
  unfold kernelRun0_A.sl.v1920 kernelRun0_A.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_3 : kernelRun0_A.sl.v1923 c arg6 harg6 arg7 harg7 arg8 harg8 arg15 x4 x5 x6 = decM (rd128 arg6 harg6 x4 ![0, 192, 0] inb_S1x512x128_S1x64x128_0_192_0) (rdW arg7 harg7 x5) (rdB arg8 harg8 x6) := by
  unfold kernelRun0_A.sl.v1923 kernelRun0_A.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_3 : kernelRun0_A.sl.v1929 c arg3 harg3 arg4 harg4 arg6 harg6 arg7 harg7 arg8 harg8 arg14 x1 x2 x4 x5 x6 = upd0M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_A.sl.v1929 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_3 : kernelRun0_A.sl.v1939 c arg3 harg3 arg4 harg4 arg6 harg6 arg7 harg7 arg8 harg8 arg14 x1 x2 x4 x5 x6 = upd1M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_A.sl.v1939 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_3 : kernelRun0_A.sl.v1949 c arg3 harg3 arg4 harg4 arg6 harg6 arg7 harg7 arg8 harg8 arg14 x1 x2 x4 x5 x6 = upd2M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_A.sl.v1949 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_3 : kernelRun0_A.sl.v1959 c arg3 harg3 arg4 harg4 arg6 harg6 arg7 harg7 arg8 harg8 arg14 x1 x2 x4 x5 x6 = upd3M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_A.sl.v1959 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_3 : kernelRun0_A.sl.v1965 c arg2 harg2 arg3 harg3 arg4 harg4 arg6 harg6 arg7 harg7 arg8 harg8 arg13 x0 x1 x2 x4 x5 x6 = intraM (rd256 arg2 harg2 x0 ![0, 192, 0] inb_S1x512x256_S1x64x256_0_192_0) (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_A.sl.v1965 kernelRun0_A.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_4 : kernelRun0_A.sl.v2045 c arg2 harg2 arg6 harg6 arg7 harg7 arg8 harg8 arg12 x0 x4 x5 x6 = qdM (rd256 arg2 harg2 x0 ![0, 256, 0] inb_S1x512x256_S1x64x256_0_256_0) (rd128 arg6 harg6 x4 ![0, 256, 0] inb_S1x512x128_S1x64x128_0_256_0) (rdW arg7 harg7 x5) (rdB arg8 harg8 x6) := by
  unfold kernelRun0_A.sl.v2045 kernelRun0_A.sl.HS1_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_4 : kernelRun0_A.sl.v2048 c arg6 harg6 arg7 harg7 arg8 harg8 arg15 x4 x5 x6 = decM (rd128 arg6 harg6 x4 ![0, 256, 0] inb_S1x512x128_S1x64x128_0_256_0) (rdW arg7 harg7 x5) (rdB arg8 harg8 x6) := by
  unfold kernelRun0_A.sl.v2048 kernelRun0_A.sl.HS4_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_4 : kernelRun0_A.sl.v2054 c arg3 harg3 arg4 harg4 arg6 harg6 arg7 harg7 arg8 harg8 arg14 x1 x2 x4 x5 x6 = upd0M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_A.sl.v2054 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_4 : kernelRun0_A.sl.v2064 c arg3 harg3 arg4 harg4 arg6 harg6 arg7 harg7 arg8 harg8 arg14 x1 x2 x4 x5 x6 = upd1M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_A.sl.v2064 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_4 : kernelRun0_A.sl.v2074 c arg3 harg3 arg4 harg4 arg6 harg6 arg7 harg7 arg8 harg8 arg14 x1 x2 x4 x5 x6 = upd2M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_A.sl.v2074 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_4 : kernelRun0_A.sl.v2084 c arg3 harg3 arg4 harg4 arg6 harg6 arg7 harg7 arg8 harg8 arg14 x1 x2 x4 x5 x6 = upd3M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_A.sl.v2084 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_4 : kernelRun0_A.sl.v2090 c arg2 harg2 arg3 harg3 arg4 harg4 arg6 harg6 arg7 harg7 arg8 harg8 arg13 x0 x1 x2 x4 x5 x6 = intraM (rd256 arg2 harg2 x0 ![0, 256, 0] inb_S1x512x256_S1x64x256_0_256_0) (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_A.sl.v2090 kernelRun0_A.sl.HS2_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_5 : kernelRun0_A.sl.v2170 c arg2 harg2 arg6 harg6 arg7 harg7 arg8 harg8 arg12 x0 x4 x5 x6 = qdM (rd256 arg2 harg2 x0 ![0, 320, 0] inb_S1x512x256_S1x64x256_0_320_0) (rd128 arg6 harg6 x4 ![0, 320, 0] inb_S1x512x128_S1x64x128_0_320_0) (rdW arg7 harg7 x5) (rdB arg8 harg8 x6) := by
  unfold kernelRun0_A.sl.v2170 kernelRun0_A.sl.HS1_8
  refine (View.readCov_skip _ _ _ _ _ (by decide)).trans ?_
  refine (View.readCov_skip _ _ _ _ _ (by decide)).trans ?_
  refine (View.readCov_cons_toLoadRect _ _ _ _).trans ?_
  rfl

theorem dec_5 : kernelRun0_A.sl.v2173 c arg6 harg6 arg7 harg7 arg8 harg8 arg15 x4 x5 x6 = decM (rd128 arg6 harg6 x4 ![0, 320, 0] inb_S1x512x128_S1x64x128_0_320_0) (rdW arg7 harg7 x5) (rdB arg8 harg8 x6) := by
  unfold kernelRun0_A.sl.v2173 kernelRun0_A.sl.HS4_8
  refine (View.readCov_skip _ _ _ _ _ (by decide)).trans ?_
  refine (View.readCov_skip _ _ _ _ _ (by decide)).trans ?_
  refine (View.readCov_cons_toLoadRect _ _ _ _).trans ?_
  rfl

theorem upd0_5 : kernelRun0_A.sl.v2179 c arg3 harg3 arg4 harg4 arg6 harg6 arg7 harg7 arg8 harg8 arg14 x1 x2 x4 x5 x6 = upd0M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_A.sl.v2179 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_5 : kernelRun0_A.sl.v2189 c arg3 harg3 arg4 harg4 arg6 harg6 arg7 harg7 arg8 harg8 arg14 x1 x2 x4 x5 x6 = upd1M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_A.sl.v2189 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_5 : kernelRun0_A.sl.v2199 c arg3 harg3 arg4 harg4 arg6 harg6 arg7 harg7 arg8 harg8 arg14 x1 x2 x4 x5 x6 = upd2M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_A.sl.v2199 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_5 : kernelRun0_A.sl.v2209 c arg3 harg3 arg4 harg4 arg6 harg6 arg7 harg7 arg8 harg8 arg14 x1 x2 x4 x5 x6 = upd3M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_A.sl.v2209 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_5 : kernelRun0_A.sl.v2215 c arg2 harg2 arg3 harg3 arg4 harg4 arg6 harg6 arg7 harg7 arg8 harg8 arg13 x0 x1 x2 x4 x5 x6 = intraM (rd256 arg2 harg2 x0 ![0, 320, 0] inb_S1x512x256_S1x64x256_0_320_0) (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_A.sl.v2215 kernelRun0_A.sl.HS2_8
  refine (View.readCov_skip _ _ _ _ _ (by decide)).trans ?_
  refine (View.readCov_skip _ _ _ _ _ (by decide)).trans ?_
  refine (View.readCov_cons_toLoadRect _ _ _ _).trans ?_
  rfl

theorem qd_6 : kernelRun0_A.sl.v2295 c arg2 harg2 arg6 harg6 arg7 harg7 arg8 harg8 arg12 x0 x4 x5 x6 = qdM (rd256 arg2 harg2 x0 ![0, 384, 0] inb_S1x512x256_S1x64x256_0_384_0) (rd128 arg6 harg6 x4 ![0, 384, 0] inb_S1x512x128_S1x64x128_0_384_0) (rdW arg7 harg7 x5) (rdB arg8 harg8 x6) := by
  unfold kernelRun0_A.sl.v2295 kernelRun0_A.sl.HS1_8
  refine (View.readCov_skip _ _ _ _ _ (by decide)).trans ?_
  refine (View.readCov_cons_toLoadRect _ _ _ _).trans ?_
  rfl

theorem dec_6 : kernelRun0_A.sl.v2298 c arg6 harg6 arg7 harg7 arg8 harg8 arg15 x4 x5 x6 = decM (rd128 arg6 harg6 x4 ![0, 384, 0] inb_S1x512x128_S1x64x128_0_384_0) (rdW arg7 harg7 x5) (rdB arg8 harg8 x6) := by
  unfold kernelRun0_A.sl.v2298 kernelRun0_A.sl.HS4_8
  refine (View.readCov_skip _ _ _ _ _ (by decide)).trans ?_
  refine (View.readCov_cons_toLoadRect _ _ _ _).trans ?_
  rfl

theorem upd0_6 : kernelRun0_A.sl.v2304 c arg3 harg3 arg4 harg4 arg6 harg6 arg7 harg7 arg8 harg8 arg14 x1 x2 x4 x5 x6 = upd0M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_A.sl.v2304 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_6 : kernelRun0_A.sl.v2314 c arg3 harg3 arg4 harg4 arg6 harg6 arg7 harg7 arg8 harg8 arg14 x1 x2 x4 x5 x6 = upd1M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_A.sl.v2314 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_6 : kernelRun0_A.sl.v2324 c arg3 harg3 arg4 harg4 arg6 harg6 arg7 harg7 arg8 harg8 arg14 x1 x2 x4 x5 x6 = upd2M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_A.sl.v2324 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_6 : kernelRun0_A.sl.v2334 c arg3 harg3 arg4 harg4 arg6 harg6 arg7 harg7 arg8 harg8 arg14 x1 x2 x4 x5 x6 = upd3M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_A.sl.v2334 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_6 : kernelRun0_A.sl.v2340 c arg2 harg2 arg3 harg3 arg4 harg4 arg6 harg6 arg7 harg7 arg8 harg8 arg13 x0 x1 x2 x4 x5 x6 = intraM (rd256 arg2 harg2 x0 ![0, 384, 0] inb_S1x512x256_S1x64x256_0_384_0) (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_A.sl.v2340 kernelRun0_A.sl.HS2_8
  refine (View.readCov_skip _ _ _ _ _ (by decide)).trans ?_
  refine (View.readCov_cons_toLoadRect _ _ _ _).trans ?_
  rfl

theorem qd_7 : kernelRun0_A.sl.v2420 c arg2 harg2 arg6 harg6 arg7 harg7 arg8 harg8 arg12 x0 x4 x5 x6 = qdM (rd256 arg2 harg2 x0 ![0, 448, 0] inb_S1x512x256_S1x64x256_0_448_0) (rd128 arg6 harg6 x4 ![0, 448, 0] inb_S1x512x128_S1x64x128_0_448_0) (rdW arg7 harg7 x5) (rdB arg8 harg8 x6) := by
  unfold kernelRun0_A.sl.v2420 kernelRun0_A.sl.HS1_8
  refine (View.readCov_cons_toLoadRect _ _ _ _).trans ?_
  rfl

theorem dec_7 : kernelRun0_A.sl.v2423 c arg6 harg6 arg7 harg7 arg8 harg8 arg15 x4 x5 x6 = decM (rd128 arg6 harg6 x4 ![0, 448, 0] inb_S1x512x128_S1x64x128_0_448_0) (rdW arg7 harg7 x5) (rdB arg8 harg8 x6) := by
  unfold kernelRun0_A.sl.v2423 kernelRun0_A.sl.HS4_8
  refine (View.readCov_cons_toLoadRect _ _ _ _).trans ?_
  rfl

theorem upd0_7 : kernelRun0_A.sl.v2429 c arg3 harg3 arg4 harg4 arg6 harg6 arg7 harg7 arg8 harg8 arg14 x1 x2 x4 x5 x6 = upd0M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_A.sl.v2429 kernelRun0_A.sl.HS3_32
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_7 : kernelRun0_A.sl.v2439 c arg3 harg3 arg4 harg4 arg6 harg6 arg7 harg7 arg8 harg8 arg14 x1 x2 x4 x5 x6 = upd1M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_A.sl.v2439 kernelRun0_A.sl.HS3_32
  refine (View.readCov_skip _ _ _ _ _ (by decide)).trans ?_
  refine (View.readCov_skip _ _ _ _ _ (by decide)).trans ?_
  refine (View.readCov_cons_toLoadRect _ _ _ _).trans ?_
  rfl

theorem upd2_7 : kernelRun0_A.sl.v2449 c arg3 harg3 arg4 harg4 arg6 harg6 arg7 harg7 arg8 harg8 arg14 x1 x2 x4 x5 x6 = upd2M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_A.sl.v2449 kernelRun0_A.sl.HS3_32
  refine (View.readCov_skip _ _ _ _ _ (by decide)).trans ?_
  refine (View.readCov_cons_toLoadRect _ _ _ _).trans ?_
  rfl

theorem upd3_7 : kernelRun0_A.sl.v2459 c arg3 harg3 arg4 harg4 arg6 harg6 arg7 harg7 arg8 harg8 arg14 x1 x2 x4 x5 x6 = upd3M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_A.sl.v2459 kernelRun0_A.sl.HS3_32
  refine (View.readCov_cons_toLoadRect _ _ _ _).trans ?_
  rfl

theorem intra_7 : kernelRun0_A.sl.v2465 c arg2 harg2 arg3 harg3 arg4 harg4 arg6 harg6 arg7 harg7 arg8 harg8 arg13 x0 x1 x2 x4 x5 x6 = intraM (rd256 arg2 harg2 x0 ![0, 448, 0] inb_S1x512x256_S1x64x256_0_448_0) (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_A.sl.v2465 kernelRun0_A.sl.HS2_8
  refine (View.readCov_cons_toLoadRect _ _ _ _).trans ?_
  rfl

end Cert.GlaIdeal.LoadsA

end
-- ==== Proof.GlaChainA.lean ====
module

public import proofs.«01_k».proof.Proof.GlaLoadsA
public import proofs.«01_k».proof.Proof.GlaPoint

@[expose] public section

set_option maxRecDepth 16384

noncomputable section

/-! The state a grid point carries through its eight chunks, and the rows it writes. -/

namespace Cert.GlaIdeal.ChainA

open Idealize.ShloMosaic Idealize.ShloMosaic.TcCoe Idealize.SL.Sem
open Cert.GlaIdeal Cert.GlaIdeal.Gen Cert.GlaIdeal.Model Cert.GlaIdeal.LoadsA

variable (c : Dev nD) (arg2 : Memref sig .tc .vmem S1x512x256 .bf16) (harg2 : arg2.IsWhole) (arg3 : Memref sig .tc .vmem S1x512x256 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x512x128 .bf16) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg11 : Memref sig .tc .vmem S512x128 .f32) (harg11 : arg11.IsWhole)
  (arg12 : Memref sig .tc .vmem S8x64x256 .bf16) (arg13 : Memref sig .tc .vmem S8x64x512 .f32) (arg14 : Memref sig .tc .vmem S8x512x128 .f32) (arg15 : Memref sig .tc .vmem S8x8x256 .f32)
  (x0 x1 : Vec Ideal S1x512x256 .bf16) (x2 x3 : Vec Ideal S1x512x512 .bf16) (x4 : Vec Ideal S1x512x128 .bf16) (x5 : Vec Ideal S128x256 .bf16) (x6 : Vec Ideal S1x256 .f32) (x7 : Vec Ideal S1x512 .f32) (xs0 : Vec Ideal S512x128 .f32)

theorem st_0 : kernelRun0_A.sl.v1530 c arg11 = stU x1 x2 x4 x5 x6 (k0_pay2 (F := Ideal)) 0 := by
  unfold kernelRun0_A.sl.v1530 kernelRun0_A.sl.HS0_1
  exact View.readCov_cons_toLoadRect _ _ _ _

theorem st_1 : kernelRun0_A.sl.v1655 c arg3 harg3 arg4 harg4 arg6 harg6 arg7 harg7 arg8 harg8 arg11 arg14 arg15 x1 x2 x4 x5 x6 = stU x1 x2 x4 x5 x6 (k0_pay2 (F := Ideal)) 1 := by
  unfold kernelRun0_A.sl.v1655 kernelRun0_A.sl.HS0_5
  refine (readCov_stack _ _ _ _ _ _).trans ?_
  show nextM (kernelRun0_A.sl.v1530 c arg11) (kernelRun0_A.sl.v1548 c arg6 harg6 arg7 harg7 arg8 harg8 arg15 x4 x5 x6) (kernelRun0_A.sl.v1554 c arg3 harg3 arg4 harg4 arg6 harg6 arg7 harg7 arg8 harg8 arg14 x1 x2 x4 x5 x6) (kernelRun0_A.sl.v1564 c arg3 harg3 arg4 harg4 arg6 harg6 arg7 harg7 arg8 harg8 arg14 x1 x2 x4 x5 x6) (kernelRun0_A.sl.v1574 c arg3 harg3 arg4 harg4 arg6 harg6 arg7 harg7 arg8 harg8 arg14 x1 x2 x4 x5 x6) (kernelRun0_A.sl.v1584 c arg3 harg3 arg4 harg4 arg6 harg6 arg7 harg7 arg8 harg8 arg14 x1 x2 x4 x5 x6) = _
  rw [st_0, dec_0, upd0_0, upd1_0, upd2_0, upd3_0]
  simp only [rd256_eq _ _ _ (0 : Fin 8) 0 rfl, rd512_eq _ _ _ (0 : Fin 8) 0 rfl, rd128_eq _ _ _ (0 : Fin 8) 0 rfl, rdW_eq, rdB_eq]
  rfl

theorem st_2 : kernelRun0_A.sl.v1780 c arg3 harg3 arg4 harg4 arg6 harg6 arg7 harg7 arg8 harg8 arg11 arg14 arg15 x1 x2 x4 x5 x6 = stU x1 x2 x4 x5 x6 (k0_pay2 (F := Ideal)) 2 := by
  unfold kernelRun0_A.sl.v1780 kernelRun0_A.sl.HS0_9
  refine (readCov_stack _ _ _ _ _ _).trans ?_
  show nextM (kernelRun0_A.sl.v1655 c arg3 harg3 arg4 harg4 arg6 harg6 arg7 harg7 arg8 harg8 arg11 arg14 arg15 x1 x2 x4 x5 x6) (kernelRun0_A.sl.v1673 c arg6 harg6 arg7 harg7 arg8 harg8 arg15 x4 x5 x6) (kernelRun0_A.sl.v1679 c arg3 harg3 arg4 harg4 arg6 harg6 arg7 harg7 arg8 harg8 arg14 x1 x2 x4 x5 x6) (kernelRun0_A.sl.v1689 c arg3 harg3 arg4 harg4 arg6 harg6 arg7 harg7 arg8 harg8 arg14 x1 x2 x4 x5 x6) (kernelRun0_A.sl.v1699 c arg3 harg3 arg4 harg4 arg6 harg6 arg7 harg7 arg8 harg8 arg14 x1 x2 x4 x5 x6) (kernelRun0_A.sl.v1709 c arg3 harg3 arg4 harg4 arg6 harg6 arg7 harg7 arg8 harg8 arg14 x1 x2 x4 x5 x6) = _
  rw [st_1, dec_1, upd0_1, upd1_1, upd2_1, upd3_1]
  simp only [rd256_eq _ _ _ (1 : Fin 8) 64 rfl, rd512_eq _ _ _ (1 : Fin 8) 64 rfl, rd128_eq _ _ _ (1 : Fin 8) 64 rfl, rdW_eq, rdB_eq]
  rfl

theorem st_3 : kernelRun0_A.sl.v1905 c arg3 harg3 arg4 harg4 arg6 harg6 arg7 harg7 arg8 harg8 arg11 arg14 arg15 x1 x2 x4 x5 x6 = stU x1 x2 x4 x5 x6 (k0_pay2 (F := Ideal)) 3 := by
  unfold kernelRun0_A.sl.v1905 kernelRun0_A.sl.HS0_13
  refine (readCov_stack _ _ _ _ _ _).trans ?_
  show nextM (kernelRun0_A.sl.v1780 c arg3 harg3 arg4 harg4 arg6 harg6 arg7 harg7 arg8 harg8 arg11 arg14 arg15 x1 x2 x4 x5 x6) (kernelRun0_A.sl.v1798 c arg6 harg6 arg7 harg7 arg8 harg8 arg15 x4 x5 x6) (kernelRun0_A.sl.v1804 c arg3 harg3 arg4 harg4 arg6 harg6 arg7 harg7 arg8 harg8 arg14 x1 x2 x4 x5 x6) (kernelRun0_A.sl.v1814 c arg3 harg3 arg4 harg4 arg6 harg6 arg7 harg7 arg8 harg8 arg14 x1 x2 x4 x5 x6) (kernelRun0_A.sl.v1824 c arg3 harg3 arg4 harg4 arg6 harg6 arg7 harg7 arg8 harg8 arg14 x1 x2 x4 x5 x6) (kernelRun0_A.sl.v1834 c arg3 harg3 arg4 harg4 arg6 harg6 arg7 harg7 arg8 harg8 arg14 x1 x2 x4 x5 x6) = _
  rw [st_2, dec_2, upd0_2, upd1_2, upd2_2, upd3_2]
  simp only [rd256_eq _ _ _ (2 : Fin 8) 128 rfl, rd512_eq _ _ _ (2 : Fin 8) 128 rfl, rd128_eq _ _ _ (2 : Fin 8) 128 rfl, rdW_eq, rdB_eq]
  rfl

theorem st_4 : kernelRun0_A.sl.v2030 c arg3 harg3 arg4 harg4 arg6 harg6 arg7 harg7 arg8 harg8 arg11 arg14 arg15 x1 x2 x4 x5 x6 = stU x1 x2 x4 x5 x6 (k0_pay2 (F := Ideal)) 4 := by
  unfold kernelRun0_A.sl.v2030 kernelRun0_A.sl.HS0_17
  refine (readCov_stack _ _ _ _ _ _).trans ?_
  show nextM (kernelRun0_A.sl.v1905 c arg3 harg3 arg4 harg4 arg6 harg6 arg7 harg7 arg8 harg8 arg11 arg14 arg15 x1 x2 x4 x5 x6) (kernelRun0_A.sl.v1923 c arg6 harg6 arg7 harg7 arg8 harg8 arg15 x4 x5 x6) (kernelRun0_A.sl.v1929 c arg3 harg3 arg4 harg4 arg6 harg6 arg7 harg7 arg8 harg8 arg14 x1 x2 x4 x5 x6) (kernelRun0_A.sl.v1939 c arg3 harg3 arg4 harg4 arg6 harg6 arg7 harg7 arg8 harg8 arg14 x1 x2 x4 x5 x6) (kernelRun0_A.sl.v1949 c arg3 harg3 arg4 harg4 arg6 harg6 arg7 harg7 arg8 harg8 arg14 x1 x2 x4 x5 x6) (kernelRun0_A.sl.v1959 c arg3 harg3 arg4 harg4 arg6 harg6 arg7 harg7 arg8 harg8 arg14 x1 x2 x4 x5 x6) = _
  rw [st_3, dec_3, upd0_3, upd1_3, upd2_3, upd3_3]
  simp only [rd256_eq _ _ _ (3 : Fin 8) 192 rfl, rd512_eq _ _ _ (3 : Fin 8) 192 rfl, rd128_eq _ _ _ (3 : Fin 8) 192 rfl, rdW_eq, rdB_eq]
  rfl

theorem st_5 : kernelRun0_A.sl.v2155 c arg3 harg3 arg4 harg4 arg6 harg6 arg7 harg7 arg8 harg8 arg11 arg14 arg15 x1 x2 x4 x5 x6 = stU x1 x2 x4 x5 x6 (k0_pay2 (F := Ideal)) 5 := by
  unfold kernelRun0_A.sl.v2155 kernelRun0_A.sl.HS0_21
  refine (readCov_stack _ _ _ _ _ _).trans ?_
  show nextM (kernelRun0_A.sl.v2030 c arg3 harg3 arg4 harg4 arg6 harg6 arg7 harg7 arg8 harg8 arg11 arg14 arg15 x1 x2 x4 x5 x6) (kernelRun0_A.sl.v2048 c arg6 harg6 arg7 harg7 arg8 harg8 arg15 x4 x5 x6) (kernelRun0_A.sl.v2054 c arg3 harg3 arg4 harg4 arg6 harg6 arg7 harg7 arg8 harg8 arg14 x1 x2 x4 x5 x6) (kernelRun0_A.sl.v2064 c arg3 harg3 arg4 harg4 arg6 harg6 arg7 harg7 arg8 harg8 arg14 x1 x2 x4 x5 x6) (kernelRun0_A.sl.v2074 c arg3 harg3 arg4 harg4 arg6 harg6 arg7 harg7 arg8 harg8 arg14 x1 x2 x4 x5 x6) (kernelRun0_A.sl.v2084 c arg3 harg3 arg4 harg4 arg6 harg6 arg7 harg7 arg8 harg8 arg14 x1 x2 x4 x5 x6) = _
  rw [st_4, dec_4, upd0_4, upd1_4, upd2_4, upd3_4]
  simp only [rd256_eq _ _ _ (4 : Fin 8) 256 rfl, rd512_eq _ _ _ (4 : Fin 8) 256 rfl, rd128_eq _ _ _ (4 : Fin 8) 256 rfl, rdW_eq, rdB_eq]
  rfl

theorem st_6 : kernelRun0_A.sl.v2280 c arg3 harg3 arg4 harg4 arg6 harg6 arg7 harg7 arg8 harg8 arg11 arg14 arg15 x1 x2 x4 x5 x6 = stU x1 x2 x4 x5 x6 (k0_pay2 (F := Ideal)) 6 := by
  unfold kernelRun0_A.sl.v2280 kernelRun0_A.sl.HS0_25
  refine (readCov_stack _ _ _ _ _ _).trans ?_
  show nextM (kernelRun0_A.sl.v2155 c arg3 harg3 arg4 harg4 arg6 harg6 arg7 harg7 arg8 harg8 arg11 arg14 arg15 x1 x2 x4 x5 x6) (kernelRun0_A.sl.v2173 c arg6 harg6 arg7 harg7 arg8 harg8 arg15 x4 x5 x6) (kernelRun0_A.sl.v2179 c arg3 harg3 arg4 harg4 arg6 harg6 arg7 harg7 arg8 harg8 arg14 x1 x2 x4 x5 x6) (kernelRun0_A.sl.v2189 c arg3 harg3 arg4 harg4 arg6 harg6 arg7 harg7 arg8 harg8 arg14 x1 x2 x4 x5 x6) (kernelRun0_A.sl.v2199 c arg3 harg3 arg4 harg4 arg6 harg6 arg7 harg7 arg8 harg8 arg14 x1 x2 x4 x5 x6) (kernelRun0_A.sl.v2209 c arg3 harg3 arg4 harg4 arg6 harg6 arg7 harg7 arg8 harg8 arg14 x1 x2 x4 x5 x6) = _
  rw [st_5, dec_5, upd0_5, upd1_5, upd2_5, upd3_5]
  simp only [rd256_eq _ _ _ (5 : Fin 8) 320 rfl, rd512_eq _ _ _ (5 : Fin 8) 320 rfl, rd128_eq _ _ _ (5 : Fin 8) 320 rfl, rdW_eq, rdB_eq]
  rfl

theorem st_7 : kernelRun0_A.sl.v2405 c arg3 harg3 arg4 harg4 arg6 harg6 arg7 harg7 arg8 harg8 arg11 arg14 arg15 x1 x2 x4 x5 x6 = stU x1 x2 x4 x5 x6 (k0_pay2 (F := Ideal)) 7 := by
  unfold kernelRun0_A.sl.v2405 kernelRun0_A.sl.HS0_29
  refine (readCov_stack _ _ _ _ _ _).trans ?_
  show nextM (kernelRun0_A.sl.v2280 c arg3 harg3 arg4 harg4 arg6 harg6 arg7 harg7 arg8 harg8 arg11 arg14 arg15 x1 x2 x4 x5 x6) (kernelRun0_A.sl.v2298 c arg6 harg6 arg7 harg7 arg8 harg8 arg15 x4 x5 x6) (kernelRun0_A.sl.v2304 c arg3 harg3 arg4 harg4 arg6 harg6 arg7 harg7 arg8 harg8 arg14 x1 x2 x4 x5 x6) (kernelRun0_A.sl.v2314 c arg3 harg3 arg4 harg4 arg6 harg6 arg7 harg7 arg8 harg8 arg14 x1 x2 x4 x5 x6) (kernelRun0_A.sl.v2324 c arg3 harg3 arg4 harg4 arg6 harg6 arg7 harg7 arg8 harg8 arg14 x1 x2 x4 x5 x6) (kernelRun0_A.sl.v2334 c arg3 harg3 arg4 harg4 arg6 harg6 arg7 harg7 arg8 harg8 arg14 x1 x2 x4 x5 x6) = _
  rw [st_6, dec_6, upd0_6, upd1_6, upd2_6, upd3_6]
  simp only [rd256_eq _ _ _ (6 : Fin 8) 384 rfl, rd512_eq _ _ _ (6 : Fin 8) 384 rfl, rd128_eq _ _ _ (6 : Fin 8) 384 rfl, rdW_eq, rdB_eq]
  rfl

variable (i : grid0.Coords) (arg10 : Memref sig .tc .vmem S1x512x512 .bf16) (harg10 : arg10.IsWhole) (harg12 : arg12.IsWhole) (harg13 : arg13.IsWhole) (harg14 : arg14.IsWhole) (harg15 : arg15.IsWhole) (hc0 : cond0_0 i)

/-- The state the point leaves. -/
theorem state : sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = stU x1 x2 x4 x5 x6 (k0_pay2 (F := Ideal)) 8 := by
  unfold sout0_A_0
  rw [View.read_writes_junk_eq_canon]
  unfold kernelRun0_A
  refine (canon_stack _ _ _ _ _).trans ?_
  show nextM (kernelRun0_A.sl.v2405 c arg3 harg3 arg4 harg4 arg6 harg6 arg7 harg7 arg8 harg8 arg11 arg14 arg15 x1 x2 x4 x5 x6) (kernelRun0_A.sl.v2423 c arg6 harg6 arg7 harg7 arg8 harg8 arg15 x4 x5 x6) (kernelRun0_A.sl.v2429 c arg3 harg3 arg4 harg4 arg6 harg6 arg7 harg7 arg8 harg8 arg14 x1 x2 x4 x5 x6) (kernelRun0_A.sl.v2439 c arg3 harg3 arg4 harg4 arg6 harg6 arg7 harg7 arg8 harg8 arg14 x1 x2 x4 x5 x6) (kernelRun0_A.sl.v2449 c arg3 harg3 arg4 harg4 arg6 harg6 arg7 harg7 arg8 harg8 arg14 x1 x2 x4 x5 x6) (kernelRun0_A.sl.v2459 c arg3 harg3 arg4 harg4 arg6 harg6 arg7 harg7 arg8 harg8 arg14 x1 x2 x4 x5 x6) = _
  rw [st_7, dec_7, upd0_7, upd1_7, upd2_7, upd3_7]
  simp only [rd256_eq _ _ _ (7 : Fin 8) 448 rfl, rd512_eq _ _ _ (7 : Fin 8) 448 rfl, rd128_eq _ _ _ (7 : Fin 8) 448 rfl, rdW_eq, rdB_eq]
  rfl

/-- The rows the point writes. -/
theorem rows : out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 = rows8 (outU x0 x1 x2 x3 x4 x5 x6 x7 (k0_pay2 (F := Ideal))) := by
  unfold out0_A_8
  rw [View.read_writes_junk_eq_canon]
  unfold kernelRun0_A
  refine (canon_rows8 _ _ _ _ _ _ _ _).trans ?_
  refine congrArg rows8 (funext fun u => ?_)
  fin_cases u
  · show outM (kernelRun0_A.sl.v1530 c arg11) (kernelRun0_A.sl.v1545 c arg2 harg2 arg6 harg6 arg7 harg7 arg8 harg8 arg12 x0 x4 x5 x6) (kernelRun0_A.sl.v1590 c arg2 harg2 arg3 harg3 arg4 harg4 arg6 harg6 arg7 harg7 arg8 harg8 arg13 x0 x1 x2 x4 x5 x6) (rdG arg9 harg9 x7) (rd512 arg5 harg5 x3 ![0, 0, 0] inb_S1x512x512_S1x64x512_0_0_0) = _
    rw [st_0, qd_0, intra_0]
    simp only [rd256_eq _ _ _ (0 : Fin 8) 0 rfl, rd512_eq _ _ _ (0 : Fin 8) 0 rfl, rd128_eq _ _ _ (0 : Fin 8) 0 rfl, rdW_eq, rdB_eq, rdG_eq]
    rfl
  · show outM (kernelRun0_A.sl.v1655 c arg3 harg3 arg4 harg4 arg6 harg6 arg7 harg7 arg8 harg8 arg11 arg14 arg15 x1 x2 x4 x5 x6) (kernelRun0_A.sl.v1670 c arg2 harg2 arg6 harg6 arg7 harg7 arg8 harg8 arg12 x0 x4 x5 x6) (kernelRun0_A.sl.v1715 c arg2 harg2 arg3 harg3 arg4 harg4 arg6 harg6 arg7 harg7 arg8 harg8 arg13 x0 x1 x2 x4 x5 x6) (rdG arg9 harg9 x7) (rd512 arg5 harg5 x3 ![0, 64, 0] inb_S1x512x512_S1x64x512_0_64_0) = _
    rw [st_1, qd_1, intra_1]
    simp only [rd256_eq _ _ _ (1 : Fin 8) 64 rfl, rd512_eq _ _ _ (1 : Fin 8) 64 rfl, rd128_eq _ _ _ (1 : Fin 8) 64 rfl, rdW_eq, rdB_eq, rdG_eq]
    rfl
  · show outM (kernelRun0_A.sl.v1780 c arg3 harg3 arg4 harg4 arg6 harg6 arg7 harg7 arg8 harg8 arg11 arg14 arg15 x1 x2 x4 x5 x6) (kernelRun0_A.sl.v1795 c arg2 harg2 arg6 harg6 arg7 harg7 arg8 harg8 arg12 x0 x4 x5 x6) (kernelRun0_A.sl.v1840 c arg2 harg2 arg3 harg3 arg4 harg4 arg6 harg6 arg7 harg7 arg8 harg8 arg13 x0 x1 x2 x4 x5 x6) (rdG arg9 harg9 x7) (rd512 arg5 harg5 x3 ![0, 128, 0] inb_S1x512x512_S1x64x512_0_128_0) = _
    rw [st_2, qd_2, intra_2]
    simp only [rd256_eq _ _ _ (2 : Fin 8) 128 rfl, rd512_eq _ _ _ (2 : Fin 8) 128 rfl, rd128_eq _ _ _ (2 : Fin 8) 128 rfl, rdW_eq, rdB_eq, rdG_eq]
    rfl
  · show outM (kernelRun0_A.sl.v1905 c arg3 harg3 arg4 harg4 arg6 harg6 arg7 harg7 arg8 harg8 arg11 arg14 arg15 x1 x2 x4 x5 x6) (kernelRun0_A.sl.v1920 c arg2 harg2 arg6 harg6 arg7 harg7 arg8 harg8 arg12 x0 x4 x5 x6) (kernelRun0_A.sl.v1965 c arg2 harg2 arg3 harg3 arg4 harg4 arg6 harg6 arg7 harg7 arg8 harg8 arg13 x0 x1 x2 x4 x5 x6) (rdG arg9 harg9 x7) (rd512 arg5 harg5 x3 ![0, 192, 0] inb_S1x512x512_S1x64x512_0_192_0) = _
    rw [st_3, qd_3, intra_3]
    simp only [rd256_eq _ _ _ (3 : Fin 8) 192 rfl, rd512_eq _ _ _ (3 : Fin 8) 192 rfl, rd128_eq _ _ _ (3 : Fin 8) 192 rfl, rdW_eq, rdB_eq, rdG_eq]
    rfl
  · show outM (kernelRun0_A.sl.v2030 c arg3 harg3 arg4 harg4 arg6 harg6 arg7 harg7 arg8 harg8 arg11 arg14 arg15 x1 x2 x4 x5 x6) (kernelRun0_A.sl.v2045 c arg2 harg2 arg6 harg6 arg7 harg7 arg8 harg8 arg12 x0 x4 x5 x6) (kernelRun0_A.sl.v2090 c arg2 harg2 arg3 harg3 arg4 harg4 arg6 harg6 arg7 harg7 arg8 harg8 arg13 x0 x1 x2 x4 x5 x6) (rdG arg9 harg9 x7) (rd512 arg5 harg5 x3 ![0, 256, 0] inb_S1x512x512_S1x64x512_0_256_0) = _
    rw [st_4, qd_4, intra_4]
    simp only [rd256_eq _ _ _ (4 : Fin 8) 256 rfl, rd512_eq _ _ _ (4 : Fin 8) 256 rfl, rd128_eq _ _ _ (4 : Fin 8) 256 rfl, rdW_eq, rdB_eq, rdG_eq]
    rfl
  · show outM (kernelRun0_A.sl.v2155 c arg3 harg3 arg4 harg4 arg6 harg6 arg7 harg7 arg8 harg8 arg11 arg14 arg15 x1 x2 x4 x5 x6) (kernelRun0_A.sl.v2170 c arg2 harg2 arg6 harg6 arg7 harg7 arg8 harg8 arg12 x0 x4 x5 x6) (kernelRun0_A.sl.v2215 c arg2 harg2 arg3 harg3 arg4 harg4 arg6 harg6 arg7 harg7 arg8 harg8 arg13 x0 x1 x2 x4 x5 x6) (rdG arg9 harg9 x7) (rd512 arg5 harg5 x3 ![0, 320, 0] inb_S1x512x512_S1x64x512_0_320_0) = _
    rw [st_5, qd_5, intra_5]
    simp only [rd256_eq _ _ _ (5 : Fin 8) 320 rfl, rd512_eq _ _ _ (5 : Fin 8) 320 rfl, rd128_eq _ _ _ (5 : Fin 8) 320 rfl, rdW_eq, rdB_eq, rdG_eq]
    rfl
  · show outM (kernelRun0_A.sl.v2280 c arg3 harg3 arg4 harg4 arg6 harg6 arg7 harg7 arg8 harg8 arg11 arg14 arg15 x1 x2 x4 x5 x6) (kernelRun0_A.sl.v2295 c arg2 harg2 arg6 harg6 arg7 harg7 arg8 harg8 arg12 x0 x4 x5 x6) (kernelRun0_A.sl.v2340 c arg2 harg2 arg3 harg3 arg4 harg4 arg6 harg6 arg7 harg7 arg8 harg8 arg13 x0 x1 x2 x4 x5 x6) (rdG arg9 harg9 x7) (rd512 arg5 harg5 x3 ![0, 384, 0] inb_S1x512x512_S1x64x512_0_384_0) = _
    rw [st_6, qd_6, intra_6]
    simp only [rd256_eq _ _ _ (6 : Fin 8) 384 rfl, rd512_eq _ _ _ (6 : Fin 8) 384 rfl, rd128_eq _ _ _ (6 : Fin 8) 384 rfl, rdW_eq, rdB_eq, rdG_eq]
    rfl
  · show outM (kernelRun0_A.sl.v2405 c arg3 harg3 arg4 harg4 arg6 harg6 arg7 harg7 arg8 harg8 arg11 arg14 arg15 x1 x2 x4 x5 x6) (kernelRun0_A.sl.v2420 c arg2 harg2 arg6 harg6 arg7 harg7 arg8 harg8 arg12 x0 x4 x5 x6) (kernelRun0_A.sl.v2465 c arg2 harg2 arg3 harg3 arg4 harg4 arg6 harg6 arg7 harg7 arg8 harg8 arg13 x0 x1 x2 x4 x5 x6) (rdG arg9 harg9 x7) (rd512 arg5 harg5 x3 ![0, 448, 0] inb_S1x512x512_S1x64x512_0_448_0) = _
    rw [st_7, qd_7, intra_7]
    simp only [rd256_eq _ _ _ (7 : Fin 8) 448 rfl, rd512_eq _ _ _ (7 : Fin 8) 448 rfl, rd128_eq _ _ _ (7 : Fin 8) 448 rfl, rdW_eq, rdB_eq, rdG_eq]
    rfl

end Cert.GlaIdeal.ChainA

end
-- ==== Proof.GlaLoadsB.lean ====
module

public import proofs.«01_k».proof.Proof.GlaModel

@[expose] public section

set_option maxRecDepth 16384

noncomputable section

/-! What one grid point loads back from its chunk scratches, chunk by chunk. -/

namespace Cert.GlaIdeal.LoadsB

open Idealize.ShloMosaic Idealize.ShloMosaic.TcCoe Idealize.SL.Sem
open Cert.GlaIdeal Cert.GlaIdeal.Gen Cert.GlaIdeal.Model

variable (c : Dev nD) (arg2 : Memref sig .tc .vmem S1x512x256 .bf16) (harg2 : arg2.IsWhole) (arg3 : Memref sig .tc .vmem S1x512x256 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x512x128 .bf16) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg11 : Memref sig .tc .vmem S512x128 .f32) (harg11 : arg11.IsWhole)
  (arg12 : Memref sig .tc .vmem S8x64x256 .bf16) (arg13 : Memref sig .tc .vmem S8x64x512 .f32) (arg14 : Memref sig .tc .vmem S8x512x128 .f32) (arg15 : Memref sig .tc .vmem S8x8x256 .f32)
  (x0 x1 : Vec Ideal S1x512x256 .bf16) (x2 x3 : Vec Ideal S1x512x512 .bf16) (x4 : Vec Ideal S1x512x128 .bf16) (x5 : Vec Ideal S128x256 .bf16) (x6 : Vec Ideal S1x256 .f32) (x7 : Vec Ideal S1x512 .f32) (xs0 : Vec Ideal S512x128 .f32)

theorem qd_0 : kernelRun0_B.sl.v1545 c arg2 harg2 arg6 harg6 arg7 harg7 arg8 harg8 arg12 x0 x4 x5 x6 = qdM (rd256 arg2 harg2 x0 ![0, 0, 0] inb_S1x512x256_S1x64x256_0_0_0) (rd128 arg6 harg6 x4 ![0, 0, 0] inb_S1x512x128_S1x64x128_0_0_0) (rdW arg7 harg7 x5) (rdB arg8 harg8 x6) := by
  unfold kernelRun0_B.sl.v1545 kernelRun0_B.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_0 : kernelRun0_B.sl.v1548 c arg6 harg6 arg7 harg7 arg8 harg8 arg15 x4 x5 x6 = decM (rd128 arg6 harg6 x4 ![0, 0, 0] inb_S1x512x128_S1x64x128_0_0_0) (rdW arg7 harg7 x5) (rdB arg8 harg8 x6) := by
  unfold kernelRun0_B.sl.v1548 kernelRun0_B.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_0 : kernelRun0_B.sl.v1554 c arg3 harg3 arg4 harg4 arg6 harg6 arg7 harg7 arg8 harg8 arg14 x1 x2 x4 x5 x6 = upd0M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_B.sl.v1554 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_0 : kernelRun0_B.sl.v1564 c arg3 harg3 arg4 harg4 arg6 harg6 arg7 harg7 arg8 harg8 arg14 x1 x2 x4 x5 x6 = upd1M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_B.sl.v1564 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_0 : kernelRun0_B.sl.v1574 c arg3 harg3 arg4 harg4 arg6 harg6 arg7 harg7 arg8 harg8 arg14 x1 x2 x4 x5 x6 = upd2M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_B.sl.v1574 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_0 : kernelRun0_B.sl.v1584 c arg3 harg3 arg4 harg4 arg6 harg6 arg7 harg7 arg8 harg8 arg14 x1 x2 x4 x5 x6 = upd3M (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_B.sl.v1584 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_0 : kernelRun0_B.sl.v1590 c arg2 harg2 arg3 harg3 arg4 harg4 arg6 harg6 arg7 harg7 arg8 harg8 arg13 x0 x1 x2 x4 x5 x6 = intraM (rd256 arg2 harg2 x0 ![0, 0, 0] inb_S1x512x256_S1x64x256_0_0_0) (rd256 arg3 harg3 x1 ![0, 0, 0] inb_S1x512x256_S1x64x256_0_0_0) (rd512 arg4 harg4 x2 ![0, 0, 0] inb_S1x512x512_S1x64x512_0_0_0) (rd128 arg6 harg6 x4 ![0, 0, 0] inb_S1x512x128_S1x64x128_0_0_0) (rdW arg7 harg7 x5) (rdB arg8 harg8 x6) := by
  unfold kernelRun0_B.sl.v1590 kernelRun0_B.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_1 : kernelRun0_B.sl.v1670 c arg2 harg2 arg6 harg6 arg7 harg7 arg8 harg8 arg12 x0 x4 x5 x6 = qdM (rd256 arg2 harg2 x0 ![0, 64, 0] inb_S1x512x256_S1x64x256_0_64_0) (rd128 arg6 harg6 x4 ![0, 64, 0] inb_S1x512x128_S1x64x128_0_64_0) (rdW arg7 harg7 x5) (rdB arg8 harg8 x6) := by
  unfold kernelRun0_B.sl.v1670 kernelRun0_B.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_1 : kernelRun0_B.sl.v1673 c arg6 harg6 arg7 harg7 arg8 harg8 arg15 x4 x5 x6 = decM (rd128 arg6 harg6 x4 ![0, 64, 0] inb_S1x512x128_S1x64x128_0_64_0) (rdW arg7 harg7 x5) (rdB arg8 harg8 x6) := by
  unfold kernelRun0_B.sl.v1673 kernelRun0_B.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_1 : kernelRun0_B.sl.v1679 c arg3 harg3 arg4 harg4 arg6 harg6 arg7 harg7 arg8 harg8 arg14 x1 x2 x4 x5 x6 = upd0M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_B.sl.v1679 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_1 : kernelRun0_B.sl.v1689 c arg3 harg3 arg4 harg4 arg6 harg6 arg7 harg7 arg8 harg8 arg14 x1 x2 x4 x5 x6 = upd1M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_B.sl.v1689 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_1 : kernelRun0_B.sl.v1699 c arg3 harg3 arg4 harg4 arg6 harg6 arg7 harg7 arg8 harg8 arg14 x1 x2 x4 x5 x6 = upd2M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_B.sl.v1699 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_1 : kernelRun0_B.sl.v1709 c arg3 harg3 arg4 harg4 arg6 harg6 arg7 harg7 arg8 harg8 arg14 x1 x2 x4 x5 x6 = upd3M (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_B.sl.v1709 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_1 : kernelRun0_B.sl.v1715 c arg2 harg2 arg3 harg3 arg4 harg4 arg6 harg6 arg7 harg7 arg8 harg8 arg13 x0 x1 x2 x4 x5 x6 = intraM (rd256 arg2 harg2 x0 ![0, 64, 0] inb_S1x512x256_S1x64x256_0_64_0) (rd256 arg3 harg3 x1 ![0, 64, 0] inb_S1x512x256_S1x64x256_0_64_0) (rd512 arg4 harg4 x2 ![0, 64, 0] inb_S1x512x512_S1x64x512_0_64_0) (rd128 arg6 harg6 x4 ![0, 64, 0] inb_S1x512x128_S1x64x128_0_64_0) (rdW arg7 harg7 x5) (rdB arg8 harg8 x6) := by
  unfold kernelRun0_B.sl.v1715 kernelRun0_B.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_2 : kernelRun0_B.sl.v1795 c arg2 harg2 arg6 harg6 arg7 harg7 arg8 harg8 arg12 x0 x4 x5 x6 = qdM (rd256 arg2 harg2 x0 ![0, 128, 0] inb_S1x512x256_S1x64x256_0_128_0) (rd128 arg6 harg6 x4 ![0, 128, 0] inb_S1x512x128_S1x64x128_0_128_0) (rdW arg7 harg7 x5) (rdB arg8 harg8 x6) := by
  unfold kernelRun0_B.sl.v1795 kernelRun0_B.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_2 : kernelRun0_B.sl.v1798 c arg6 harg6 arg7 harg7 arg8 harg8 arg15 x4 x5 x6 = decM (rd128 arg6 harg6 x4 ![0, 128, 0] inb_S1x512x128_S1x64x128_0_128_0) (rdW arg7 harg7 x5) (rdB arg8 harg8 x6) := by
  unfold kernelRun0_B.sl.v1798 kernelRun0_B.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_2 : kernelRun0_B.sl.v1804 c arg3 harg3 arg4 harg4 arg6 harg6 arg7 harg7 arg8 harg8 arg14 x1 x2 x4 x5 x6 = upd0M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_B.sl.v1804 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_2 : kernelRun0_B.sl.v1814 c arg3 harg3 arg4 harg4 arg6 harg6 arg7 harg7 arg8 harg8 arg14 x1 x2 x4 x5 x6 = upd1M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_B.sl.v1814 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_2 : kernelRun0_B.sl.v1824 c arg3 harg3 arg4 harg4 arg6 harg6 arg7 harg7 arg8 harg8 arg14 x1 x2 x4 x5 x6 = upd2M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_B.sl.v1824 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_2 : kernelRun0_B.sl.v1834 c arg3 harg3 arg4 harg4 arg6 harg6 arg7 harg7 arg8 harg8 arg14 x1 x2 x4 x5 x6 = upd3M (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_B.sl.v1834 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_2 : kernelRun0_B.sl.v1840 c arg2 harg2 arg3 harg3 arg4 harg4 arg6 harg6 arg7 harg7 arg8 harg8 arg13 x0 x1 x2 x4 x5 x6 = intraM (rd256 arg2 harg2 x0 ![0, 128, 0] inb_S1x512x256_S1x64x256_0_128_0) (rd256 arg3 harg3 x1 ![0, 128, 0] inb_S1x512x256_S1x64x256_0_128_0) (rd512 arg4 harg4 x2 ![0, 128, 0] inb_S1x512x512_S1x64x512_0_128_0) (rd128 arg6 harg6 x4 ![0, 128, 0] inb_S1x512x128_S1x64x128_0_128_0) (rdW arg7 harg7 x5) (rdB arg8 harg8 x6) := by
  unfold kernelRun0_B.sl.v1840 kernelRun0_B.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_3 : kernelRun0_B.sl.v1920 c arg2 harg2 arg6 harg6 arg7 harg7 arg8 harg8 arg12 x0 x4 x5 x6 = qdM (rd256 arg2 harg2 x0 ![0, 192, 0] inb_S1x512x256_S1x64x256_0_192_0) (rd128 arg6 harg6 x4 ![0, 192, 0] inb_S1x512x128_S1x64x128_0_192_0) (rdW arg7 harg7 x5) (rdB arg8 harg8 x6) := by
  unfold kernelRun0_B.sl.v1920 kernelRun0_B.sl.HS1_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_3 : kernelRun0_B.sl.v1923 c arg6 harg6 arg7 harg7 arg8 harg8 arg15 x4 x5 x6 = decM (rd128 arg6 harg6 x4 ![0, 192, 0] inb_S1x512x128_S1x64x128_0_192_0) (rdW arg7 harg7 x5) (rdB arg8 harg8 x6) := by
  unfold kernelRun0_B.sl.v1923 kernelRun0_B.sl.HS4_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_3 : kernelRun0_B.sl.v1929 c arg3 harg3 arg4 harg4 arg6 harg6 arg7 harg7 arg8 harg8 arg14 x1 x2 x4 x5 x6 = upd0M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_B.sl.v1929 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_3 : kernelRun0_B.sl.v1939 c arg3 harg3 arg4 harg4 arg6 harg6 arg7 harg7 arg8 harg8 arg14 x1 x2 x4 x5 x6 = upd1M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_B.sl.v1939 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_3 : kernelRun0_B.sl.v1949 c arg3 harg3 arg4 harg4 arg6 harg6 arg7 harg7 arg8 harg8 arg14 x1 x2 x4 x5 x6 = upd2M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_B.sl.v1949 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_3 : kernelRun0_B.sl.v1959 c arg3 harg3 arg4 harg4 arg6 harg6 arg7 harg7 arg8 harg8 arg14 x1 x2 x4 x5 x6 = upd3M (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_B.sl.v1959 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_3 : kernelRun0_B.sl.v1965 c arg2 harg2 arg3 harg3 arg4 harg4 arg6 harg6 arg7 harg7 arg8 harg8 arg13 x0 x1 x2 x4 x5 x6 = intraM (rd256 arg2 harg2 x0 ![0, 192, 0] inb_S1x512x256_S1x64x256_0_192_0) (rd256 arg3 harg3 x1 ![0, 192, 0] inb_S1x512x256_S1x64x256_0_192_0) (rd512 arg4 harg4 x2 ![0, 192, 0] inb_S1x512x512_S1x64x512_0_192_0) (rd128 arg6 harg6 x4 ![0, 192, 0] inb_S1x512x128_S1x64x128_0_192_0) (rdW arg7 harg7 x5) (rdB arg8 harg8 x6) := by
  unfold kernelRun0_B.sl.v1965 kernelRun0_B.sl.HS2_8
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_4 : kernelRun0_B.sl.v2045 c arg2 harg2 arg6 harg6 arg7 harg7 arg8 harg8 arg12 x0 x4 x5 x6 = qdM (rd256 arg2 harg2 x0 ![0, 256, 0] inb_S1x512x256_S1x64x256_0_256_0) (rd128 arg6 harg6 x4 ![0, 256, 0] inb_S1x512x128_S1x64x128_0_256_0) (rdW arg7 harg7 x5) (rdB arg8 harg8 x6) := by
  unfold kernelRun0_B.sl.v2045 kernelRun0_B.sl.HS1_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem dec_4 : kernelRun0_B.sl.v2048 c arg6 harg6 arg7 harg7 arg8 harg8 arg15 x4 x5 x6 = decM (rd128 arg6 harg6 x4 ![0, 256, 0] inb_S1x512x128_S1x64x128_0_256_0) (rdW arg7 harg7 x5) (rdB arg8 harg8 x6) := by
  unfold kernelRun0_B.sl.v2048 kernelRun0_B.sl.HS4_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd0_4 : kernelRun0_B.sl.v2054 c arg3 harg3 arg4 harg4 arg6 harg6 arg7 harg7 arg8 harg8 arg14 x1 x2 x4 x5 x6 = upd0M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_B.sl.v2054 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_4 : kernelRun0_B.sl.v2064 c arg3 harg3 arg4 harg4 arg6 harg6 arg7 harg7 arg8 harg8 arg14 x1 x2 x4 x5 x6 = upd1M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_B.sl.v2064 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_4 : kernelRun0_B.sl.v2074 c arg3 harg3 arg4 harg4 arg6 harg6 arg7 harg7 arg8 harg8 arg14 x1 x2 x4 x5 x6 = upd2M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_B.sl.v2074 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_4 : kernelRun0_B.sl.v2084 c arg3 harg3 arg4 harg4 arg6 harg6 arg7 harg7 arg8 harg8 arg14 x1 x2 x4 x5 x6 = upd3M (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_B.sl.v2084 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_4 : kernelRun0_B.sl.v2090 c arg2 harg2 arg3 harg3 arg4 harg4 arg6 harg6 arg7 harg7 arg8 harg8 arg13 x0 x1 x2 x4 x5 x6 = intraM (rd256 arg2 harg2 x0 ![0, 256, 0] inb_S1x512x256_S1x64x256_0_256_0) (rd256 arg3 harg3 x1 ![0, 256, 0] inb_S1x512x256_S1x64x256_0_256_0) (rd512 arg4 harg4 x2 ![0, 256, 0] inb_S1x512x512_S1x64x512_0_256_0) (rd128 arg6 harg6 x4 ![0, 256, 0] inb_S1x512x128_S1x64x128_0_256_0) (rdW arg7 harg7 x5) (rdB arg8 harg8 x6) := by
  unfold kernelRun0_B.sl.v2090 kernelRun0_B.sl.HS2_8
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem qd_5 : kernelRun0_B.sl.v2170 c arg2 harg2 arg6 harg6 arg7 harg7 arg8 harg8 arg12 x0 x4 x5 x6 = qdM (rd256 arg2 harg2 x0 ![0, 320, 0] inb_S1x512x256_S1x64x256_0_320_0) (rd128 arg6 harg6 x4 ![0, 320, 0] inb_S1x512x128_S1x64x128_0_320_0) (rdW arg7 harg7 x5) (rdB arg8 harg8 x6) := by
  unfold kernelRun0_B.sl.v2170 kernelRun0_B.sl.HS1_8
  refine (View.readCov_skip _ _ _ _ _ (by decide)).trans ?_
  refine (View.readCov_skip _ _ _ _ _ (by decide)).trans ?_
  refine (View.readCov_cons_toLoadRect _ _ _ _).trans ?_
  rfl

theorem dec_5 : kernelRun0_B.sl.v2173 c arg6 harg6 arg7 harg7 arg8 harg8 arg15 x4 x5 x6 = decM (rd128 arg6 harg6 x4 ![0, 320, 0] inb_S1x512x128_S1x64x128_0_320_0) (rdW arg7 harg7 x5) (rdB arg8 harg8 x6) := by
  unfold kernelRun0_B.sl.v2173 kernelRun0_B.sl.HS4_8
  refine (View.readCov_skip _ _ _ _ _ (by decide)).trans ?_
  refine (View.readCov_skip _ _ _ _ _ (by decide)).trans ?_
  refine (View.readCov_cons_toLoadRect _ _ _ _).trans ?_
  rfl

theorem upd0_5 : kernelRun0_B.sl.v2179 c arg3 harg3 arg4 harg4 arg6 harg6 arg7 harg7 arg8 harg8 arg14 x1 x2 x4 x5 x6 = upd0M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_B.sl.v2179 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_5 : kernelRun0_B.sl.v2189 c arg3 harg3 arg4 harg4 arg6 harg6 arg7 harg7 arg8 harg8 arg14 x1 x2 x4 x5 x6 = upd1M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_B.sl.v2189 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_5 : kernelRun0_B.sl.v2199 c arg3 harg3 arg4 harg4 arg6 harg6 arg7 harg7 arg8 harg8 arg14 x1 x2 x4 x5 x6 = upd2M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_B.sl.v2199 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_5 : kernelRun0_B.sl.v2209 c arg3 harg3 arg4 harg4 arg6 harg6 arg7 harg7 arg8 harg8 arg14 x1 x2 x4 x5 x6 = upd3M (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_B.sl.v2209 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_5 : kernelRun0_B.sl.v2215 c arg2 harg2 arg3 harg3 arg4 harg4 arg6 harg6 arg7 harg7 arg8 harg8 arg13 x0 x1 x2 x4 x5 x6 = intraM (rd256 arg2 harg2 x0 ![0, 320, 0] inb_S1x512x256_S1x64x256_0_320_0) (rd256 arg3 harg3 x1 ![0, 320, 0] inb_S1x512x256_S1x64x256_0_320_0) (rd512 arg4 harg4 x2 ![0, 320, 0] inb_S1x512x512_S1x64x512_0_320_0) (rd128 arg6 harg6 x4 ![0, 320, 0] inb_S1x512x128_S1x64x128_0_320_0) (rdW arg7 harg7 x5) (rdB arg8 harg8 x6) := by
  unfold kernelRun0_B.sl.v2215 kernelRun0_B.sl.HS2_8
  refine (View.readCov_skip _ _ _ _ _ (by decide)).trans ?_
  refine (View.readCov_skip _ _ _ _ _ (by decide)).trans ?_
  refine (View.readCov_cons_toLoadRect _ _ _ _).trans ?_
  rfl

theorem qd_6 : kernelRun0_B.sl.v2295 c arg2 harg2 arg6 harg6 arg7 harg7 arg8 harg8 arg12 x0 x4 x5 x6 = qdM (rd256 arg2 harg2 x0 ![0, 384, 0] inb_S1x512x256_S1x64x256_0_384_0) (rd128 arg6 harg6 x4 ![0, 384, 0] inb_S1x512x128_S1x64x128_0_384_0) (rdW arg7 harg7 x5) (rdB arg8 harg8 x6) := by
  unfold kernelRun0_B.sl.v2295 kernelRun0_B.sl.HS1_8
  refine (View.readCov_skip _ _ _ _ _ (by decide)).trans ?_
  refine (View.readCov_cons_toLoadRect _ _ _ _).trans ?_
  rfl

theorem dec_6 : kernelRun0_B.sl.v2298 c arg6 harg6 arg7 harg7 arg8 harg8 arg15 x4 x5 x6 = decM (rd128 arg6 harg6 x4 ![0, 384, 0] inb_S1x512x128_S1x64x128_0_384_0) (rdW arg7 harg7 x5) (rdB arg8 harg8 x6) := by
  unfold kernelRun0_B.sl.v2298 kernelRun0_B.sl.HS4_8
  refine (View.readCov_skip _ _ _ _ _ (by decide)).trans ?_
  refine (View.readCov_cons_toLoadRect _ _ _ _).trans ?_
  rfl

theorem upd0_6 : kernelRun0_B.sl.v2304 c arg3 harg3 arg4 harg4 arg6 harg6 arg7 harg7 arg8 harg8 arg14 x1 x2 x4 x5 x6 = upd0M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_B.sl.v2304 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_6 : kernelRun0_B.sl.v2314 c arg3 harg3 arg4 harg4 arg6 harg6 arg7 harg7 arg8 harg8 arg14 x1 x2 x4 x5 x6 = upd1M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_B.sl.v2314 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd2_6 : kernelRun0_B.sl.v2324 c arg3 harg3 arg4 harg4 arg6 harg6 arg7 harg7 arg8 harg8 arg14 x1 x2 x4 x5 x6 = upd2M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_B.sl.v2324 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd3_6 : kernelRun0_B.sl.v2334 c arg3 harg3 arg4 harg4 arg6 harg6 arg7 harg7 arg8 harg8 arg14 x1 x2 x4 x5 x6 = upd3M (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_B.sl.v2334 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem intra_6 : kernelRun0_B.sl.v2340 c arg2 harg2 arg3 harg3 arg4 harg4 arg6 harg6 arg7 harg7 arg8 harg8 arg13 x0 x1 x2 x4 x5 x6 = intraM (rd256 arg2 harg2 x0 ![0, 384, 0] inb_S1x512x256_S1x64x256_0_384_0) (rd256 arg3 harg3 x1 ![0, 384, 0] inb_S1x512x256_S1x64x256_0_384_0) (rd512 arg4 harg4 x2 ![0, 384, 0] inb_S1x512x512_S1x64x512_0_384_0) (rd128 arg6 harg6 x4 ![0, 384, 0] inb_S1x512x128_S1x64x128_0_384_0) (rdW arg7 harg7 x5) (rdB arg8 harg8 x6) := by
  unfold kernelRun0_B.sl.v2340 kernelRun0_B.sl.HS2_8
  refine (View.readCov_skip _ _ _ _ _ (by decide)).trans ?_
  refine (View.readCov_cons_toLoadRect _ _ _ _).trans ?_
  rfl

theorem qd_7 : kernelRun0_B.sl.v2420 c arg2 harg2 arg6 harg6 arg7 harg7 arg8 harg8 arg12 x0 x4 x5 x6 = qdM (rd256 arg2 harg2 x0 ![0, 448, 0] inb_S1x512x256_S1x64x256_0_448_0) (rd128 arg6 harg6 x4 ![0, 448, 0] inb_S1x512x128_S1x64x128_0_448_0) (rdW arg7 harg7 x5) (rdB arg8 harg8 x6) := by
  unfold kernelRun0_B.sl.v2420 kernelRun0_B.sl.HS1_8
  refine (View.readCov_cons_toLoadRect _ _ _ _).trans ?_
  rfl

theorem dec_7 : kernelRun0_B.sl.v2423 c arg6 harg6 arg7 harg7 arg8 harg8 arg15 x4 x5 x6 = decM (rd128 arg6 harg6 x4 ![0, 448, 0] inb_S1x512x128_S1x64x128_0_448_0) (rdW arg7 harg7 x5) (rdB arg8 harg8 x6) := by
  unfold kernelRun0_B.sl.v2423 kernelRun0_B.sl.HS4_8
  refine (View.readCov_cons_toLoadRect _ _ _ _).trans ?_
  rfl

theorem upd0_7 : kernelRun0_B.sl.v2429 c arg3 harg3 arg4 harg4 arg6 harg6 arg7 harg7 arg8 harg8 arg14 x1 x2 x4 x5 x6 = upd0M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_B.sl.v2429 kernelRun0_B.sl.HS3_32
  refine (View.readCov_skip _ _ _ _ _ (by decide)).trans ?_
  refine (View.readCov_skip _ _ _ _ _ (by decide)).trans ?_
  refine (View.readCov_skip _ _ _ _ _ (by decide)).trans ?_
  refine (View.readCov_cons_toLoadRect _ _ _ _).trans ?_
  rfl

theorem upd1_7 : kernelRun0_B.sl.v2439 c arg3 harg3 arg4 harg4 arg6 harg6 arg7 harg7 arg8 harg8 arg14 x1 x2 x4 x5 x6 = upd1M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_B.sl.v2439 kernelRun0_B.sl.HS3_32
  refine (View.readCov_skip _ _ _ _ _ (by decide)).trans ?_
  refine (View.readCov_skip _ _ _ _ _ (by decide)).trans ?_
  refine (View.readCov_cons_toLoadRect _ _ _ _).trans ?_
  rfl

theorem upd2_7 : kernelRun0_B.sl.v2449 c arg3 harg3 arg4 harg4 arg6 harg6 arg7 harg7 arg8 harg8 arg14 x1 x2 x4 x5 x6 = upd2M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_B.sl.v2449 kernelRun0_B.sl.HS3_32
  refine (View.readCov_skip _ _ _ _ _ (by decide)).trans ?_
  refine (View.readCov_cons_toLoadRect _ _ _ _).trans ?_
  rfl

theorem upd3_7 : kernelRun0_B.sl.v2459 c arg3 harg3 arg4 harg4 arg6 harg6 arg7 harg7 arg8 harg8 arg14 x1 x2 x4 x5 x6 = upd3M (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_B.sl.v2459 kernelRun0_B.sl.HS3_32
  refine (View.readCov_cons_toLoadRect _ _ _ _).trans ?_
  rfl

theorem intra_7 : kernelRun0_B.sl.v2465 c arg2 harg2 arg3 harg3 arg4 harg4 arg6 harg6 arg7 harg7 arg8 harg8 arg13 x0 x1 x2 x4 x5 x6 = intraM (rd256 arg2 harg2 x0 ![0, 448, 0] inb_S1x512x256_S1x64x256_0_448_0) (rd256 arg3 harg3 x1 ![0, 448, 0] inb_S1x512x256_S1x64x256_0_448_0) (rd512 arg4 harg4 x2 ![0, 448, 0] inb_S1x512x512_S1x64x512_0_448_0) (rd128 arg6 harg6 x4 ![0, 448, 0] inb_S1x512x128_S1x64x128_0_448_0) (rdW arg7 harg7 x5) (rdB arg8 harg8 x6) := by
  unfold kernelRun0_B.sl.v2465 kernelRun0_B.sl.HS2_8
  refine (View.readCov_cons_toLoadRect _ _ _ _).trans ?_
  rfl

end Cert.GlaIdeal.LoadsB

end
-- ==== Proof.GlaChainB.lean ====
module

public import proofs.«01_k».proof.Proof.GlaLoadsB
public import proofs.«01_k».proof.Proof.GlaPoint

@[expose] public section

set_option maxRecDepth 16384

noncomputable section

/-! The state a grid point carries through its eight chunks, and the rows it writes. -/

namespace Cert.GlaIdeal.ChainB

open Idealize.ShloMosaic Idealize.ShloMosaic.TcCoe Idealize.SL.Sem
open Cert.GlaIdeal Cert.GlaIdeal.Gen Cert.GlaIdeal.Model Cert.GlaIdeal.LoadsB

variable (c : Dev nD) (arg2 : Memref sig .tc .vmem S1x512x256 .bf16) (harg2 : arg2.IsWhole) (arg3 : Memref sig .tc .vmem S1x512x256 .bf16) (harg3 : arg3.IsWhole)
  (arg4 : Memref sig .tc .vmem S1x512x512 .bf16) (harg4 : arg4.IsWhole) (arg5 : Memref sig .tc .vmem S1x512x512 .bf16) (harg5 : arg5.IsWhole)
  (arg6 : Memref sig .tc .vmem S1x512x128 .bf16) (harg6 : arg6.IsWhole) (arg7 : Memref sig .tc .vmem S128x256 .bf16) (harg7 : arg7.IsWhole)
  (arg8 : Memref sig .tc .vmem S1x256 .f32) (harg8 : arg8.IsWhole) (arg9 : Memref sig .tc .vmem S1x512 .f32) (harg9 : arg9.IsWhole)
  (arg11 : Memref sig .tc .vmem S512x128 .f32) (harg11 : arg11.IsWhole)
  (arg12 : Memref sig .tc .vmem S8x64x256 .bf16) (arg13 : Memref sig .tc .vmem S8x64x512 .f32) (arg14 : Memref sig .tc .vmem S8x512x128 .f32) (arg15 : Memref sig .tc .vmem S8x8x256 .f32)
  (x0 x1 : Vec Ideal S1x512x256 .bf16) (x2 x3 : Vec Ideal S1x512x512 .bf16) (x4 : Vec Ideal S1x512x128 .bf16) (x5 : Vec Ideal S128x256 .bf16) (x6 : Vec Ideal S1x256 .f32) (x7 : Vec Ideal S1x512 .f32) (xs0 : Vec Ideal S512x128 .f32)

theorem st_0 : kernelRun0_B.sl.r_112 c arg11 harg11 xs0 = stU x1 x2 x4 x5 x6 xs0 0 := by
  unfold kernelRun0_B.sl.r_112
  exact rdS_eq arg11 harg11 xs0

theorem st_1 : kernelRun0_B.sl.v1655 c arg3 harg3 arg4 harg4 arg6 harg6 arg7 harg7 arg8 harg8 arg11 harg11 arg14 arg15 x1 x2 x4 x5 x6 xs0 = stU x1 x2 x4 x5 x6 xs0 1 := by
  unfold kernelRun0_B.sl.v1655 kernelRun0_B.sl.HS0_4
  refine (readCov_stack _ _ _ _ _ _).trans ?_
  show nextM (kernelRun0_B.sl.r_112 c arg11 harg11 xs0) (kernelRun0_B.sl.v1548 c arg6 harg6 arg7 harg7 arg8 harg8 arg15 x4 x5 x6) (kernelRun0_B.sl.v1554 c arg3 harg3 arg4 harg4 arg6 harg6 arg7 harg7 arg8 harg8 arg14 x1 x2 x4 x5 x6) (kernelRun0_B.sl.v1564 c arg3 harg3 arg4 harg4 arg6 harg6 arg7 harg7 arg8 harg8 arg14 x1 x2 x4 x5 x6) (kernelRun0_B.sl.v1574 c arg3 harg3 arg4 harg4 arg6 harg6 arg7 harg7 arg8 harg8 arg14 x1 x2 x4 x5 x6) (kernelRun0_B.sl.v1584 c arg3 harg3 arg4 harg4 arg6 harg6 arg7 harg7 arg8 harg8 arg14 x1 x2 x4 x5 x6) = _
  rw [st_0, dec_0, upd0_0, upd1_0, upd2_0, upd3_0]
  simp only [rd256_eq _ _ _ (0 : Fin 8) 0 rfl, rd512_eq _ _ _ (0 : Fin 8) 0 rfl, rd128_eq _ _ _ (0 : Fin 8) 0 rfl, rdW_eq, rdB_eq]
  rfl

theorem st_2 : kernelRun0_B.sl.v1780 c arg3 harg3 arg4 harg4 arg6 harg6 arg7 harg7 arg8 harg8 arg11 harg11 arg14 arg15 x1 x2 x4 x5 x6 xs0 = stU x1 x2 x4 x5 x6 xs0 2 := by
  unfold kernelRun0_B.sl.v1780 kernelRun0_B.sl.HS0_8
  refine (readCov_stack _ _ _ _ _ _).trans ?_
  show nextM (kernelRun0_B.sl.v1655 c arg3 harg3 arg4 harg4 arg6 harg6 arg7 harg7 arg8 harg8 arg11 harg11 arg14 arg15 x1 x2 x4 x5 x6 xs0) (kernelRun0_B.sl.v1673 c arg6 harg6 arg7 harg7 arg8 harg8 arg15 x4 x5 x6) (kernelRun0_B.sl.v1679 c arg3 harg3 arg4 harg4 arg6 harg6 arg7 harg7 arg8 harg8 arg14 x1 x2 x4 x5 x6) (kernelRun0_B.sl.v1689 c arg3 harg3 arg4 harg4 arg6 harg6 arg7 harg7 arg8 harg8 arg14 x1 x2 x4 x5 x6) (kernelRun0_B.sl.v1699 c arg3 harg3 arg4 harg4 arg6 harg6 arg7 harg7 arg8 harg8 arg14 x1 x2 x4 x5 x6) (kernelRun0_B.sl.v1709 c arg3 harg3 arg4 harg4 arg6 harg6 arg7 harg7 arg8 harg8 arg14 x1 x2 x4 x5 x6) = _
  rw [st_1, dec_1, upd0_1, upd1_1, upd2_1, upd3_1]
  simp only [rd256_eq _ _ _ (1 : Fin 8) 64 rfl, rd512_eq _ _ _ (1 : Fin 8) 64 rfl, rd128_eq _ _ _ (1 : Fin 8) 64 rfl, rdW_eq, rdB_eq]
  rfl

theorem st_3 : kernelRun0_B.sl.v1905 c arg3 harg3 arg4 harg4 arg6 harg6 arg7 harg7 arg8 harg8 arg11 harg11 arg14 arg15 x1 x2 x4 x5 x6 xs0 = stU x1 x2 x4 x5 x6 xs0 3 := by
  unfold kernelRun0_B.sl.v1905 kernelRun0_B.sl.HS0_12
  refine (readCov_stack _ _ _ _ _ _).trans ?_
  show nextM (kernelRun0_B.sl.v1780 c arg3 harg3 arg4 harg4 arg6 harg6 arg7 harg7 arg8 harg8 arg11 harg11 arg14 arg15 x1 x2 x4 x5 x6 xs0) (kernelRun0_B.sl.v1798 c arg6 harg6 arg7 harg7 arg8 harg8 arg15 x4 x5 x6) (kernelRun0_B.sl.v1804 c arg3 harg3 arg4 harg4 arg6 harg6 arg7 harg7 arg8 harg8 arg14 x1 x2 x4 x5 x6) (kernelRun0_B.sl.v1814 c arg3 harg3 arg4 harg4 arg6 harg6 arg7 harg7 arg8 harg8 arg14 x1 x2 x4 x5 x6) (kernelRun0_B.sl.v1824 c arg3 harg3 arg4 harg4 arg6 harg6 arg7 harg7 arg8 harg8 arg14 x1 x2 x4 x5 x6) (kernelRun0_B.sl.v1834 c arg3 harg3 arg4 harg4 arg6 harg6 arg7 harg7 arg8 harg8 arg14 x1 x2 x4 x5 x6) = _
  rw [st_2, dec_2, upd0_2, upd1_2, upd2_2, upd3_2]
  simp only [rd256_eq _ _ _ (2 : Fin 8) 128 rfl, rd512_eq _ _ _ (2 : Fin 8) 128 rfl, rd128_eq _ _ _ (2 : Fin 8) 128 rfl, rdW_eq, rdB_eq]
  rfl

theorem st_4 : kernelRun0_B.sl.v2030 c arg3 harg3 arg4 harg4 arg6 harg6 arg7 harg7 arg8 harg8 arg11 harg11 arg14 arg15 x1 x2 x4 x5 x6 xs0 = stU x1 x2 x4 x5 x6 xs0 4 := by
  unfold kernelRun0_B.sl.v2030 kernelRun0_B.sl.HS0_16
  refine (readCov_stack _ _ _ _ _ _).trans ?_
  show nextM (kernelRun0_B.sl.v1905 c arg3 harg3 arg4 harg4 arg6 harg6 arg7 harg7 arg8 harg8 arg11 harg11 arg14 arg15 x1 x2 x4 x5 x6 xs0) (kernelRun0_B.sl.v1923 c arg6 harg6 arg7 harg7 arg8 harg8 arg15 x4 x5 x6) (kernelRun0_B.sl.v1929 c arg3 harg3 arg4 harg4 arg6 harg6 arg7 harg7 arg8 harg8 arg14 x1 x2 x4 x5 x6) (kernelRun0_B.sl.v1939 c arg3 harg3 arg4 harg4 arg6 harg6 arg7 harg7 arg8 harg8 arg14 x1 x2 x4 x5 x6) (kernelRun0_B.sl.v1949 c arg3 harg3 arg4 harg4 arg6 harg6 arg7 harg7 arg8 harg8 arg14 x1 x2 x4 x5 x6) (kernelRun0_B.sl.v1959 c arg3 harg3 arg4 harg4 arg6 harg6 arg7 harg7 arg8 harg8 arg14 x1 x2 x4 x5 x6) = _
  rw [st_3, dec_3, upd0_3, upd1_3, upd2_3, upd3_3]
  simp only [rd256_eq _ _ _ (3 : Fin 8) 192 rfl, rd512_eq _ _ _ (3 : Fin 8) 192 rfl, rd128_eq _ _ _ (3 : Fin 8) 192 rfl, rdW_eq, rdB_eq]
  rfl

theorem st_5 : kernelRun0_B.sl.v2155 c arg3 harg3 arg4 harg4 arg6 harg6 arg7 harg7 arg8 harg8 arg11 harg11 arg14 arg15 x1 x2 x4 x5 x6 xs0 = stU x1 x2 x4 x5 x6 xs0 5 := by
  unfold kernelRun0_B.sl.v2155 kernelRun0_B.sl.HS0_20
  refine (readCov_stack _ _ _ _ _ _).trans ?_
  show nextM (kernelRun0_B.sl.v2030 c arg3 harg3 arg4 harg4 arg6 harg6 arg7 harg7 arg8 harg8 arg11 harg11 arg14 arg15 x1 x2 x4 x5 x6 xs0) (kernelRun0_B.sl.v2048 c arg6 harg6 arg7 harg7 arg8 harg8 arg15 x4 x5 x6) (kernelRun0_B.sl.v2054 c arg3 harg3 arg4 harg4 arg6 harg6 arg7 harg7 arg8 harg8 arg14 x1 x2 x4 x5 x6) (kernelRun0_B.sl.v2064 c arg3 harg3 arg4 harg4 arg6 harg6 arg7 harg7 arg8 harg8 arg14 x1 x2 x4 x5 x6) (kernelRun0_B.sl.v2074 c arg3 harg3 arg4 harg4 arg6 harg6 arg7 harg7 arg8 harg8 arg14 x1 x2 x4 x5 x6) (kernelRun0_B.sl.v2084 c arg3 harg3 arg4 harg4 arg6 harg6 arg7 harg7 arg8 harg8 arg14 x1 x2 x4 x5 x6) = _
  rw [st_4, dec_4, upd0_4, upd1_4, upd2_4, upd3_4]
  simp only [rd256_eq _ _ _ (4 : Fin 8) 256 rfl, rd512_eq _ _ _ (4 : Fin 8) 256 rfl, rd128_eq _ _ _ (4 : Fin 8) 256 rfl, rdW_eq, rdB_eq]
  rfl

theorem st_6 : kernelRun0_B.sl.v2280 c arg3 harg3 arg4 harg4 arg6 harg6 arg7 harg7 arg8 harg8 arg11 harg11 arg14 arg15 x1 x2 x4 x5 x6 xs0 = stU x1 x2 x4 x5 x6 xs0 6 := by
  unfold kernelRun0_B.sl.v2280 kernelRun0_B.sl.HS0_24
  refine (readCov_stack _ _ _ _ _ _).trans ?_
  show nextM (kernelRun0_B.sl.v2155 c arg3 harg3 arg4 harg4 arg6 harg6 arg7 harg7 arg8 harg8 arg11 harg11 arg14 arg15 x1 x2 x4 x5 x6 xs0) (kernelRun0_B.sl.v2173 c arg6 harg6 arg7 harg7 arg8 harg8 arg15 x4 x5 x6) (kernelRun0_B.sl.v2179 c arg3 harg3 arg4 harg4 arg6 harg6 arg7 harg7 arg8 harg8 arg14 x1 x2 x4 x5 x6) (kernelRun0_B.sl.v2189 c arg3 harg3 arg4 harg4 arg6 harg6 arg7 harg7 arg8 harg8 arg14 x1 x2 x4 x5 x6) (kernelRun0_B.sl.v2199 c arg3 harg3 arg4 harg4 arg6 harg6 arg7 harg7 arg8 harg8 arg14 x1 x2 x4 x5 x6) (kernelRun0_B.sl.v2209 c arg3 harg3 arg4 harg4 arg6 harg6 arg7 harg7 arg8 harg8 arg14 x1 x2 x4 x5 x6) = _
  rw [st_5, dec_5, upd0_5, upd1_5, upd2_5, upd3_5]
  simp only [rd256_eq _ _ _ (5 : Fin 8) 320 rfl, rd512_eq _ _ _ (5 : Fin 8) 320 rfl, rd128_eq _ _ _ (5 : Fin 8) 320 rfl, rdW_eq, rdB_eq]
  rfl

theorem st_7 : kernelRun0_B.sl.v2405 c arg3 harg3 arg4 harg4 arg6 harg6 arg7 harg7 arg8 harg8 arg11 harg11 arg14 arg15 x1 x2 x4 x5 x6 xs0 = stU x1 x2 x4 x5 x6 xs0 7 := by
  unfold kernelRun0_B.sl.v2405 kernelRun0_B.sl.HS0_28
  refine (readCov_stack _ _ _ _ _ _).trans ?_
  show nextM (kernelRun0_B.sl.v2280 c arg3 harg3 arg4 harg4 arg6 harg6 arg7 harg7 arg8 harg8 arg11 harg11 arg14 arg15 x1 x2 x4 x5 x6 xs0) (kernelRun0_B.sl.v2298 c arg6 harg6 arg7 harg7 arg8 harg8 arg15 x4 x5 x6) (kernelRun0_B.sl.v2304 c arg3 harg3 arg4 harg4 arg6 harg6 arg7 harg7 arg8 harg8 arg14 x1 x2 x4 x5 x6) (kernelRun0_B.sl.v2314 c arg3 harg3 arg4 harg4 arg6 harg6 arg7 harg7 arg8 harg8 arg14 x1 x2 x4 x5 x6) (kernelRun0_B.sl.v2324 c arg3 harg3 arg4 harg4 arg6 harg6 arg7 harg7 arg8 harg8 arg14 x1 x2 x4 x5 x6) (kernelRun0_B.sl.v2334 c arg3 harg3 arg4 harg4 arg6 harg6 arg7 harg7 arg8 harg8 arg14 x1 x2 x4 x5 x6) = _
  rw [st_6, dec_6, upd0_6, upd1_6, upd2_6, upd3_6]
  simp only [rd256_eq _ _ _ (6 : Fin 8) 384 rfl, rd512_eq _ _ _ (6 : Fin 8) 384 rfl, rd128_eq _ _ _ (6 : Fin 8) 384 rfl, rdW_eq, rdB_eq]
  rfl

variable (i : grid0.Coords) (arg10 : Memref sig .tc .vmem S1x512x512 .bf16) (harg10 : arg10.IsWhole) (harg12 : arg12.IsWhole) (harg13 : arg13.IsWhole) (harg14 : arg14.IsWhole) (harg15 : arg15.IsWhole) (hc0 : ¬cond0_0 i)

/-- The state the point leaves. -/
theorem state : sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = stU x1 x2 x4 x5 x6 xs0 8 := by
  unfold sout0_B_0
  rw [View.read_writes_junk_eq_canon]
  unfold kernelRun0_B
  refine (canon_stack _ _ _ _ _).trans ?_
  show nextM (kernelRun0_B.sl.v2405 c arg3 harg3 arg4 harg4 arg6 harg6 arg7 harg7 arg8 harg8 arg11 harg11 arg14 arg15 x1 x2 x4 x5 x6 xs0) (kernelRun0_B.sl.v2423 c arg6 harg6 arg7 harg7 arg8 harg8 arg15 x4 x5 x6) (kernelRun0_B.sl.v2429 c arg3 harg3 arg4 harg4 arg6 harg6 arg7 harg7 arg8 harg8 arg14 x1 x2 x4 x5 x6) (kernelRun0_B.sl.v2439 c arg3 harg3 arg4 harg4 arg6 harg6 arg7 harg7 arg8 harg8 arg14 x1 x2 x4 x5 x6) (kernelRun0_B.sl.v2449 c arg3 harg3 arg4 harg4 arg6 harg6 arg7 harg7 arg8 harg8 arg14 x1 x2 x4 x5 x6) (kernelRun0_B.sl.v2459 c arg3 harg3 arg4 harg4 arg6 harg6 arg7 harg7 arg8 harg8 arg14 x1 x2 x4 x5 x6) = _
  rw [st_7, dec_7, upd0_7, upd1_7, upd2_7, upd3_7]
  simp only [rd256_eq _ _ _ (7 : Fin 8) 448 rfl, rd512_eq _ _ _ (7 : Fin 8) 448 rfl, rd128_eq _ _ _ (7 : Fin 8) 448 rfl, rdW_eq, rdB_eq]
  rfl

/-- The rows the point writes. -/
theorem rows : out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0 = rows8 (outU x0 x1 x2 x3 x4 x5 x6 x7 xs0) := by
  unfold out0_B_8
  rw [View.read_writes_junk_eq_canon]
  unfold kernelRun0_B
  refine (canon_rows8 _ _ _ _ _ _ _ _).trans ?_
  refine congrArg rows8 (funext fun u => ?_)
  fin_cases u
  · show outM (kernelRun0_B.sl.r_112 c arg11 harg11 xs0) (kernelRun0_B.sl.v1545 c arg2 harg2 arg6 harg6 arg7 harg7 arg8 harg8 arg12 x0 x4 x5 x6) (kernelRun0_B.sl.v1590 c arg2 harg2 arg3 harg3 arg4 harg4 arg6 harg6 arg7 harg7 arg8 harg8 arg13 x0 x1 x2 x4 x5 x6) (rdG arg9 harg9 x7) (rd512 arg5 harg5 x3 ![0, 0, 0] inb_S1x512x512_S1x64x512_0_0_0) = _
    rw [st_0, qd_0, intra_0]
    simp only [rd256_eq _ _ _ (0 : Fin 8) 0 rfl, rd512_eq _ _ _ (0 : Fin 8) 0 rfl, rd128_eq _ _ _ (0 : Fin 8) 0 rfl, rdW_eq, rdB_eq, rdG_eq]
    rfl
  · show outM (kernelRun0_B.sl.v1655 c arg3 harg3 arg4 harg4 arg6 harg6 arg7 harg7 arg8 harg8 arg11 harg11 arg14 arg15 x1 x2 x4 x5 x6 xs0) (kernelRun0_B.sl.v1670 c arg2 harg2 arg6 harg6 arg7 harg7 arg8 harg8 arg12 x0 x4 x5 x6) (kernelRun0_B.sl.v1715 c arg2 harg2 arg3 harg3 arg4 harg4 arg6 harg6 arg7 harg7 arg8 harg8 arg13 x0 x1 x2 x4 x5 x6) (rdG arg9 harg9 x7) (rd512 arg5 harg5 x3 ![0, 64, 0] inb_S1x512x512_S1x64x512_0_64_0) = _
    rw [st_1, qd_1, intra_1]
    simp only [rd256_eq _ _ _ (1 : Fin 8) 64 rfl, rd512_eq _ _ _ (1 : Fin 8) 64 rfl, rd128_eq _ _ _ (1 : Fin 8) 64 rfl, rdW_eq, rdB_eq, rdG_eq]
    rfl
  · show outM (kernelRun0_B.sl.v1780 c arg3 harg3 arg4 harg4 arg6 harg6 arg7 harg7 arg8 harg8 arg11 harg11 arg14 arg15 x1 x2 x4 x5 x6 xs0) (kernelRun0_B.sl.v1795 c arg2 harg2 arg6 harg6 arg7 harg7 arg8 harg8 arg12 x0 x4 x5 x6) (kernelRun0_B.sl.v1840 c arg2 harg2 arg3 harg3 arg4 harg4 arg6 harg6 arg7 harg7 arg8 harg8 arg13 x0 x1 x2 x4 x5 x6) (rdG arg9 harg9 x7) (rd512 arg5 harg5 x3 ![0, 128, 0] inb_S1x512x512_S1x64x512_0_128_0) = _
    rw [st_2, qd_2, intra_2]
    simp only [rd256_eq _ _ _ (2 : Fin 8) 128 rfl, rd512_eq _ _ _ (2 : Fin 8) 128 rfl, rd128_eq _ _ _ (2 : Fin 8) 128 rfl, rdW_eq, rdB_eq, rdG_eq]
    rfl
  · show outM (kernelRun0_B.sl.v1905 c arg3 harg3 arg4 harg4 arg6 harg6 arg7 harg7 arg8 harg8 arg11 harg11 arg14 arg15 x1 x2 x4 x5 x6 xs0) (kernelRun0_B.sl.v1920 c arg2 harg2 arg6 harg6 arg7 harg7 arg8 harg8 arg12 x0 x4 x5 x6) (kernelRun0_B.sl.v1965 c arg2 harg2 arg3 harg3 arg4 harg4 arg6 harg6 arg7 harg7 arg8 harg8 arg13 x0 x1 x2 x4 x5 x6) (rdG arg9 harg9 x7) (rd512 arg5 harg5 x3 ![0, 192, 0] inb_S1x512x512_S1x64x512_0_192_0) = _
    rw [st_3, qd_3, intra_3]
    simp only [rd256_eq _ _ _ (3 : Fin 8) 192 rfl, rd512_eq _ _ _ (3 : Fin 8) 192 rfl, rd128_eq _ _ _ (3 : Fin 8) 192 rfl, rdW_eq, rdB_eq, rdG_eq]
    rfl
  · show outM (kernelRun0_B.sl.v2030 c arg3 harg3 arg4 harg4 arg6 harg6 arg7 harg7 arg8 harg8 arg11 harg11 arg14 arg15 x1 x2 x4 x5 x6 xs0) (kernelRun0_B.sl.v2045 c arg2 harg2 arg6 harg6 arg7 harg7 arg8 harg8 arg12 x0 x4 x5 x6) (kernelRun0_B.sl.v2090 c arg2 harg2 arg3 harg3 arg4 harg4 arg6 harg6 arg7 harg7 arg8 harg8 arg13 x0 x1 x2 x4 x5 x6) (rdG arg9 harg9 x7) (rd512 arg5 harg5 x3 ![0, 256, 0] inb_S1x512x512_S1x64x512_0_256_0) = _
    rw [st_4, qd_4, intra_4]
    simp only [rd256_eq _ _ _ (4 : Fin 8) 256 rfl, rd512_eq _ _ _ (4 : Fin 8) 256 rfl, rd128_eq _ _ _ (4 : Fin 8) 256 rfl, rdW_eq, rdB_eq, rdG_eq]
    rfl
  · show outM (kernelRun0_B.sl.v2155 c arg3 harg3 arg4 harg4 arg6 harg6 arg7 harg7 arg8 harg8 arg11 harg11 arg14 arg15 x1 x2 x4 x5 x6 xs0) (kernelRun0_B.sl.v2170 c arg2 harg2 arg6 harg6 arg7 harg7 arg8 harg8 arg12 x0 x4 x5 x6) (kernelRun0_B.sl.v2215 c arg2 harg2 arg3 harg3 arg4 harg4 arg6 harg6 arg7 harg7 arg8 harg8 arg13 x0 x1 x2 x4 x5 x6) (rdG arg9 harg9 x7) (rd512 arg5 harg5 x3 ![0, 320, 0] inb_S1x512x512_S1x64x512_0_320_0) = _
    rw [st_5, qd_5, intra_5]
    simp only [rd256_eq _ _ _ (5 : Fin 8) 320 rfl, rd512_eq _ _ _ (5 : Fin 8) 320 rfl, rd128_eq _ _ _ (5 : Fin 8) 320 rfl, rdW_eq, rdB_eq, rdG_eq]
    rfl
  · show outM (kernelRun0_B.sl.v2280 c arg3 harg3 arg4 harg4 arg6 harg6 arg7 harg7 arg8 harg8 arg11 harg11 arg14 arg15 x1 x2 x4 x5 x6 xs0) (kernelRun0_B.sl.v2295 c arg2 harg2 arg6 harg6 arg7 harg7 arg8 harg8 arg12 x0 x4 x5 x6) (kernelRun0_B.sl.v2340 c arg2 harg2 arg3 harg3 arg4 harg4 arg6 harg6 arg7 harg7 arg8 harg8 arg13 x0 x1 x2 x4 x5 x6) (rdG arg9 harg9 x7) (rd512 arg5 harg5 x3 ![0, 384, 0] inb_S1x512x512_S1x64x512_0_384_0) = _
    rw [st_6, qd_6, intra_6]
    simp only [rd256_eq _ _ _ (6 : Fin 8) 384 rfl, rd512_eq _ _ _ (6 : Fin 8) 384 rfl, rd128_eq _ _ _ (6 : Fin 8) 384 rfl, rdW_eq, rdB_eq, rdG_eq]
    rfl
  · show outM (kernelRun0_B.sl.v2405 c arg3 harg3 arg4 harg4 arg6 harg6 arg7 harg7 arg8 harg8 arg11 harg11 arg14 arg15 x1 x2 x4 x5 x6 xs0) (kernelRun0_B.sl.v2420 c arg2 harg2 arg6 harg6 arg7 harg7 arg8 harg8 arg12 x0 x4 x5 x6) (kernelRun0_B.sl.v2465 c arg2 harg2 arg3 harg3 arg4 harg4 arg6 harg6 arg7 harg7 arg8 harg8 arg13 x0 x1 x2 x4 x5 x6) (rdG arg9 harg9 x7) (rd512 arg5 harg5 x3 ![0, 448, 0] inb_S1x512x512_S1x64x512_0_448_0) = _
    rw [st_7, qd_7, intra_7]
    simp only [rd256_eq _ _ _ (7 : Fin 8) 448 rfl, rd512_eq _ _ _ (7 : Fin 8) 448 rfl, rd128_eq _ _ _ (7 : Fin 8) 448 rfl, rdW_eq, rdB_eq, rdG_eq]
    rfl

end Cert.GlaIdeal.ChainB

end
-- ==== Proof.GlaValue.lean ====
/-
The gated linear attention kernel's array after the run is the reference's result: the carried scratch holds the heads' states at
every point, so every block of rows is the reference's.
-/
module

public import proofs.«01_k».proof.Proof.GlaBlocks
public import proofs.«01_k».proof.Proof.GlaChainA
public import proofs.«01_k».proof.Proof.GlaChainB

@[expose] public section

set_option maxRecDepth 16384

noncomputable section

namespace Cert.GlaIdeal.Array

open Idealize.ShloMosaic Idealize.ShloMosaic.TcCoe Idealize.SL.Sem
open Idealize.ShloMosaic.Pipeline (Dat)
open Cert.GlaIdeal Cert.GlaIdeal.Gen Cert.GlaIdeal.Model Cert.GlaMath
open Cert.GlaRefIdeal.Ref (row qF kF vF xF laF it row_of)

variable (m : (ℓ : Loc nD τ sig) → Buf (Elt Ideal) ℓ)

/-- The heads' states of a batch element before chunk `n`. -/
def heads (c : Dev nD) (b : Fin 8) (n : ℕ) (h : Fin 4) : Fin 64 → Fin 128 → EReal :=
  st (kF (m ((c : Thread nD τ).loc main_arg0)) b h) (laF (m ((c : Thread nD τ).loc main_arg0)) (m ((c : Thread nD τ).loc main_arg1)) (m ((c : Thread nD τ).loc main_arg2)) b h)
    (vF (m ((c : Thread nD τ).loc main_arg0)) b h) n

/-- The zero state is every head's first. -/
theorem holds_zero (c : Dev nD) (b : Fin 8) : Holds (k0_pay2 (F := Ideal)) (heads m c b 0) := by
  intro h e l
  have hz : k0_pay2 (F := Ideal) (ix2 (lv h e) l) = 0 := by
    pointwise [k0_pay2]
  rw [hz]
  have : ∀ d, heads m c b 0 h d e = 0 := fun d => rfl
  rw [this, ite_self]

/-- The state after a point, from the state before it. -/
theorem holds_point (c : Dev nD) (t : Fin cfg0.N) (xs0 : Vec Ideal S512x128 .f32) (hs : Holds xs0 (heads m c (bt t) (8 * (t.val % 8)))) :
    Holds (stU (iblk m c 1 t) (iblk m c 2 t) (iblk m c 4 t) (iblk m c 5 t) (iblk m c 6 t) xs0 8) (heads m c (bt t) (8 * (t.val % 8) + 8)) :=
  holds_stU _ _ _ _ _ _ _ _ _ _ (hk m c t) (hv m c t) (hla m c t) hs 8 le_rfl

/-- What the carried scratch holds after point `n`. -/
theorem scratch (c : Dev nD) : ∀ (n : ℕ) (hn : n < cfg0.N), Holds (outsAt0 m c n hn).2 (heads m c (bt ⟨n, hn⟩) (8 * (n % 8) + 8)) := by
  intro n
  induction n with
  | zero =>
    intro hn
    rw [outsAt0_A m c ⟨0, hn⟩ rfl]
    dsimp only
    rw [ChainA.state]
    exact holds_point m c ⟨0, hn⟩ _ (holds_zero m c _)
  | succ n ih =>
    intro hn
    by_cases h : (n + 1) % 8 = 0
    · rw [outsAt0_A m c ⟨n + 1, hn⟩ h]
      dsimp only
      rw [ChainA.state]
      refine holds_point m c ⟨n + 1, hn⟩ _ ?_
      rw [show 8 * ((⟨n + 1, hn⟩ : Fin cfg0.N).val % 8) = 0 from by rw [h]]
      exact holds_zero m c _
    · rw [outsAt0_B m c ⟨n + 1, hn⟩ h]
      dsimp only
      rw [ChainB.state]
      refine holds_point m c ⟨n + 1, hn⟩ _ ?_
      have e1 : bt ⟨n + 1, hn⟩ = bt ⟨n, Nat.lt_of_succ_lt hn⟩ := Fin.ext (by show (n + 1) / 8 = n / 8; omega)
      have e2 : 8 * ((⟨n + 1, hn⟩ : Fin cfg0.N).val % 8) = 8 * (n % 8) + 8 := by show 8 * ((n + 1) % 8) = _; omega
      rw [e1, e2]
      exact ih (Nat.lt_of_succ_lt hn)

/-- The reference's result. -/
def ref (c : Dev nD) : Vec Ideal S8x4096x512 .f32 :=
  Cert.GlaRefIdeal.Step.R_main_v56 (it (m ((c : Thread nD τ).loc main_arg0)) (m ((c : Thread nD τ).loc main_arg1)) (m ((c : Thread nD τ).loc main_arg2)) 64)
    (m ((c : Thread nD τ).loc main_arg0)) (m ((c : Thread nD τ).loc main_arg3))

/-- The rows of a point's chunk are the reference's. -/
theorem rows_point (c : Dev nD) (t : Fin cfg0.N) (xs0 : Vec Ideal S512x128 .f32) (hs : Holds xs0 (heads m c (bt t) (8 * (t.val % 8))))
    (u : Fin 8) (i : Fin 64) (h : Fin 4) (e : Fin 128) :
    rows8 (outU (iblk m c 0 t) (iblk m c 1 t) (iblk m c 2 t) (iblk m c 3 t) (iblk m c 4 t) (iblk m c 5 t) (iblk m c 6 t) (iblk m c 7 t) xs0)
        (ix3 0 ⟨64 * u.val + i.val, by omega⟩ (lv h e))
      = ref m c (ix3 (bt t) ⟨t.val % 8 * 512 + (64 * u.val + i.val), by omega⟩ (lv h e)) := by
  rw [row_eq t u i]
  refine (rows8_at _ u _ (ix3 0 i (lv h e)) rfl rfl).trans ?_
  refine (outU_at _ _ _ _ _ _ _ _ _ _ _ _ _ _ (hk m c t) (hv m c t) (hla m c t) hs (hq m c t) u h i e).trans ?_
  rw [blk7, hr]
  exact (Cert.GlaRefIdeal.Ref.out_at _ _ _ _ (bt t) ⟨8 * (t.val % 8) + u.val, by omega⟩ i h e).symm

/-- The rows of a point, at any entry. -/
theorem rows_any (c : Dev nD) (t : Fin cfg0.N) (xs0 : Vec Ideal S512x128 .f32) (hs : Holds xs0 (heads m c (bt t) (8 * (t.val % 8)))) (r l : Fin 512) :
    rows8 (outU (iblk m c 0 t) (iblk m c 1 t) (iblk m c 2 t) (iblk m c 3 t) (iblk m c 4 t) (iblk m c 5 t) (iblk m c 6 t) (iblk m c 7 t) xs0) (ix3 0 r l)
      = ref m c (ix3 (bt t) ⟨t.val % 8 * 512 + r.val, by omega⟩ l) := by
  obtain ⟨u, i, hr⟩ : ∃ (u : Fin 8) (i : Fin 64), r = ⟨64 * u.val + i.val, by omega⟩ :=
    ⟨⟨r.val / 64, by omega⟩, ⟨r.val % 64, by omega⟩, Fin.ext (by show r.val = 64 * (r.val / 64) + r.val % 64; omega)⟩
  obtain ⟨h, e, hl⟩ : ∃ (h : Fin 4) (e : Fin 128), l = lv h e :=
    ⟨⟨l.val / 128, by omega⟩, ⟨l.val % 128, by omega⟩, Fin.ext (by show l.val = l.val / 128 * 128 + l.val % 128; omega)⟩
  subst hr hl
  exact rows_point m c t xs0 hs u i h e

set_option maxHeartbeats 1600000 in
/-- The array after the run is the reference's result. -/
theorem final (c : Dev nD) : (dats m 0 c).arrAt 8 (cfgs 0).N = ref m c := by
  refine (dats m 0 c).arrAt_eq_of_covers 8 _ (by decide +kernel) fun t _ y => ?_
  blk_simp
  rw [after0_8]
  have ht := lt64 t
  obtain ⟨z, r, l, rfl⟩ : ∃ (z : Fin 1) (r l : Fin 512), y = ix3 z r l := ⟨y 0, y 1, y 2, eq_ix3 y⟩
  obtain rfl : z = 0 := Subsingleton.elim _ _
  have key : (((View.whole main_v9).slice (win0_8.rect t)).emb (ix3 (0 : Fin 1) r l))
      = ix3 (bt t) (⟨t.val % 8 * 512 + r.val, by omega⟩ : Fin 4096) (l : Fin 512) := by
    unfold bt
    blk_ext [idx t]
  refine Eq.trans ?_ (congrArg (ref m c) key).symm
  by_cases h : t.val % 8 = 0
  · rw [outsAt0_A m c t h]
    dsimp only
    rw [ChainA.rows]
    refine rows_any m c t _ ?_ r l
    rw [h]
    exact holds_zero m c _
  · rw [outsAt0_B m c t h]
    dsimp only
    rw [ChainB.rows]
    refine rows_any m c t _ ?_ r l
    have hlt : t.val - 1 < cfg0.N := Nat.lt_of_le_of_lt (Nat.sub_le _ _) t.isLt
    have e1 : bt t = bt ⟨t.val - 1, hlt⟩ := Fin.ext (by show t.val / 8 = (t.val - 1) / 8; omega)
    have e2 : 8 * (t.val % 8) = 8 * ((t.val - 1) % 8) + 8 := by omega
    rw [e1, e2]
    exact scratch m c (t.val - 1) hlt

end Cert.GlaIdeal.Array

end
-- ==== Proof.GlaRun.lean ====
/-
The reference of the gated linear attention runs: its result is what the operations after the loop make of the state after the 64th
round.
-/
module

public import proofs.«01_k».proof.Proof.GlaLoop
public import proofs.«01_k».proof.Proof.GlaRef

@[expose] public section

set_option maxRecDepth 16384

noncomputable section

namespace Cert.GlaRefIdeal.Ref

open Idealize.ShloMosaic Idealize.ShloMosaic.TcCoe Idealize.SL.Sem
open Cert.GlaRefIdeal Cert.GlaRefIdeal.Gen

/-- The reference's run. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v56)
          = Cert.GlaRefIdeal.Step.R_main_v56 (it (m ((c.tc : Thread nD τ).loc main_arg0)) (m ((c.tc : Thread nD τ).loc main_arg1)) (m ((c.tc : Thread nD τ).loc main_arg2)) 64)
              (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.GlaRefIdeal.LoopRun.run_iter m ρ
    (fun c n => it (m ((c.tc : Thread nD τ).loc main_arg0)) (m ((c.tc : Thread nD τ).loc main_arg1)) (m ((c.tc : Thread nD τ).loc main_arg2)) n)
    (fun _ => rfl) (fun _ _ => rfl)

end Cert.GlaRefIdeal.Ref

end
-- ==== Proof.Algebra.lean ====
module

public import proofs.«01_k».proof.Proof.CrossValue
public import proofs.«01_k».proof.Proof.MlpValue
public import proofs.«01_k».proof.Proof.MlpfValue
public import proofs.«01_k».proof.Proof.MergeValue
public import proofs.«01_k».proof.Proof.ProjValue
public import proofs.«01_k».proof.Proof.MemkvValue
public import proofs.«01_k».proof.Proof.GlaValue
public import proofs.«01_k».proof.Proof.GlaRun
public import proofs.«01_k».proof.Defs
public import Idealize.ShloMosaic.Lib.Claim
public import Idealize.ShloMosaic.Lib.Quiescent

@[expose] public section

set_option maxRecDepth 16384

noncomputable section

/-! The two kinds of claim that need the programs' runs: every kernel agrees with its reference, and every reference keeps its arguments. -/

namespace Cert.Proof

open Idealize.ShloMosaic Idealize.ShloMosaic.TcCoe Idealize.SL.Sem

/-- The cross attention kernel and its reference, run over the ideal numbers from the same arguments, end with the same results. -/
theorem algebraicCross : Cert.algebraic_CrossIdeal_CrossRefIdeal := by
  pair_intro
  · run_from Cert.CrossIdeal.Gen.run_main m g
  · hlo_run
    exact (Cert.CrossIdeal.Array.final m c).symm

/-- The reference of the cross attention runs, keeps its arguments and leaves no semaphore raised. -/
theorem frameCrossRef : Cert.quiescent_CrossRefIdeal := fun m g _ =>
  (θ_run _ _ _).mono (fun r h => ⟨fun c => (h c).2, sem_eq_zero_of_no_sems (by decide) r.2⟩) (Cert.CrossRefIdeal.Value.run m g)

/-- The MLP kernel and its reference, run over the ideal numbers from the same arguments, end with the same results. -/
theorem algebraicMlp : Cert.algebraic_MlpIdeal_MlpRefIdeal := by
  pair_intro
  · run_from Cert.MlpIdeal.Gen.run_main m g
  · run_from Cert.MlpRefIdeal.Value.run m' g'
    exact (Cert.MlpIdeal.Array.final m c).symm

/-- The reference of the MLP runs, keeps its arguments and leaves no semaphore raised. -/
theorem frameMlpRef : Cert.quiescent_MlpRefIdeal := fun m g _ =>
  (θ_run _ _ _).mono (fun r h => ⟨fun c => (h c).2, sem_eq_zero_of_no_sems (by decide) r.2⟩) (Cert.MlpRefIdeal.Value.run m g)

/-- The MLP with the final normalisation kernel and its reference, run over the ideal numbers from the same arguments, end with the same results. -/
theorem algebraicMlpf : Cert.algebraic_MlpfIdeal_MlpfRefIdeal := by
  pair_intro
  · run_from Cert.MlpfIdeal.Gen.run_main m g
  · hlo_run
    exact (Cert.MlpfIdeal.Array.final m c).symm

/-- The reference of the MLP with the final normalisation runs, keeps its arguments and leaves no semaphore raised. -/
theorem frameMlpfRef : Cert.quiescent_MlpfRefIdeal := fun m g _ =>
  (θ_run _ _ _).mono (fun r h => ⟨fun c => (h c).2, sem_eq_zero_of_no_sems (by decide) r.2⟩) (Cert.MlpfRefIdeal.Value.run m g)

/-- The branch merge kernel and its reference, run over the ideal numbers from the same arguments, end with the same results. -/
theorem algebraicMerge : Cert.algebraic_MergeIdeal_MergeRefIdeal := by
  pair_intro
  · run_from Cert.MergeIdeal.Gen.run_main m g
  · run_from Cert.MergeRefIdeal.Value.run m' g'
    rw [Cert.MergeIdeal.Array.final m c, (hagree c).2.2.1, (hagree c).2.2.2.1, (hagree c).2.2.2.2.1]
    rfl

/-- The reference of the branch merge runs, keeps its arguments and leaves no semaphore raised. -/
theorem frameMergeRef : Cert.quiescent_MergeRefIdeal := fun m g _ =>
  (θ_run _ _ _).mono (fun r h => ⟨fun c => (h c).2, sem_eq_zero_of_no_sems (by decide) r.2⟩) (Cert.MergeRefIdeal.Value.run m g)

/-- The input projection kernel and its reference, run over the ideal numbers from the same arguments, end with the same results. -/
theorem algebraicProj : Cert.algebraic_ProjIdeal_ProjRefIdeal := by
  pair_intro
  · run_from Cert.ProjIdeal.Gen.run_main m g
  · run_from Cert.ProjRefIdeal.Value.run m' g'
    rw [Cert.ProjIdeal.Array.final m c, ← (hagree c).1, ← (hagree c).2.1, ← (hagree c).2.2]
    unfold Cert.ProjRefIdeal.Value.res_main_v28
    rfl

/-- The reference of the input projection runs, keeps its arguments and leaves no semaphore raised. -/
theorem frameProjRef : Cert.quiescent_ProjRefIdeal := fun m g _ =>
  (θ_run _ _ _).mono (fun r h => ⟨fun c => (h c).2, sem_eq_zero_of_no_sems (by decide) r.2⟩) (Cert.ProjRefIdeal.Value.run m g)

/-- The memory keys and values kernel and its reference, run over the ideal numbers from the same arguments, end with the same results. -/
theorem algebraicMemkv : Cert.algebraic_MemkvIdeal_MemkvRefIdeal := by
  pair_intro
  · run_from Cert.MemkvIdeal.Gen.run_main m g
  · run_from Cert.MemkvRefIdeal.Value.run m' g'
    · exact (Cert.MemkvIdeal.Array.final_keys m c).symm
    · exact (Cert.MemkvIdeal.Array.final_vals m c).symm

/-- The reference of the memory keys and values runs, keeps its arguments and leaves no semaphore raised. -/
theorem frameMemkvRef : Cert.quiescent_MemkvRefIdeal := fun m g _ =>
  (θ_run _ _ _).mono (fun r h => ⟨fun c => (h c).2.2, sem_eq_zero_of_no_sems (by decide) r.2⟩) (Cert.MemkvRefIdeal.Value.run m g)

/-- The gated linear attention kernel and its reference, run over the ideal numbers from the same arguments, end with the same results. -/
theorem algebraicGla : Cert.algebraic_GlaIdeal_GlaRefIdeal := by
  pair_intro
  · run_from Cert.GlaIdeal.Gen.run_main m g
  · run_from Cert.GlaRefIdeal.Ref.run m' g'
    rw [Cert.GlaIdeal.Array.final m c]
    rfl

/-- The reference of the gated linear attention runs, keeps its arguments and leaves no semaphore raised. -/
theorem frameGlaRef : Cert.quiescent_GlaRefIdeal := fun m g _ =>
  (θ_run _ _ _).mono (fun r h => ⟨fun c => (h c).2, sem_eq_zero_of_no_sems (by decide) r.2⟩) (Cert.GlaRefIdeal.Ref.run m g)

end Cert.Proof
-- ==== Proof.lean ====
module

public import proofs.«01_k».proof.Proof.Algebra
public import proofs.«01_k».proof.Proof.Gen.Cross.Frame
public import proofs.«01_k».proof.Proof.Gen.Mlp.Frame
public import proofs.«01_k».proof.Proof.Gen.Mlpf.Frame
public import proofs.«01_k».proof.Proof.Gen.Merge.Frame
public import proofs.«01_k».proof.Proof.Gen.Proj.Frame
public import proofs.«01_k».proof.Proof.Gen.Memkv.Frame
public import proofs.«01_k».proof.Proof.Gen.Gla.Frame

@[expose] public section

/-- Every claim of the certificate: each kernel and reference runs and keeps its arguments, and each kernel agrees with its reference over the ideal numbers. -/
theorem Cert.Proof.claim : Cert.Claim :=
  ⟨Cert.Cross.Gen.facts, Cert.CrossIdeal.Gen.facts, Cert.CrossRefIdeal.Gen.facts,
    Cert.Mlp.Gen.facts, Cert.MlpIdeal.Gen.facts, Cert.MlpRefIdeal.Gen.facts,
    Cert.Mlpf.Gen.facts, Cert.MlpfIdeal.Gen.facts, Cert.MlpfRefIdeal.Gen.facts,
    Cert.Merge.Gen.facts, Cert.MergeIdeal.Gen.facts, Cert.MergeRefIdeal.Gen.facts,
    Cert.Proj.Gen.facts, Cert.ProjIdeal.Gen.facts, Cert.ProjRefIdeal.Gen.facts,
    Cert.Memkv.Gen.facts, Cert.MemkvIdeal.Gen.facts, Cert.MemkvRefIdeal.Gen.facts,
    Cert.Gla.Gen.facts, Cert.GlaIdeal.Gen.facts, Cert.GlaRefIdeal.Gen.facts,
    fun m ρ _ => Cert.Cross.Gen.frame m ρ, fun m ρ _ => Cert.CrossIdeal.Gen.frame m ρ, Cert.Proof.frameCrossRef,
    fun m ρ _ => Cert.Mlp.Gen.frame m ρ, fun m ρ _ => Cert.MlpIdeal.Gen.frame m ρ, Cert.Proof.frameMlpRef,
    fun m ρ _ => Cert.Mlpf.Gen.frame m ρ, fun m ρ _ => Cert.MlpfIdeal.Gen.frame m ρ, Cert.Proof.frameMlpfRef,
    fun m ρ _ => Cert.Merge.Gen.frame m ρ, fun m ρ _ => Cert.MergeIdeal.Gen.frame m ρ, Cert.Proof.frameMergeRef,
    fun m ρ _ => Cert.Proj.Gen.frame m ρ, fun m ρ _ => Cert.ProjIdeal.Gen.frame m ρ, Cert.Proof.frameProjRef,
    fun m ρ _ => Cert.Memkv.Gen.frame m ρ, fun m ρ _ => Cert.MemkvIdeal.Gen.frame m ρ, Cert.Proof.frameMemkvRef,
    fun m ρ _ => Cert.Gla.Gen.frame m ρ, fun m ρ _ => Cert.GlaIdeal.Gen.frame m ρ, Cert.Proof.frameGlaRef,
    trivial, Cert.Proof.algebraicCross,
    trivial, Cert.Proof.algebraicMlp,
    trivial, Cert.Proof.algebraicMlpf,
    trivial, Cert.Proof.algebraicMerge,
    trivial, Cert.Proof.algebraicProj,
    trivial, Cert.Proof.algebraicMemkv,
    trivial, Cert.Proof.algebraicGla⟩
